-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "s" .f32 0x3DB504F3#32 (((Real.sqrt 128)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v37) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v25) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)) →
    ∃ (v0 : (c : Dev Cert.Kernel17Ideal.nD) → Buf (Elt Ideal) ((c.tc : Thread Cert.Kernel17Ideal.nD Cert.Kernel17Ideal.τ).loc Cert.Kernel17Ideal.main_v29_0)) (v1 : (c : Dev Cert.Kernel17Ideal.nD) → Buf (Elt Ideal) ((c.tc : Thread Cert.Kernel17Ideal.nD Cert.Kernel17Ideal.τ).loc Cert.Kernel17Ideal.main_v29_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v29_0) = v0 c
          ∧ r.2.mem ((c.tc : Thread Cert.Kernel17Ideal.nD Cert.Kernel17Ideal.τ).loc Cert.Kernel17Ideal.main_v29_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v63) = v0 c
          ∧ r.2.mem ((c.tc : Thread Cert.Reference17Ideal.nD Cert.Reference17Ideal.τ).loc Cert.Reference17Ideal.main_v65) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Kernel.lean ====
abbrev S8256x2048 : Shape := ⟨2, ![8256, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S688x2048 : Shape := ⟨2, ![688, 2048]⟩
abbrev S1x2048x512 : Shape := ⟨3, ![1, 2048, 512]⟩
abbrev S1x512x2048 : Shape := ⟨3, ![1, 512, 2048]⟩
abbrev S688 : Shape := ⟨1, ![688]⟩
abbrev S688x1 : Shape := ⟨2, ![688, 1]⟩
abbrev S2048x512 : Shape := ⟨2, ![2048, 512]⟩
abbrev S688x512 : Shape := ⟨2, ![688, 512]⟩
abbrev S512x2048 : Shape := ⟨2, ![512, 2048]⟩

abbrev nBuf : Space → Nat
  | .hbm => 17
  | .vmem => 15
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048, .f32⟩
  | .hbm, ⟨6, _⟩ => ⟨S1x2048, .f32⟩
  | .hbm, ⟨7, _⟩ => ⟨S2048, .f32⟩
  | .hbm, ⟨8, _⟩ => ⟨S4x2048x5632, .bf16⟩
  | .hbm, ⟨9, _⟩ => ⟨S4x2048x5632, .bf16⟩
  | .hbm, ⟨10, _⟩ => ⟨S4x5632x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S8256x2048, .f32⟩
  | .hbm, ⟨16, _⟩ => ⟨S8256x2048, .bf16⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S688x2048, .f32⟩
  | .local _ .vmem, ⟨11, _⟩ => ⟨S688x2048, .f32⟩
  | .local _ .vmem, ⟨12, _⟩ => ⟨S688x2048, .bf16⟩
  | .local _ .vmem, ⟨13, _⟩ => ⟨S688x2048, .bf16⟩
  | .local _ .vmem, ⟨14, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c0_i32_13 : BitVec 32 := 0#32
  let v17 : BitVec 1 := Scalar.cmpi .eq arg1 c0_i32_13
  let v18 : BitVec 32 := Scalar.extui v17
  let c0_i32_14 : BitVec 32 := 0#32
  let v19 : BitVec 1 := Scalar.cmpi .ne v18 c0_i32_14
  v19

def k0_cond3 (i : grid0.Coords) : BitVec 1 :=
  let arg1 : BitVec 32 := BitVec.ofNat 32 (i 1).val
  let c0_i32_15 : BitVec 32 := 0#32
  let v20 : BitVec 1 := Scalar.cmpi .sgt arg1 c0_i32_15
  let v21 : BitVec 32 := Scalar.extui v20
  let c0_i32_16 : BitVec 32 := 0#32
  let v22 : BitVec 1 := Scalar.cmpi .ne v21 c0_i32_16
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S688x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S688x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8256x2048 : Shape := ⟨2, ![8256, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048x5632 : Shape := ⟨3, ![1, 2048, 5632]⟩
abbrev S2048x5632 : Shape := ⟨2, ![2048, 5632]⟩
abbrev S8256x5632 : Shape := ⟨2, ![8256, 5632]⟩
abbrev S1x5632x2048 : Shape := ⟨3, ![1, 5632, 2048]⟩
abbrev S5632x2048 : Shape := ⟨2, ![5632, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048, .f32⟩
  | .hbm, ⟨6, _⟩ => ⟨S1x2048, .f32⟩
  | .hbm, ⟨7, _⟩ => ⟨S2048, .f32⟩
  | .hbm, ⟨8, _⟩ => ⟨S8256x2048, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x2048, .f32⟩
  | .hbm, ⟨20, _⟩ => ⟨S8256x2048, .f32⟩
  | .hbm, ⟨21, _⟩ => ⟨S1x2048, .f32⟩
  | .hbm, ⟨22, _⟩ => ⟨S8256x2048, .f32⟩
  | .hbm, ⟨23, _⟩ => ⟨S8256x2048, .f32⟩
  | .hbm, ⟨24, _⟩ => ⟨S1x2048x5632, .f32⟩
  | .hbm, ⟨25, _⟩ => ⟨S2048x5632, .f32⟩
  | .hbm, ⟨26, _⟩ => ⟨S8256x5632, .f32⟩
  | .hbm, ⟨27, _⟩ => ⟨S8256x5632, .f32⟩
  | .hbm, ⟨28, _⟩ => ⟨S8256x5632, .f32⟩
  | .hbm, ⟨29, _⟩ => ⟨S_, .f32⟩
  | .hbm, ⟨30, _⟩ => ⟨S8256x5632, .f32⟩
  | .hbm, ⟨31, _⟩ => ⟨S8256x5632, .f32⟩
  | .hbm, ⟨32, _⟩ => ⟨S_, .f32⟩
  | .hbm, ⟨33, _⟩ => ⟨S8256x5632, .f32⟩
  | .hbm, ⟨34, _⟩ => ⟨S8256x5632, .f32⟩
  | .hbm, ⟨35, _⟩ => ⟨S8256x5632, .f32⟩
  | .hbm, ⟨36, _⟩ => ⟨S1x2048x5632, .f32⟩
  | .hbm, ⟨37, _⟩ => ⟨S2048x5632, .f32⟩
  | .hbm, ⟨38, _⟩ => ⟨S8256x5632, .f32⟩
  | .hbm, ⟨39, _⟩ => ⟨S8256x5632, .f32⟩
  | .hbm, ⟨40, _⟩ => ⟨S1x5632x2048, .f32⟩
  | .hbm, ⟨41, _⟩ => ⟨S5632x2048, .f32⟩
  | .hbm, ⟨42, _⟩ => ⟨S8256x2048, .f32⟩
  | .hbm, ⟨43, _⟩ => ⟨S_, .f32⟩
  | .hbm, ⟨44, _⟩ => ⟨S8256x2048, .f32⟩
  | .hbm, ⟨45, _⟩ => ⟨S8256x2048, .f32⟩
  | .hbm, ⟨46, _⟩ => ⟨S8256x2048, .f32⟩
  | .hbm, ⟨47, _⟩ => ⟨S1x2048, .f32⟩
  | .hbm, ⟨48, _⟩ => ⟨S2048, .f32⟩
  | .hbm, ⟨49, _⟩ => ⟨S8256x2048, .f32⟩
  | .hbm, ⟨50, _⟩ => ⟨S_, .f32⟩
  | .hbm, ⟨51, _⟩ => ⟨S8256, .f32⟩
  | .hbm, ⟨52, _⟩ => ⟨S8256x1, .f32⟩
  | .hbm, ⟨53, _⟩ => ⟨S_, .f32⟩
  | .hbm, ⟨54, _⟩ => ⟨S8256x1, .f32⟩
  | .hbm, ⟨55, _⟩ => ⟨S8256x1, .f32⟩
  | .hbm, ⟨56, _⟩ => ⟨S_, .f32⟩
  | .hbm, ⟨57, _⟩ => ⟨S8256x1, .f32⟩
  | .hbm, ⟨58, _⟩ => ⟨S8256x1, .f32⟩
  | .hbm, ⟨59, _⟩ => ⟨S8256x1, .f32⟩
  | .hbm, ⟨60, _⟩ => ⟨S8256x2048, .f32⟩
  | .hbm, ⟨61, _⟩ => ⟨S8256x2048, .f32⟩
  | .hbm, ⟨62, _⟩ => ⟨S1x2048, .f32⟩
  | .hbm, ⟨63, _⟩ => ⟨S8256x2048, .f32⟩
  | .hbm, ⟨64, _⟩ => ⟨S8256x2048, .f32⟩
  | .hbm, ⟨65, _⟩ => ⟨S8256x2048, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel2.lean ====
abbrev S8256x2048 : Shape := ⟨2, ![8256, 2048]⟩
abbrev S4x512x512 : Shape := ⟨3, ![4, 512, 512]⟩
abbrev S4x2048 : Shape := ⟨2, ![4, 2048]⟩
abbrev S4x2048x512 : Shape := ⟨3, ![4, 2048, 512]⟩
abbrev S4x128 : Shape := ⟨2, ![4, 128]⟩
abbrev S4x512x2048 : Shape := ⟨3, ![4, 512, 2048]⟩
abbrev S1x2048 : Shape := ⟨2, ![1, 2048]⟩
abbrev S2048 : Shape := ⟨1, ![2048]⟩
abbrev S1x128 : Shape := ⟨2, ![1, 128]⟩
abbrev S128 : Shape := ⟨1, ![128]⟩
abbrev S512x2048 : Shape := ⟨2, ![512, 2048]⟩
abbrev S1x2048x512 : Shape := ⟨3, ![1, 2048, 512]⟩
abbrev S1x256x512 : Shape := ⟨3, ![1, 256, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 16
  | .vmem => 12
  | .smem => 0
  | _ => 0

abbrev bufTy : (tb : Table) → Fin (tcTables nBuf tb) → BufTy
  | .hbm, ⟨0, _⟩ => ⟨S8256x2048, .f32⟩
  | .hbm, ⟨1, _⟩ => ⟨S4x512x512, .f32⟩
  | .hbm, ⟨2, _⟩ => ⟨S4x512x512, .f32⟩
  | .hbm, ⟨3, _⟩ => ⟨S4x2048, .f32⟩
  | .hbm, ⟨4, _⟩ => ⟨S4x2048x512, .f32⟩
  | .hbm, ⟨5, _⟩ => ⟨S4x128, .f32⟩
  | .hbm, ⟨6, _⟩ => ⟨S4x512x2048, .f32⟩
  | .hbm, ⟨7, _⟩ => ⟨S1x2048, .f32⟩
  | .hbm, ⟨8, _⟩ => ⟨S2048, .f32⟩
  | .hbm, ⟨9, _⟩ => ⟨S4x2048x512, .bf16⟩
  | .hbm, ⟨10, _⟩ => ⟨S1x128, .f32⟩
  | .hbm, ⟨11, _⟩ => ⟨S128, .f32⟩
  | .hbm, ⟨12, _⟩ => ⟨S4x512x2048, .bf16⟩
  | .hbm, ⟨13, _⟩ => ⟨S1x2048, .f32⟩
  | .hbm, ⟨14, _⟩ => ⟨S1x128, .f32⟩
  | .hbm, ⟨15, _⟩ => ⟨S8256x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x128, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "s" => some (((Real.sqrt 128)⁻¹ : ℝ) : EReal)
  | _ => none
-- ==== Reference2Ideal.lean ====
abbrev S8256x2048 : Shape := ⟨2, ![8256, 2048]⟩
abbrev S4x512x512 : Shape := ⟨3, ![4, 512, 512]⟩
abbrev S4x2048 : Shape := ⟨2, ![4, 2048]⟩
abbrev S4x2048x512 : Shape := ⟨3, ![4, 2048, 512]⟩
abbrev S4x128 : Shape := ⟨2, ![4, 128]⟩
abbrev S4x512x2048 : Shape := ⟨3, ![4, 512, 2048]⟩
abbrev S8192x2048 : Shape := ⟨2, ![8192, 2048]⟩
abbrev S2x4096x2048 : Shape := ⟨3, ![2, 4096, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x512 : Shape := ⟨3, ![1, 2048, 512]⟩
abbrev S2048x512 : Shape := ⟨2, ![2048, 512]⟩
abbrev S2x4096x512 : Shape := ⟨3, ![2, 4096, 512]⟩
abbrev S2x4096x4x128 : Shape := ⟨4, ![2, 4096, 4, 128]⟩
abbrev S1x128 : Shape := ⟨2, ![1, 128]⟩
abbrev S128 : Shape := ⟨1, ![128]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S1x512x512 : Shape := ⟨3, ![1, 512, 512]⟩
abbrev S512x512 : Shape := ⟨2, ![512, 512]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S1x512x2048 : Shape := ⟨3, ![1, 512, 2048]⟩
abbrev S512x2048 : Shape := ⟨2, ![512, 2048]⟩
abbrev S64x2048 : Shape := ⟨2, ![64, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x512x512, .f32⟩
  | .hbm, ⟨2, _⟩ => ⟨S4x512x512, .f32⟩
  | .hbm, ⟨3, _⟩ => ⟨S4x2048, .f32⟩
  | .hbm, ⟨4, _⟩ => ⟨S4x2048x512, .f32⟩
  | .hbm, ⟨5, _⟩ => ⟨S4x128, .f32⟩
  | .hbm, ⟨6, _⟩ => ⟨S4x512x2048, .f32⟩
  | .hbm, ⟨7, _⟩ => ⟨S8192x2048, .f32⟩
  | .hbm, ⟨8, _⟩ => ⟨S2x4096x2048, .f32⟩
  | .hbm, ⟨9, _⟩ => ⟨S1x2048, .f32⟩
  | .hbm, ⟨10, _⟩ => ⟨S2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S1x2048x512, .f32⟩
  | .hbm, ⟨28, _⟩ => ⟨S2048x512, .f32⟩
  | .hbm, ⟨29, _⟩ => ⟨S2x4096x512, .f32⟩
  | .hbm, ⟨30, _⟩ => ⟨S2x4096x4x128, .f32⟩
  | .hbm, ⟨31, _⟩ => ⟨S1x128, .f32⟩
  | .hbm, ⟨32, _⟩ => ⟨S128, .f32⟩
  | .hbm, ⟨33, _⟩ => ⟨S2x4096x4x128, .f32⟩
  | .hbm, ⟨34, _⟩ => ⟨S_, .f32⟩
  | .hbm, ⟨35, _⟩ => ⟨S2x4096x4, .f32⟩
  | .hbm, ⟨36, _⟩ => ⟨S2x4096x4x1, .f32⟩
  | .hbm, ⟨37, _⟩ => ⟨S_, .f32⟩
  | .hbm, ⟨38, _⟩ => ⟨S2x4096x4x1, .f32⟩
  | .hbm, ⟨39, _⟩ => ⟨S2x4096x4x1, .f32⟩
  | .hbm, ⟨40, _⟩ => ⟨S_, .f32⟩
  | .hbm, ⟨41, _⟩ => ⟨S2x4096x4x1, .f32⟩
  | .hbm, ⟨42, _⟩ => ⟨S2x4096x4x1, .f32⟩
  | .hbm, ⟨43, _⟩ => ⟨S2x4096x4x1, .f32⟩
  | .hbm, ⟨44, _⟩ => ⟨S2x4096x4x128, .f32⟩
  | .hbm, ⟨45, _⟩ => ⟨S2x4096x4x128, .f32⟩
  | .hbm, ⟨46, _⟩ => ⟨S1x1x1x128, .f32⟩
  | .hbm, ⟨47, _⟩ => ⟨S2x4096x4x128, .f32⟩
  | .hbm, ⟨48, _⟩ => ⟨S2x4096x4x128, .f32⟩
  | .hbm, ⟨49, _⟩ => ⟨S1x512x512, .f32⟩
  | .hbm, ⟨50, _⟩ => ⟨S512x512, .f32⟩
  | .hbm, ⟨51, _⟩ => ⟨S2x256x4x128, .f32⟩
  | .hbm, ⟨52, _⟩ => ⟨S1x512x512, .f32⟩
  | .hbm, ⟨53, _⟩ => ⟨S512x512, .f32⟩
  | .hbm, ⟨54, _⟩ => ⟨S2x256x4x128, .f32⟩
  | .hbm, ⟨55, _⟩ => ⟨S2x4x4096x256, .f32⟩
  | .hbm, ⟨56, _⟩ => ⟨S_, .f32⟩
  | .hbm, ⟨57, _⟩ => ⟨S_, .f32⟩
  | .hbm, ⟨58, _⟩ => ⟨S2x4x4096x256, .f32⟩
  | .hbm, ⟨59, _⟩ => ⟨S2x4x4096x256, .f32⟩
  | .hbm, ⟨60, _⟩ => ⟨S_, .f32⟩
  | .hbm, ⟨61, _⟩ => ⟨S2x4x4096, .f32⟩
  | .hbm, ⟨62, _⟩ => ⟨S_, .f32⟩
  | .hbm, ⟨63, _⟩ => ⟨S2x4x4096, .f32⟩
  | .hbm, ⟨64, _⟩ => ⟨S2x4x4096, .f32⟩
  | .hbm, ⟨65, _⟩ => ⟨S2x4x4096x1, .f32⟩
  | .hbm, ⟨66, _⟩ => ⟨S2x4x4096x256, .f32⟩
  | .hbm, ⟨67, _⟩ => ⟨S2x4x4096x256, .f32⟩
  | .hbm, ⟨68, _⟩ => ⟨S2x4x4096x256, .f32⟩
  | .hbm, ⟨69, _⟩ => ⟨S_, .f32⟩
  | .hbm, ⟨70, _⟩ => ⟨S2x4x4096, .f32⟩
  | .hbm, ⟨71, _⟩ => ⟨S2x4x4096x1, .f32⟩
  | .hbm, ⟨72, _⟩ => ⟨S2x4x4096x256, .f32⟩
  | .hbm, ⟨73, _⟩ => ⟨S2x4x4096x256, .f32⟩
  | .hbm, ⟨74, _⟩ => ⟨S2x4x128x4096, .f32⟩
  | .hbm, ⟨75, _⟩ => ⟨S2x4096x4x128, .f32⟩
  | .hbm, ⟨76, _⟩ => ⟨S2x4096x512, .f32⟩
  | .hbm, ⟨77, _⟩ => ⟨S1x512x2048, .f32⟩
  | .hbm, ⟨78, _⟩ => ⟨S512x2048, .f32⟩
  | .hbm, ⟨79, _⟩ => ⟨S2x4096x2048, .f32⟩
  | .hbm, ⟨80, _⟩ => ⟨S2x4096x2048, .f32⟩
  | .hbm, ⟨81, _⟩ => ⟨S8192x2048, .f32⟩
  | .hbm, ⟨82, _⟩ => ⟨S64x2048, .f32⟩
  | .hbm, ⟨83, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Kernel3.lean ====
abbrev S8256x2048 : Shape := ⟨2, ![8256, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S688x2048 : Shape := ⟨2, ![688, 2048]⟩
abbrev S1x2048x512 : Shape := ⟨3, ![1, 2048, 512]⟩
abbrev S1x512x2048 : Shape := ⟨3, ![1, 512, 2048]⟩
abbrev S688 : Shape := ⟨1, ![688]⟩
abbrev S688x1 : Shape := ⟨2, ![688, 1]⟩
abbrev S2048x512 : Shape := ⟨2, ![2048, 512]⟩
abbrev S688x512 : Shape := ⟨2, ![688, 512]⟩
abbrev S512x2048 : Shape := ⟨2, ![512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S4x2048x5632, .bf16⟩
  | .hbm, ⟨8, _⟩ => ⟨S4x2048x5632, .bf16⟩
  | .hbm, ⟨9, _⟩ => ⟨S4x5632x2048, .bf16⟩
  | .hbm, ⟨10, _⟩ => ⟨S1x2048, .f32⟩
  | .hbm, ⟨11, _⟩ => ⟨S8256x2048, .f32⟩
  | .local _ .vmem, ⟨0, _⟩ => ⟨S688x2048, .f32⟩
  | .local _ .vmem, ⟨1, _⟩ => ⟨S688x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S688x2048, .f32⟩
  | .local _ .vmem, ⟨10, _⟩ => ⟨S688x2048, .f32⟩
  | .local _ .vmem, ⟨11, _⟩ => ⟨S688x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c0_i32_13 : BitVec 32 := 0#32
  let v17 : BitVec 1 := Scalar.cmpi .eq arg1 c0_i32_13
  let v18 : BitVec 32 := Scalar.extui v17
  let c0_i32_14 : BitVec 32 := 0#32
  let v19 : BitVec 1 := Scalar.cmpi .ne v18 c0_i32_14
  v19

def k0_cond3 (i : grid0.Coords) : BitVec 1 :=
  let arg1 : BitVec 32 := BitVec.ofNat 32 (i 1).val
  let c0_i32_15 : BitVec 32 := 0#32
  let v20 : BitVec 1 := Scalar.cmpi .sgt arg1 c0_i32_15
  let v21 : BitVec 32 := Scalar.extui v20
  let c0_i32_16 : BitVec 32 := 0#32
  let v22 : BitVec 1 := Scalar.cmpi .ne v21 c0_i32_16
  v22

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S688x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S688x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8256x2048 : Shape := ⟨2, ![8256, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8256 : Shape := ⟨1, ![8256]⟩
abbrev S8256x1 : Shape := ⟨2, ![8256, 1]⟩
abbrev S1x2048x5632 : Shape := ⟨3, ![1, 2048, 5632]⟩
abbrev S2048x5632 : Shape := ⟨2, ![2048, 5632]⟩
abbrev S8256x5632 : Shape := ⟨2, ![8256, 5632]⟩
abbrev S1x5632x2048 : Shape := ⟨3, ![1, 5632, 2048]⟩
abbrev S5632x2048 : Shape := ⟨2, ![5632, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S8256x2048, .f32⟩
  | .hbm, ⟨8, _⟩ => ⟨S_, .f32⟩
  | .hbm, ⟨9, _⟩ => ⟨S8256, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S_, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S8256x2048, .f32⟩
  | .hbm, ⟨19, _⟩ => ⟨S8256x2048, .f32⟩
  | .hbm, ⟨20, _⟩ => ⟨S1x2048, .f32⟩
  | .hbm, ⟨21, _⟩ => ⟨S8256x2048, .f32⟩
  | .hbm, ⟨22, _⟩ => ⟨S8256x2048, .f32⟩
  | .hbm, ⟨23, _⟩ => ⟨S1x2048x5632, .f32⟩
  | .hbm, ⟨24, _⟩ => ⟨S2048x5632, .f32⟩
  | .hbm, ⟨25, _⟩ => ⟨S8256x5632, .f32⟩
  | .hbm, ⟨26, _⟩ => ⟨S8256x5632, .f32⟩
  | .hbm, ⟨27, _⟩ => ⟨S8256x5632, .f32⟩
  | .hbm, ⟨28, _⟩ => ⟨S_, .f32⟩
  | .hbm, ⟨29, _⟩ => ⟨S8256x5632, .f32⟩
  | .hbm, ⟨30, _⟩ => ⟨S8256x5632, .f32⟩
  | .hbm, ⟨31, _⟩ => ⟨S_, .f32⟩
  | .hbm, ⟨32, _⟩ => ⟨S8256x5632, .f32⟩
  | .hbm, ⟨33, _⟩ => ⟨S8256x5632, .f32⟩
  | .hbm, ⟨34, _⟩ => ⟨S8256x5632, .f32⟩
  | .hbm, ⟨35, _⟩ => ⟨S1x2048x5632, .f32⟩
  | .hbm, ⟨36, _⟩ => ⟨S2048x5632, .f32⟩
  | .hbm, ⟨37, _⟩ => ⟨S8256x5632, .f32⟩
  | .hbm, ⟨38, _⟩ => ⟨S8256x5632, .f32⟩
  | .hbm, ⟨39, _⟩ => ⟨S1x5632x2048, .f32⟩
  | .hbm, ⟨40, _⟩ => ⟨S5632x2048, .f32⟩
  | .hbm, ⟨41, _⟩ => ⟨S8256x2048, .f32⟩
  | .hbm, ⟨42, _⟩ => ⟨S_, .f32⟩
  | .hbm, ⟨43, _⟩ => ⟨S8256x2048, .f32⟩
  | .hbm, ⟨44, _⟩ => ⟨S8256x2048, .f32⟩
  | .hbm, ⟨45, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel4.lean ====
abbrev S4x8192x1024 : Shape := ⟨3, ![4, 8192, 1024]⟩
abbrev S8256x2048 : Shape := ⟨2, ![8256, 2048]⟩
abbrev S4x2048x8200 : Shape := ⟨3, ![4, 2048, 8200]⟩
abbrev S4x128 : Shape := ⟨2, ![4, 128]⟩
abbrev S4x2048x3072 : Shape := ⟨3, ![4, 2048, 3072]⟩
abbrev S1x128 : Shape := ⟨2, ![1, 128]⟩
abbrev S128 : Shape := ⟨1, ![128]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8256x2048, .bf16⟩
  | .hbm, ⟨2, _⟩ => ⟨S4x2048x8200, .f32⟩
  | .hbm, ⟨3, _⟩ => ⟨S4x128, .f32⟩
  | .hbm, ⟨4, _⟩ => ⟨S4x2048x3072, .f32⟩
  | .hbm, ⟨5, _⟩ => ⟨S4x2048x3072, .bf16⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S4x8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x128, .f32⟩
  | .local _ .vmem, ⟨4, _⟩ => ⟨S1x1024x1024, .f32⟩
  | .local _ .vmem, ⟨5, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c1_i32_0 : BitVec 32 := 1#32
  let c0_i32 : BitVec 32 := 0#32
  let c0_i32_1 : BitVec 32 := 0#32
  ![c1_i32_0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x8192x1024 : Shape := ⟨3, ![4, 8192, 1024]⟩
abbrev S8256x2048 : Shape := ⟨2, ![8256, 2048]⟩
abbrev S4x2048x8200 : Shape := ⟨3, ![4, 2048, 8200]⟩
abbrev S4x128 : Shape := ⟨2, ![4, 128]⟩
abbrev S8192x2048 : Shape := ⟨2, ![8192, 2048]⟩
abbrev S1x2048x8200 : Shape := ⟨3, ![1, 2048, 8200]⟩
abbrev S2048x8200 : Shape := ⟨2, ![2048, 8200]⟩
abbrev S2048x1024 : Shape := ⟨2, ![2048, 1024]⟩
abbrev S8192x1024 : Shape := ⟨2, ![8192, 1024]⟩
abbrev S2x4096x8x128 : Shape := ⟨4, ![2, 4096, 8, 128]⟩
abbrev S1x128 : Shape := ⟨2, ![1, 128]⟩
abbrev S128 : Shape := ⟨1, ![128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S1x8192x1024 : Shape := ⟨3, ![1, 8192, 1024]⟩
abbrev S2x8192x1024 : Shape := ⟨3, ![2, 8192, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8256x2048, .bf16⟩
  | .hbm, ⟨2, _⟩ => ⟨S4x2048x8200, .f32⟩
  | .hbm, ⟨3, _⟩ => ⟨S4x128, .f32⟩
  | .hbm, ⟨4, _⟩ => ⟨S8192x2048, .bf16⟩
  | .hbm, ⟨5, _⟩ => ⟨S8192x2048, .f32⟩
  | .hbm, ⟨6, _⟩ => ⟨S1x2048x8200, .f32⟩
  | .hbm, ⟨7, _⟩ => ⟨S2048x8200, .f32⟩
  | .hbm, ⟨8, _⟩ => ⟨S2048x1024, .f32⟩
  | .hbm, ⟨9, _⟩ => ⟨S8192x1024, .f32⟩
  | .hbm, ⟨10, _⟩ => ⟨S2x4096x8x128, .f32⟩
  | .hbm, ⟨11, _⟩ => ⟨S1x128, .f32⟩
  | .hbm, ⟨12, _⟩ => ⟨S128, .f32⟩
  | .hbm, ⟨13, _⟩ => ⟨S2x4096x8x128, .f32⟩
  | .hbm, ⟨14, _⟩ => ⟨S_, .f32⟩
  | .hbm, ⟨15, _⟩ => ⟨S2x4096x8, .f32⟩
  | .hbm, ⟨16, _⟩ => ⟨S2x4096x8x1, .f32⟩
  | .hbm, ⟨17, _⟩ => ⟨S_, .f32⟩
  | .hbm, ⟨18, _⟩ => ⟨S2x4096x8x1, .f32⟩
  | .hbm, ⟨19, _⟩ => ⟨S2x4096x8x1, .f32⟩
  | .hbm, ⟨20, _⟩ => ⟨S_, .f32⟩
  | .hbm, ⟨21, _⟩ => ⟨S2x4096x8x1, .f32⟩
  | .hbm, ⟨22, _⟩ => ⟨S2x4096x8x1, .f32⟩
  | .hbm, ⟨23, _⟩ => ⟨S2x4096x8x1, .f32⟩
  | .hbm, ⟨24, _⟩ => ⟨S2x4096x8x128, .f32⟩
  | .hbm, ⟨25, _⟩ => ⟨S2x4096x8x128, .f32⟩
  | .hbm, ⟨26, _⟩ => ⟨S1x1x1x128, .f32⟩
  | .hbm, ⟨27, _⟩ => ⟨S2x4096x8x128, .f32⟩
  | .hbm, ⟨28, _⟩ => ⟨S2x4096x8x128, .f32⟩
  | .hbm, ⟨29, _⟩ => ⟨S1x8192x1024, .f32⟩
  | .hbm, ⟨30, _⟩ => ⟨S1x8192x1024, .f32⟩
  | .hbm, ⟨31, _⟩ => ⟨S2x8192x1024, .f32⟩
  | .hbm, ⟨32, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel5.lean ====
abbrev S4x8192x1024 : Shape := ⟨3, ![4, 8192, 1024]⟩
abbrev S8256x2048 : Shape := ⟨2, ![8256, 2048]⟩
abbrev S4x2048x8200 : Shape := ⟨3, ![4, 2048, 8200]⟩
abbrev S4x2048x3072 : Shape := ⟨3, ![4, 2048, 3072]⟩
abbrev S_ : Shape := ⟨0, ![]⟩
abbrev S1x128 : Shape := ⟨2, ![1, 128]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S8256x2048, .bf16⟩
  | .hbm, ⟨2, _⟩ => ⟨S4x2048x8200, .f32⟩
  | .hbm, ⟨3, _⟩ => ⟨S4x2048x3072, .f32⟩
  | .hbm, ⟨4, _⟩ => ⟨S4x2048x3072, .bf16⟩
  | .hbm, ⟨5, _⟩ => ⟨S_, .f32⟩
  | .hbm, ⟨6, _⟩ => ⟨S1x128, .f32⟩
  | .hbm, ⟨7, _⟩ => ⟨S4x8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x128, .f32⟩
  | .local _ .vmem, ⟨4, _⟩ => ⟨S1x1024x1024, .f32⟩
  | .local _ .vmem, ⟨5, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x8192x1024 : Shape := ⟨3, ![4, 8192, 1024]⟩
abbrev S8256x2048 : Shape := ⟨2, ![8256, 2048]⟩
abbrev S4x2048x8200 : Shape := ⟨3, ![4, 2048, 8200]⟩
abbrev S8192x2048 : Shape := ⟨2, ![8192, 2048]⟩
abbrev S1x2048x8200 : Shape := ⟨3, ![1, 2048, 8200]⟩
abbrev S2048x8200 : Shape := ⟨2, ![2048, 8200]⟩
abbrev S2048x1024 : Shape := ⟨2, ![2048, 1024]⟩
abbrev S8192x1024 : Shape := ⟨2, ![8192, 1024]⟩
abbrev S1x8192x1024 : Shape := ⟨3, ![1, 8192, 1024]⟩
abbrev S2x8192x1024 : Shape := ⟨3, ![2, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8256x2048, .bf16⟩
  | .hbm, ⟨2, _⟩ => ⟨S4x2048x8200, .f32⟩
  | .hbm, ⟨3, _⟩ => ⟨S8192x2048, .bf16⟩
  | .hbm, ⟨4, _⟩ => ⟨S8192x2048, .f32⟩
  | .hbm, ⟨5, _⟩ => ⟨S1x2048x8200, .f32⟩
  | .hbm, ⟨6, _⟩ => ⟨S2048x8200, .f32⟩
  | .hbm, ⟨7, _⟩ => ⟨S2048x1024, .f32⟩
  | .hbm, ⟨8, _⟩ => ⟨S8192x1024, .f32⟩
  | .hbm, ⟨9, _⟩ => ⟨S1x8192x1024, .f32⟩
  | .hbm, ⟨10, _⟩ => ⟨S1x8192x1024, .f32⟩
  | .hbm, ⟨11, _⟩ => ⟨S2x8192x1024, .f32⟩
  | .hbm, ⟨12, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8256x2048 : Shape := ⟨2, ![8256, 2048]⟩
abbrev S4x2048x8200 : Shape := ⟨3, ![4, 2048, 8200]⟩
abbrev S4x2048x5120 : Shape := ⟨3, ![4, 2048, 5120]⟩
abbrev S_ : Shape := ⟨0, ![]⟩
abbrev S1x128 : Shape := ⟨2, ![1, 128]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x2048x5120, .f32⟩
  | .hbm, ⟨3, _⟩ => ⟨S4x2048x5120, .bf16⟩
  | .hbm, ⟨4, _⟩ => ⟨S_, .f32⟩
  | .hbm, ⟨5, _⟩ => ⟨S1x128, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8256x2048 : Shape := ⟨2, ![8256, 2048]⟩
abbrev S4x2048x8200 : Shape := ⟨3, ![4, 2048, 8200]⟩
abbrev S8192x2048 : Shape := ⟨2, ![8192, 2048]⟩
abbrev S1x2048x8200 : Shape := ⟨3, ![1, 2048, 8200]⟩
abbrev S2048x8200 : Shape := ⟨2, ![2048, 8200]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S8192x2048, .bf16⟩
  | .hbm, ⟨3, _⟩ => ⟨S8192x2048, .f32⟩
  | .hbm, ⟨4, _⟩ => ⟨S1x2048x8200, .f32⟩
  | .hbm, ⟨5, _⟩ => ⟨S2048x8200, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel7.lean ====
abbrev S8256x2048 : Shape := ⟨2, ![8256, 2048]⟩
abbrev S4x2048x8200 : Shape := ⟨3, ![4, 2048, 8200]⟩
abbrev S4x8 : Shape := ⟨2, ![4, 8]⟩
abbrev S4x2048x8 : Shape := ⟨3, ![4, 2048, 8]⟩
abbrev S_ : Shape := ⟨0, ![]⟩
abbrev S4x2048x128 : Shape := ⟨3, ![4, 2048, 128]⟩
abbrev S4x128 : Shape := ⟨2, ![4, 128]⟩
abbrev S1x128 : Shape := ⟨2, ![1, 128]⟩
abbrev S8192x128 : Shape := ⟨2, ![8192, 128]⟩
abbrev S1024x2048 : Shape := ⟨2, ![1024, 2048]⟩
abbrev S1x2048x128 : Shape := ⟨3, ![1, 2048, 128]⟩
abbrev S1024x128 : Shape := ⟨2, ![1024, 128]⟩
abbrev S2048x128 : Shape := ⟨2, ![2048, 128]⟩

abbrev nBuf : Space → Nat
  | .hbm => 13
  | .vmem => 6
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x8, .f32⟩
  | .hbm, ⟨3, _⟩ => ⟨S4x2048x8, .f32⟩
  | .hbm, ⟨4, _⟩ => ⟨S_, .i32⟩
  | .hbm, ⟨5, _⟩ => ⟨S_, .f32⟩
  | .hbm, ⟨6, _⟩ => ⟨S4x2048x128, .f32⟩
  | .hbm, ⟨7, _⟩ => ⟨S4x2048x128, .bf16⟩
  | .hbm, ⟨8, _⟩ => ⟨S_, .i32⟩
  | .hbm, ⟨9, _⟩ => ⟨S_, .f32⟩
  | .hbm, ⟨10, _⟩ => ⟨S4x128, .f32⟩
  | .hbm, ⟨11, _⟩ => ⟨S1x128, .f32⟩
  | .hbm, ⟨12, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8256x2048 : Shape := ⟨2, ![8256, 2048]⟩
abbrev S4x2048x8200 : Shape := ⟨3, ![4, 2048, 8200]⟩
abbrev S4x8 : Shape := ⟨2, ![4, 8]⟩
abbrev S1x2048x8200 : Shape := ⟨3, ![1, 2048, 8200]⟩
abbrev S2048x8200 : Shape := ⟨2, ![2048, 8200]⟩
abbrev S2048x8 : Shape := ⟨2, ![2048, 8]⟩
abbrev S_ : Shape := ⟨0, ![]⟩
abbrev S2048x128 : Shape := ⟨2, ![2048, 128]⟩
abbrev S1x8 : Shape := ⟨2, ![1, 8]⟩
abbrev S8 : Shape := ⟨1, ![8]⟩
abbrev S128 : Shape := ⟨1, ![128]⟩
abbrev S8192x2048 : Shape := ⟨2, ![8192, 2048]⟩
abbrev S8192x128 : Shape := ⟨2, ![8192, 128]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x8, .f32⟩
  | .hbm, ⟨3, _⟩ => ⟨S1x2048x8200, .f32⟩
  | .hbm, ⟨4, _⟩ => ⟨S2048x8200, .f32⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S1x8, .f32⟩
  | .hbm, ⟨10, _⟩ => ⟨S8, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S8192x2048, .bf16⟩
  | .hbm, ⟨15, _⟩ => ⟨S8192x2048, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .i1⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S8192x128, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call2_v0 : Ref sig .tc := ⟨.hbm, 20, rfl⟩
abbrev main_call2_call0_cst : Ref sig .tc := ⟨.hbm, 21, rfl⟩
abbrev main_call2_call0_v0 : Ref sig .tc := ⟨.hbm, 22, rfl⟩
abbrev main_call2_call0_v1 : Ref sig .tc := ⟨.hbm, 23, rfl⟩
abbrev main_call2_call0_v2 : Ref sig .tc := ⟨.hbm, 24, rfl⟩
abbrev main_call2_call0_v3 : Ref sig .tc := ⟨.hbm, 25, rfl⟩
abbrev main_call2_call0_v4 : Ref sig .tc := ⟨.hbm, 26, rfl⟩
abbrev main_call2_call0_v5 : Ref sig .tc := ⟨.hbm, 27, rfl⟩
abbrev main_call2_call0_v6 : Ref sig .tc := ⟨.hbm, 28, rfl⟩
abbrev main_call2_call0_v7 : Ref sig .tc := ⟨.hbm, 29, rfl⟩
abbrev main_call2_call0_v8 : Ref sig .tc := ⟨.hbm, 30, rfl⟩
abbrev main_call2_call0_v9 : Ref sig .tc := ⟨.hbm, 31, rfl⟩
abbrev main_call2_call0_v10 : Ref sig .tc := ⟨.hbm, 32, rfl⟩
abbrev main_call2_call0_v11 : Ref sig .tc := ⟨.hbm, 33, rfl⟩
abbrev main_call2_v1 : Ref sig .tc := ⟨.hbm, 34, rfl⟩
abbrev main_v13 : Ref sig .tc := ⟨.hbm, 35, rfl⟩

abbrev nD : Nat := 1
abbrev τ : Topo := Topo.v7x

variable {F : FTy → Type} [FloatOps F]
-- ==== Kernel8.lean ====
abbrev S4x512x512 : Shape := ⟨3, ![4, 512, 512]⟩
abbrev S2x256x2048 : Shape := ⟨3, ![2, 256, 2048]⟩
abbrev S4x2048 : Shape := ⟨2, ![4, 2048]⟩
abbrev S4x2048x512 : Shape := ⟨3, ![4, 2048, 512]⟩
abbrev S4x128 : Shape := ⟨2, ![4, 128]⟩
abbrev S512x2048 : Shape := ⟨2, ![512, 2048]⟩
abbrev S1x128 : Shape := ⟨2, ![1, 128]⟩
abbrev S128 : Shape := ⟨1, ![128]⟩
abbrev S1x2048 : Shape := ⟨2, ![1, 2048]⟩
abbrev S2048 : Shape := ⟨1, ![2048]⟩
abbrev S1x2048x512 : Shape := ⟨3, ![1, 2048, 512]⟩
abbrev S1x512x512 : Shape := ⟨3, ![1, 512, 512]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S512x128 : Shape := ⟨2, ![512, 128]⟩

abbrev nBuf : Space → Nat
  | .hbm => 14
  | .vmem => 5
  | .smem => 0
  | _ => 0

abbrev bufTy : (tb : Table) → Fin (tcTables nBuf tb) → BufTy
  | .hbm, ⟨0, _⟩ => ⟨S4x512x512, .f32⟩
  | .hbm, ⟨1, _⟩ => ⟨S2x256x2048, .f32⟩
  | .hbm, ⟨2, _⟩ => ⟨S4x2048, .f32⟩
  | .hbm, ⟨3, _⟩ => ⟨S4x2048x512, .f32⟩
  | .hbm, ⟨4, _⟩ => ⟨S4x128, .f32⟩
  | .hbm, ⟨5, _⟩ => ⟨S512x2048, .f32⟩
  | .hbm, ⟨6, _⟩ => ⟨S4x2048x512, .bf16⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S4x512x512, .f32⟩
  | .local _ .vmem, ⟨0, _⟩ => ⟨S512x2048, .f32⟩
  | .local _ .vmem, ⟨1, _⟩ => ⟨S1x2048x512, .bf16⟩
  | .local _ .vmem, ⟨2, _⟩ => ⟨S1x128, .f32⟩
  | .local _ .vmem, ⟨3, _⟩ => ⟨S1x2048, .f32⟩
  | .local _ .vmem, ⟨4, _⟩ => ⟨S1x512x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference8Ideal.lean ====
abbrev S4x512x512 : Shape := ⟨3, ![4, 512, 512]⟩
abbrev S2x256x2048 : Shape := ⟨3, ![2, 256, 2048]⟩
abbrev S4x2048 : Shape := ⟨2, ![4, 2048]⟩
abbrev S4x2048x512 : Shape := ⟨3, ![4, 2048, 512]⟩
abbrev S4x128 : Shape := ⟨2, ![4, 128]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x512 : Shape := ⟨3, ![1, 2048, 512]⟩
abbrev S2048x512 : Shape := ⟨2, ![2048, 512]⟩
abbrev S2x256x512 : Shape := ⟨3, ![2, 256, 512]⟩
abbrev S2x256x4x128 : Shape := ⟨4, ![2, 256, 4, 128]⟩
abbrev S1x128 : Shape := ⟨2, ![1, 128]⟩
abbrev S128 : Shape := ⟨1, ![128]⟩
abbrev S2x256x4 : Shape := ⟨3, ![2, 256, 4]⟩
abbrev S2x256x4x1 : Shape := ⟨4, ![2, 256, 4, 1]⟩
abbrev S1x1x1x128 : Shape := ⟨4, ![1, 1, 1, 128]⟩
abbrev S1x512x512 : Shape := ⟨3, ![1, 512, 512]⟩
abbrev S2x512x512 : Shape := ⟨3, ![2, 512, 512]⟩

abbrev nBuf : Space → Nat
  | .hbm => 49
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S2x256x2048, .f32⟩
  | .hbm, ⟨2, _⟩ => ⟨S4x2048, .f32⟩
  | .hbm, ⟨3, _⟩ => ⟨S4x2048x512, .f32⟩
  | .hbm, ⟨4, _⟩ => ⟨S4x128, .f32⟩
  | .hbm, ⟨5, _⟩ => ⟨S1x2048, .f32⟩
  | .hbm, ⟨6, _⟩ => ⟨S2048, .f32⟩
  | .hbm, ⟨7, _⟩ => ⟨S2x256x2048, .f32⟩
  | .hbm, ⟨8, _⟩ => ⟨S_, .f32⟩
  | .hbm, ⟨9, _⟩ => ⟨S2x256, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S_, .f32⟩
  | .hbm, ⟨15, _⟩ => ⟨S2x256x1, .f32⟩
  | .hbm, ⟨16, _⟩ => ⟨S2x256x1, .f32⟩
  | .hbm, ⟨17, _⟩ => ⟨S2x256x1, .f32⟩
  | .hbm, ⟨18, _⟩ => ⟨S2x256x2048, .f32⟩
  | .hbm, ⟨19, _⟩ => ⟨S2x256x2048, .f32⟩
  | .hbm, ⟨20, _⟩ => ⟨S1x1x2048, .f32⟩
  | .hbm, ⟨21, _⟩ => ⟨S2x256x2048, .f32⟩
  | .hbm, ⟨22, _⟩ => ⟨S2x256x2048, .f32⟩
  | .hbm, ⟨23, _⟩ => ⟨S1x2048x512, .f32⟩
  | .hbm, ⟨24, _⟩ => ⟨S2048x512, .f32⟩
  | .hbm, ⟨25, _⟩ => ⟨S2x256x512, .f32⟩
  | .hbm, ⟨26, _⟩ => ⟨S2x256x4x128, .f32⟩
  | .hbm, ⟨27, _⟩ => ⟨S1x128, .f32⟩
  | .hbm, ⟨28, _⟩ => ⟨S128, .f32⟩
  | .hbm, ⟨29, _⟩ => ⟨S2x256x4x128, .f32⟩
  | .hbm, ⟨30, _⟩ => ⟨S_, .f32⟩
  | .hbm, ⟨31, _⟩ => ⟨S2x256x4, .f32⟩
  | .hbm, ⟨32, _⟩ => ⟨S2x256x4x1, .f32⟩
  | .hbm, ⟨33, _⟩ => ⟨S_, .f32⟩
  | .hbm, ⟨34, _⟩ => ⟨S2x256x4x1, .f32⟩
  | .hbm, ⟨35, _⟩ => ⟨S2x256x4x1, .f32⟩
  | .hbm, ⟨36, _⟩ => ⟨S_, .f32⟩
  | .hbm, ⟨37, _⟩ => ⟨S2x256x4x1, .f32⟩
  | .hbm, ⟨38, _⟩ => ⟨S2x256x4x1, .f32⟩
  | .hbm, ⟨39, _⟩ => ⟨S2x256x4x1, .f32⟩
  | .hbm, ⟨40, _⟩ => ⟨S2x256x4x128, .f32⟩
  | .hbm, ⟨41, _⟩ => ⟨S2x256x4x128, .f32⟩
  | .hbm, ⟨42, _⟩ => ⟨S1x1x1x128, .f32⟩
  | .hbm, ⟨43, _⟩ => ⟨S2x256x4x128, .f32⟩
  | .hbm, ⟨44, _⟩ => ⟨S2x256x4x128, .f32⟩
  | .hbm, ⟨45, _⟩ => ⟨S1x512x512, .f32⟩
  | .hbm, ⟨46, _⟩ => ⟨S1x512x512, .f32⟩
  | .hbm, ⟨47, _⟩ => ⟨S2x512x512, .f32⟩
  | .hbm, ⟨48, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel9.lean ====
abbrev S4x512x512 : Shape := ⟨3, ![4, 512, 512]⟩
abbrev S2x256x2048 : Shape := ⟨3, ![2, 256, 2048]⟩
abbrev S4x2048 : Shape := ⟨2, ![4, 2048]⟩
abbrev S4x2048x512 : Shape := ⟨3, ![4, 2048, 512]⟩
abbrev S512x2048 : Shape := ⟨2, ![512, 2048]⟩
abbrev S1x2048 : Shape := ⟨2, ![1, 2048]⟩
abbrev S2048 : Shape := ⟨1, ![2048]⟩
abbrev S_ : Shape := ⟨0, ![]⟩
abbrev S1x128 : Shape := ⟨2, ![1, 128]⟩
abbrev S1x2048x512 : Shape := ⟨3, ![1, 2048, 512]⟩
abbrev S1x512x512 : Shape := ⟨3, ![1, 512, 512]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 12
  | .vmem => 5
  | .smem => 0
  | _ => 0

abbrev bufTy : (tb : Table) → Fin (tcTables nBuf tb) → BufTy
  | .hbm, ⟨0, _⟩ => ⟨S4x512x512, .f32⟩
  | .hbm, ⟨1, _⟩ => ⟨S2x256x2048, .f32⟩
  | .hbm, ⟨2, _⟩ => ⟨S4x2048, .f32⟩
  | .hbm, ⟨3, _⟩ => ⟨S4x2048x512, .f32⟩
  | .hbm, ⟨4, _⟩ => ⟨S512x2048, .f32⟩
  | .hbm, ⟨5, _⟩ => ⟨S4x2048x512, .bf16⟩
  | .hbm, ⟨6, _⟩ => ⟨S1x2048, .f32⟩
  | .hbm, ⟨7, _⟩ => ⟨S2048, .f32⟩
  | .hbm, ⟨8, _⟩ => ⟨S_, .f32⟩
  | .hbm, ⟨9, _⟩ => ⟨S1x128, .f32⟩
  | .hbm, ⟨10, _⟩ => ⟨S1x2048, .f32⟩
  | .hbm, ⟨11, _⟩ => ⟨S4x512x512, .f32⟩
  | .local _ .vmem, ⟨0, _⟩ => ⟨S512x2048, .f32⟩
  | .local _ .vmem, ⟨1, _⟩ => ⟨S1x2048x512, .bf16⟩
  | .local _ .vmem, ⟨2, _⟩ => ⟨S1x128, .f32⟩
  | .local _ .vmem, ⟨3, _⟩ => ⟨S1x2048, .f32⟩
  | .local _ .vmem, ⟨4, _⟩ => ⟨S1x512x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference9Ideal.lean ====
abbrev S4x512x512 : Shape := ⟨3, ![4, 512, 512]⟩
abbrev S2x256x2048 : Shape := ⟨3, ![2, 256, 2048]⟩
abbrev S4x2048 : Shape := ⟨2, ![4, 2048]⟩
abbrev S4x2048x512 : Shape := ⟨3, ![4, 2048, 512]⟩
abbrev S1x2048 : Shape := ⟨2, ![1, 2048]⟩
abbrev S2048 : Shape := ⟨1, ![2048]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x512 : Shape := ⟨3, ![1, 2048, 512]⟩
abbrev S2048x512 : Shape := ⟨2, ![2048, 512]⟩
abbrev S2x256x512 : Shape := ⟨3, ![2, 256, 512]⟩
abbrev S1x512x512 : Shape := ⟨3, ![1, 512, 512]⟩
abbrev S2x512x512 : Shape := ⟨3, ![2, 512, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S2x256x2048, .f32⟩
  | .hbm, ⟨2, _⟩ => ⟨S4x2048, .f32⟩
  | .hbm, ⟨3, _⟩ => ⟨S4x2048x512, .f32⟩
  | .hbm, ⟨4, _⟩ => ⟨S1x2048, .f32⟩
  | .hbm, ⟨5, _⟩ => ⟨S2048, .f32⟩
  | .hbm, ⟨6, _⟩ => ⟨S2x256x2048, .f32⟩
  | .hbm, ⟨7, _⟩ => ⟨S_, .f32⟩
  | .hbm, ⟨8, _⟩ => ⟨S2x256, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S2x256x1, .f32⟩
  | .hbm, ⟨17, _⟩ => ⟨S2x256x2048, .f32⟩
  | .hbm, ⟨18, _⟩ => ⟨S2x256x2048, .f32⟩
  | .hbm, ⟨19, _⟩ => ⟨S1x1x2048, .f32⟩
  | .hbm, ⟨20, _⟩ => ⟨S2x256x2048, .f32⟩
  | .hbm, ⟨21, _⟩ => ⟨S2x256x2048, .f32⟩
  | .hbm, ⟨22, _⟩ => ⟨S1x2048x512, .f32⟩
  | .hbm, ⟨23, _⟩ => ⟨S2048x512, .f32⟩
  | .hbm, ⟨24, _⟩ => ⟨S2x256x512, .f32⟩
  | .hbm, ⟨25, _⟩ => ⟨S1x512x512, .f32⟩
  | .hbm, ⟨26, _⟩ => ⟨S1x512x512, .f32⟩
  | .hbm, ⟨27, _⟩ => ⟨S2x512x512, .f32⟩
  | .hbm, ⟨28, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel10.lean ====
abbrev S8256x2048 : Shape := ⟨2, ![8256, 2048]⟩
abbrev S64x1024 : Shape := ⟨2, ![64, 1024]⟩
abbrev S64x2048 : Shape := ⟨2, ![64, 2048]⟩
abbrev S4x1024x2048 : Shape := ⟨3, ![4, 1024, 2048]⟩
abbrev S4x2048x2048 : Shape := ⟨3, ![4, 2048, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 15
  | .vmem => 10
  | .smem => 0
  | _ => 0

abbrev bufTy : (tb : Table) → Fin (tcTables nBuf tb) → BufTy
  | .hbm, ⟨0, _⟩ => ⟨S8256x2048, .f32⟩
  | .hbm, ⟨1, _⟩ => ⟨S64x1024, .f32⟩
  | .hbm, ⟨2, _⟩ => ⟨S64x1024, .f32⟩
  | .hbm, ⟨3, _⟩ => ⟨S64x2048, .f32⟩
  | .hbm, ⟨4, _⟩ => ⟨S64x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S8256x2048, .f32⟩
  | .hbm, ⟨10, _⟩ => ⟨S4x1024x2048, .bf16⟩
  | .hbm, ⟨11, _⟩ => ⟨S4x1024x2048, .bf16⟩
  | .hbm, ⟨12, _⟩ => ⟨S4x1024x2048, .bf16⟩
  | .hbm, ⟨13, _⟩ => ⟨S4x2048x2048, .bf16⟩
  | .hbm, ⟨14, _⟩ => ⟨S8256x2048, .f32⟩
  | .local _ .vmem, ⟨0, _⟩ => ⟨S64x2048, .f32⟩
  | .local _ .vmem, ⟨1, _⟩ => ⟨S64x1024, .f32⟩
  | .local _ .vmem, ⟨2, _⟩ => ⟨S64x1024, .f32⟩
  | .local _ .vmem, ⟨3, _⟩ => ⟨S64x2048, .f32⟩
  | .local _ .vmem, ⟨4, _⟩ => ⟨S64x2048, .f32⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x2048, .bf16⟩
  | .local _ .vmem, ⟨9, _⟩ => ⟨S64x2048, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference10Ideal.lean ====
abbrev S8256x2048 : Shape := ⟨2, ![8256, 2048]⟩
abbrev S64x1024 : Shape := ⟨2, ![64, 1024]⟩
abbrev S64x2048 : Shape := ⟨2, ![64, 2048]⟩
abbrev S4x1024x2048 : Shape := ⟨3, ![4, 1024, 2048]⟩
abbrev S4x2048x2048 : Shape := ⟨3, ![4, 2048, 2048]⟩
abbrev S1x1024x2048 : Shape := ⟨3, ![1, 1024, 2048]⟩
abbrev S1024x2048 : Shape := ⟨2, ![1024, 2048]⟩
abbrev S_ : Shape := ⟨0, ![]⟩
abbrev S1x2048x2048 : Shape := ⟨3, ![1, 2048, 2048]⟩
abbrev S2048x2048 : Shape := ⟨2, ![2048, 2048]⟩
abbrev S8192x2048 : Shape := ⟨2, ![8192, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S64x1024, .f32⟩
  | .hbm, ⟨2, _⟩ => ⟨S64x1024, .f32⟩
  | .hbm, ⟨3, _⟩ => ⟨S64x2048, .f32⟩
  | .hbm, ⟨4, _⟩ => ⟨S64x2048, .f32⟩
  | .hbm, ⟨5, _⟩ => ⟨S4x1024x2048, .f32⟩
  | .hbm, ⟨6, _⟩ => ⟨S4x1024x2048, .f32⟩
  | .hbm, ⟨7, _⟩ => ⟨S4x1024x2048, .f32⟩
  | .hbm, ⟨8, _⟩ => ⟨S4x2048x2048, .f32⟩
  | .hbm, ⟨9, _⟩ => ⟨S8256x2048, .f32⟩
  | .hbm, ⟨10, _⟩ => ⟨S1x1024x2048, .f32⟩
  | .hbm, ⟨11, _⟩ => ⟨S1024x2048, .f32⟩
  | .hbm, ⟨12, _⟩ => ⟨S64x2048, .f32⟩
  | .hbm, ⟨13, _⟩ => ⟨S1x1024x2048, .f32⟩
  | .hbm, ⟨14, _⟩ => ⟨S1024x2048, .f32⟩
  | .hbm, ⟨15, _⟩ => ⟨S64x2048, .f32⟩
  | .hbm, ⟨16, _⟩ => ⟨S1x1024x2048, .f32⟩
  | .hbm, ⟨17, _⟩ => ⟨S1024x2048, .f32⟩
  | .hbm, ⟨18, _⟩ => ⟨S64x2048, .f32⟩
  | .hbm, ⟨19, _⟩ => ⟨S64x2048, .f32⟩
  | .hbm, ⟨20, _⟩ => ⟨S64x2048, .f32⟩
  | .hbm, ⟨21, _⟩ => ⟨S_, .f32⟩
  | .hbm, ⟨22, _⟩ => ⟨S64x2048, .f32⟩
  | .hbm, ⟨23, _⟩ => ⟨S64x2048, .f32⟩
  | .hbm, ⟨24, _⟩ => ⟨S_, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S1x2048x2048, .f32⟩
  | .hbm, ⟨33, _⟩ => ⟨S2048x2048, .f32⟩
  | .hbm, ⟨34, _⟩ => ⟨S64x2048, .f32⟩
  | .hbm, ⟨35, _⟩ => ⟨S64x2048, .f32⟩
  | .hbm, ⟨36, _⟩ => ⟨S8192x2048, .f32⟩
  | .hbm, ⟨37, _⟩ => ⟨S8256x2048, .f32⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel11.lean ====
abbrev S8256x2048 : Shape := ⟨2, ![8256, 2048]⟩
abbrev S4x2048x8200 : Shape := ⟨3, ![4, 2048, 8200]⟩
abbrev S4x128 : Shape := ⟨2, ![4, 128]⟩
abbrev S4x2048x3072 : Shape := ⟨3, ![4, 2048, 3072]⟩
abbrev S1x128 : Shape := ⟨2, ![1, 128]⟩
abbrev S128 : Shape := ⟨1, ![128]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 6
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x128, .f32⟩
  | .hbm, ⟨3, _⟩ => ⟨S4x2048x3072, .f32⟩
  | .hbm, ⟨4, _⟩ => ⟨S4x2048x3072, .bf16⟩
  | .hbm, ⟨5, _⟩ => ⟨S1x128, .f32⟩
  | .hbm, ⟨6, _⟩ => ⟨S128, .f32⟩
  | .hbm, ⟨7, _⟩ => ⟨S1x128, .f32⟩
  | .hbm, ⟨8, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x128, .f32⟩
  | .local _ .vmem, ⟨4, _⟩ => ⟨S1024x1024, .bf16⟩
  | .local _ .vmem, ⟨5, _⟩ => ⟨S1024x1024, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8256x2048 : Shape := ⟨2, ![8256, 2048]⟩
abbrev S4x2048x8200 : Shape := ⟨3, ![4, 2048, 8200]⟩
abbrev S4x128 : Shape := ⟨2, ![4, 128]⟩
abbrev S8192x2048 : Shape := ⟨2, ![8192, 2048]⟩
abbrev S1x2048x8200 : Shape := ⟨3, ![1, 2048, 8200]⟩
abbrev S2048x8200 : Shape := ⟨2, ![2048, 8200]⟩
abbrev S2048x1024 : Shape := ⟨2, ![2048, 1024]⟩
abbrev S8192x1024 : Shape := ⟨2, ![8192, 1024]⟩
abbrev S2x4096x8x128 : Shape := ⟨4, ![2, 4096, 8, 128]⟩
abbrev S1x128 : Shape := ⟨2, ![1, 128]⟩
abbrev S128 : Shape := ⟨1, ![128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x128, .f32⟩
  | .hbm, ⟨3, _⟩ => ⟨S8192x2048, .bf16⟩
  | .hbm, ⟨4, _⟩ => ⟨S8192x2048, .f32⟩
  | .hbm, ⟨5, _⟩ => ⟨S1x2048x8200, .f32⟩
  | .hbm, ⟨6, _⟩ => ⟨S2048x8200, .f32⟩
  | .hbm, ⟨7, _⟩ => ⟨S2048x1024, .f32⟩
  | .hbm, ⟨8, _⟩ => ⟨S8192x1024, .f32⟩
  | .hbm, ⟨9, _⟩ => ⟨S2x4096x8x128, .f32⟩
  | .hbm, ⟨10, _⟩ => ⟨S1x128, .f32⟩
  | .hbm, ⟨11, _⟩ => ⟨S128, .f32⟩
  | .hbm, ⟨12, _⟩ => ⟨S2x4096x8x128, .f32⟩
  | .hbm, ⟨13, _⟩ => ⟨S_, .f32⟩
  | .hbm, ⟨14, _⟩ => ⟨S2x4096x8, .f32⟩
  | .hbm, ⟨15, _⟩ => ⟨S2x4096x8x1, .f32⟩
  | .hbm, ⟨16, _⟩ => ⟨S_, .f32⟩
  | .hbm, ⟨17, _⟩ => ⟨S2x4096x8x1, .f32⟩
  | .hbm, ⟨18, _⟩ => ⟨S2x4096x8x1, .f32⟩
  | .hbm, ⟨19, _⟩ => ⟨S_, .f32⟩
  | .hbm, ⟨20, _⟩ => ⟨S2x4096x8x1, .f32⟩
  | .hbm, ⟨21, _⟩ => ⟨S2x4096x8x1, .f32⟩
  | .hbm, ⟨22, _⟩ => ⟨S2x4096x8x1, .f32⟩
  | .hbm, ⟨23, _⟩ => ⟨S2x4096x8x128, .f32⟩
  | .hbm, ⟨24, _⟩ => ⟨S2x4096x8x128, .f32⟩
  | .hbm, ⟨25, _⟩ => ⟨S1x1x1x128, .f32⟩
  | .hbm, ⟨26, _⟩ => ⟨S2x4096x8x128, .f32⟩
  | .hbm, ⟨27, _⟩ => ⟨S2x4096x8x128, .f32⟩
  | .hbm, ⟨28, _⟩ => ⟨S8192x1024, .f32⟩
  | .hbm, ⟨29, _⟩ => ⟨S8192x1024, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel12.lean ====
abbrev S8256x2048 : Shape := ⟨2, ![8256, 2048]⟩
abbrev S4x2048x8200 : Shape := ⟨3, ![4, 2048, 8200]⟩
abbrev S4x2048x5120 : Shape := ⟨3, ![4, 2048, 5120]⟩
abbrev S_ : Shape := ⟨0, ![]⟩
abbrev S1x128 : Shape := ⟨2, ![1, 128]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x2048x5120, .f32⟩
  | .hbm, ⟨3, _⟩ => ⟨S4x2048x5120, .bf16⟩
  | .hbm, ⟨4, _⟩ => ⟨S_, .f32⟩
  | .hbm, ⟨5, _⟩ => ⟨S1x128, .f32⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x128, .f32⟩
  | .local _ .vmem, ⟨4, _⟩ => ⟨S1024x1024, .f32⟩
  | .local _ .vmem, ⟨5, _⟩ => ⟨S1024x1024, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8256x2048 : Shape := ⟨2, ![8256, 2048]⟩
abbrev S4x2048x8200 : Shape := ⟨3, ![4, 2048, 8200]⟩
abbrev S8192x2048 : Shape := ⟨2, ![8192, 2048]⟩
abbrev S1x2048x8200 : Shape := ⟨3, ![1, 2048, 8200]⟩
abbrev S2048x8200 : Shape := ⟨2, ![2048, 8200]⟩
abbrev S2048x1024 : Shape := ⟨2, ![2048, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S8192x2048, .bf16⟩
  | .hbm, ⟨3, _⟩ => ⟨S8192x2048, .f32⟩
  | .hbm, ⟨4, _⟩ => ⟨S1x2048x8200, .f32⟩
  | .hbm, ⟨5, _⟩ => ⟨S2048x8200, .f32⟩
  | .hbm, ⟨6, _⟩ => ⟨S2048x1024, .f32⟩
  | .hbm, ⟨7, _⟩ => ⟨S8192x1024, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S8256x2048 : Shape := ⟨2, ![8256, 2048]⟩
abbrev S4x2048x8200 : Shape := ⟨3, ![4, 2048, 8200]⟩
abbrev S4x2048x5120 : Shape := ⟨3, ![4, 2048, 5120]⟩
abbrev S_ : Shape := ⟨0, ![]⟩
abbrev S1x128 : Shape := ⟨2, ![1, 128]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x2048x5120, .f32⟩
  | .hbm, ⟨3, _⟩ => ⟨S4x2048x5120, .bf16⟩
  | .hbm, ⟨4, _⟩ => ⟨S_, .f32⟩
  | .hbm, ⟨5, _⟩ => ⟨S1x128, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8256x2048 : Shape := ⟨2, ![8256, 2048]⟩
abbrev S4x2048x8200 : Shape := ⟨3, ![4, 2048, 8200]⟩
abbrev S8192x2048 : Shape := ⟨2, ![8192, 2048]⟩
abbrev S1x2048x8200 : Shape := ⟨3, ![1, 2048, 8200]⟩
abbrev S2048x8200 : Shape := ⟨2, ![2048, 8200]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S8192x2048, .bf16⟩
  | .hbm, ⟨3, _⟩ => ⟨S8192x2048, .f32⟩
  | .hbm, ⟨4, _⟩ => ⟨S1x2048x8200, .f32⟩
  | .hbm, ⟨5, _⟩ => ⟨S2048x8200, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel14.lean ====
abbrev S4x64x1024 : Shape := ⟨3, ![4, 64, 1024]⟩
abbrev S8256x2048 : Shape := ⟨2, ![8256, 2048]⟩
abbrev S4x2048x8200 : Shape := ⟨3, ![4, 2048, 8200]⟩
abbrev S4x128 : Shape := ⟨2, ![4, 128]⟩
abbrev S4x2048x3072 : Shape := ⟨3, ![4, 2048, 3072]⟩
abbrev S1x128 : Shape := ⟨2, ![1, 128]⟩
abbrev S128 : Shape := ⟨1, ![128]⟩
abbrev S64x2048 : Shape := ⟨2, ![64, 2048]⟩
abbrev S1x2048x1024 : Shape := ⟨3, ![1, 2048, 1024]⟩
abbrev S1x64x1024 : Shape := ⟨3, ![1, 64, 1024]⟩
abbrev S2048x1024 : Shape := ⟨2, ![2048, 1024]⟩
abbrev S64x1024 : Shape := ⟨2, ![64, 1024]⟩
abbrev S64x128 : Shape := ⟨2, ![64, 128]⟩
abbrev S64 : Shape := ⟨1, ![64]⟩
abbrev S64x1 : Shape := ⟨2, ![64, 1]⟩

abbrev nBuf : Space → Nat
  | .hbm => 10
  | .vmem => 4
  | .smem => 0
  | _ => 0

abbrev bufTy : (tb : Table) → Fin (tcTables nBuf tb) → BufTy
  | .hbm, ⟨0, _⟩ => ⟨S4x64x1024, .f32⟩
  | .hbm, ⟨1, _⟩ => ⟨S8256x2048, .bf16⟩
  | .hbm, ⟨2, _⟩ => ⟨S4x2048x8200, .f32⟩
  | .hbm, ⟨3, _⟩ => ⟨S4x128, .f32⟩
  | .hbm, ⟨4, _⟩ => ⟨S4x2048x3072, .f32⟩
  | .hbm, ⟨5, _⟩ => ⟨S4x2048x3072, .bf16⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S4x64x1024, .f32⟩
  | .local _ .vmem, ⟨0, _⟩ => ⟨S64x2048, .bf16⟩
  | .local _ .vmem, ⟨1, _⟩ => ⟨S1x2048x1024, .bf16⟩
  | .local _ .vmem, ⟨2, _⟩ => ⟨S1x128, .f32⟩
  | .local _ .vmem, ⟨3, _⟩ => ⟨S1x64x1024, .f32⟩
  | _, _ => ⟨S4x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c1_i32_0 : BitVec 32 := 1#32
  let c0_i32 : BitVec 32 := 0#32
  let c0_i32_1 : BitVec 32 := 0#32
  ![c1_i32_0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference14Ideal.lean ====
abbrev S4x64x1024 : Shape := ⟨3, ![4, 64, 1024]⟩
abbrev S8256x2048 : Shape := ⟨2, ![8256, 2048]⟩
abbrev S4x2048x8200 : Shape := ⟨3, ![4, 2048, 8200]⟩
abbrev S4x128 : Shape := ⟨2, ![4, 128]⟩
abbrev S64x2048 : Shape := ⟨2, ![64, 2048]⟩
abbrev S1x2048x8200 : Shape := ⟨3, ![1, 2048, 8200]⟩
abbrev S2048x8200 : Shape := ⟨2, ![2048, 8200]⟩
abbrev S2048x1024 : Shape := ⟨2, ![2048, 1024]⟩
abbrev S64x1024 : Shape := ⟨2, ![64, 1024]⟩
abbrev S8x8x8x128 : Shape := ⟨4, ![8, 8, 8, 128]⟩
abbrev S1x128 : Shape := ⟨2, ![1, 128]⟩
abbrev S128 : Shape := ⟨1, ![128]⟩
abbrev S_ : Shape := ⟨0, ![]⟩
abbrev S8x8x8 : Shape := ⟨3, ![8, 8, 8]⟩
abbrev S8x8x8x1 : Shape := ⟨4, ![8, 8, 8, 1]⟩
abbrev S1x1x1x128 : Shape := ⟨4, ![1, 1, 1, 128]⟩
abbrev S1x64x1024 : Shape := ⟨3, ![1, 64, 1024]⟩
abbrev S2x64x1024 : Shape := ⟨3, ![2, 64, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x64x1024, .f32⟩
  | .hbm, ⟨1, _⟩ => ⟨S8256x2048, .bf16⟩
  | .hbm, ⟨2, _⟩ => ⟨S4x2048x8200, .f32⟩
  | .hbm, ⟨3, _⟩ => ⟨S4x128, .f32⟩
  | .hbm, ⟨4, _⟩ => ⟨S64x2048, .bf16⟩
  | .hbm, ⟨5, _⟩ => ⟨S64x2048, .f32⟩
  | .hbm, ⟨6, _⟩ => ⟨S1x2048x8200, .f32⟩
  | .hbm, ⟨7, _⟩ => ⟨S2048x8200, .f32⟩
  | .hbm, ⟨8, _⟩ => ⟨S2048x1024, .f32⟩
  | .hbm, ⟨9, _⟩ => ⟨S64x1024, .f32⟩
  | .hbm, ⟨10, _⟩ => ⟨S8x8x8x128, .f32⟩
  | .hbm, ⟨11, _⟩ => ⟨S1x128, .f32⟩
  | .hbm, ⟨12, _⟩ => ⟨S128, .f32⟩
  | .hbm, ⟨13, _⟩ => ⟨S8x8x8x128, .f32⟩
  | .hbm, ⟨14, _⟩ => ⟨S_, .f32⟩
  | .hbm, ⟨15, _⟩ => ⟨S8x8x8, .f32⟩
  | .hbm, ⟨16, _⟩ => ⟨S8x8x8x1, .f32⟩
  | .hbm, ⟨17, _⟩ => ⟨S_, .f32⟩
  | .hbm, ⟨18, _⟩ => ⟨S8x8x8x1, .f32⟩
  | .hbm, ⟨19, _⟩ => ⟨S8x8x8x1, .f32⟩
  | .hbm, ⟨20, _⟩ => ⟨S_, .f32⟩
  | .hbm, ⟨21, _⟩ => ⟨S8x8x8x1, .f32⟩
  | .hbm, ⟨22, _⟩ => ⟨S8x8x8x1, .f32⟩
  | .hbm, ⟨23, _⟩ => ⟨S8x8x8x1, .f32⟩
  | .hbm, ⟨24, _⟩ => ⟨S8x8x8x128, .f32⟩
  | .hbm, ⟨25, _⟩ => ⟨S8x8x8x128, .f32⟩
  | .hbm, ⟨26, _⟩ => ⟨S1x1x1x128, .f32⟩
  | .hbm, ⟨27, _⟩ => ⟨S8x8x8x128, .f32⟩
  | .hbm, ⟨28, _⟩ => ⟨S8x8x8x128, .f32⟩
  | .hbm, ⟨29, _⟩ => ⟨S1x64x1024, .f32⟩
  | .hbm, ⟨30, _⟩ => ⟨S1x64x1024, .f32⟩
  | .hbm, ⟨31, _⟩ => ⟨S2x64x1024, .f32⟩
  | .hbm, ⟨32, _⟩ => ⟨S4x64x1024, .f32⟩
  | _, _ => ⟨S4x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel15.lean ====
abbrev S4x64x1024 : Shape := ⟨3, ![4, 64, 1024]⟩
abbrev S8256x2048 : Shape := ⟨2, ![8256, 2048]⟩
abbrev S4x2048x8200 : Shape := ⟨3, ![4, 2048, 8200]⟩
abbrev S4x2048x3072 : Shape := ⟨3, ![4, 2048, 3072]⟩
abbrev S_ : Shape := ⟨0, ![]⟩
abbrev S1x128 : Shape := ⟨2, ![1, 128]⟩
abbrev S64x2048 : Shape := ⟨2, ![64, 2048]⟩
abbrev S1x2048x1024 : Shape := ⟨3, ![1, 2048, 1024]⟩
abbrev S1x64x1024 : Shape := ⟨3, ![1, 64, 1024]⟩
abbrev S2048x1024 : Shape := ⟨2, ![2048, 1024]⟩
abbrev S64x1024 : Shape := ⟨2, ![64, 1024]⟩

abbrev nBuf : Space → Nat
  | .hbm => 8
  | .vmem => 4
  | .smem => 0
  | _ => 0

abbrev bufTy : (tb : Table) → Fin (tcTables nBuf tb) → BufTy
  | .hbm, ⟨0, _⟩ => ⟨S4x64x1024, .f32⟩
  | .hbm, ⟨1, _⟩ => ⟨S8256x2048, .bf16⟩
  | .hbm, ⟨2, _⟩ => ⟨S4x2048x8200, .f32⟩
  | .hbm, ⟨3, _⟩ => ⟨S4x2048x3072, .f32⟩
  | .hbm, ⟨4, _⟩ => ⟨S4x2048x3072, .bf16⟩
  | .hbm, ⟨5, _⟩ => ⟨S_, .f32⟩
  | .hbm, ⟨6, _⟩ => ⟨S1x128, .f32⟩
  | .hbm, ⟨7, _⟩ => ⟨S4x64x1024, .f32⟩
  | .local _ .vmem, ⟨0, _⟩ => ⟨S64x2048, .bf16⟩
  | .local _ .vmem, ⟨1, _⟩ => ⟨S1x2048x1024, .bf16⟩
  | .local _ .vmem, ⟨2, _⟩ => ⟨S1x128, .f32⟩
  | .local _ .vmem, ⟨3, _⟩ => ⟨S1x64x1024, .f32⟩
  | _, _ => ⟨S4x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference15Ideal.lean ====
abbrev S4x64x1024 : Shape := ⟨3, ![4, 64, 1024]⟩
abbrev S8256x2048 : Shape := ⟨2, ![8256, 2048]⟩
abbrev S4x2048x8200 : Shape := ⟨3, ![4, 2048, 8200]⟩
abbrev S64x2048 : Shape := ⟨2, ![64, 2048]⟩
abbrev S1x2048x8200 : Shape := ⟨3, ![1, 2048, 8200]⟩
abbrev S2048x8200 : Shape := ⟨2, ![2048, 8200]⟩
abbrev S2048x1024 : Shape := ⟨2, ![2048, 1024]⟩
abbrev S64x1024 : Shape := ⟨2, ![64, 1024]⟩
abbrev S1x64x1024 : Shape := ⟨3, ![1, 64, 1024]⟩
abbrev S2x64x1024 : Shape := ⟨3, ![2, 64, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x64x1024, .f32⟩
  | .hbm, ⟨1, _⟩ => ⟨S8256x2048, .bf16⟩
  | .hbm, ⟨2, _⟩ => ⟨S4x2048x8200, .f32⟩
  | .hbm, ⟨3, _⟩ => ⟨S64x2048, .bf16⟩
  | .hbm, ⟨4, _⟩ => ⟨S64x2048, .f32⟩
  | .hbm, ⟨5, _⟩ => ⟨S1x2048x8200, .f32⟩
  | .hbm, ⟨6, _⟩ => ⟨S2048x8200, .f32⟩
  | .hbm, ⟨7, _⟩ => ⟨S2048x1024, .f32⟩
  | .hbm, ⟨8, _⟩ => ⟨S64x1024, .f32⟩
  | .hbm, ⟨9, _⟩ => ⟨S1x64x1024, .f32⟩
  | .hbm, ⟨10, _⟩ => ⟨S1x64x1024, .f32⟩
  | .hbm, ⟨11, _⟩ => ⟨S2x64x1024, .f32⟩
  | .hbm, ⟨12, _⟩ => ⟨S4x64x1024, .f32⟩
  | _, _ => ⟨S4x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S8256x2048 : Shape := ⟨2, ![8256, 2048]⟩
abbrev S4x2048x8200 : Shape := ⟨3, ![4, 2048, 8200]⟩
abbrev S4x8 : Shape := ⟨2, ![4, 8]⟩
abbrev S4x2048x8 : Shape := ⟨3, ![4, 2048, 8]⟩
abbrev S_ : Shape := ⟨0, ![]⟩
abbrev S4x2048x128 : Shape := ⟨3, ![4, 2048, 128]⟩
abbrev S4x128 : Shape := ⟨2, ![4, 128]⟩
abbrev S1x128 : Shape := ⟨2, ![1, 128]⟩
abbrev S64x128 : Shape := ⟨2, ![64, 128]⟩
abbrev S64x2048 : Shape := ⟨2, ![64, 2048]⟩
abbrev S1x2048x128 : Shape := ⟨3, ![1, 2048, 128]⟩
abbrev S2048x128 : Shape := ⟨2, ![2048, 128]⟩

abbrev nBuf : Space → Nat
  | .hbm => 13
  | .vmem => 4
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x8, .f32⟩
  | .hbm, ⟨3, _⟩ => ⟨S4x2048x8, .f32⟩
  | .hbm, ⟨4, _⟩ => ⟨S_, .i32⟩
  | .hbm, ⟨5, _⟩ => ⟨S_, .f32⟩
  | .hbm, ⟨6, _⟩ => ⟨S4x2048x128, .f32⟩
  | .hbm, ⟨7, _⟩ => ⟨S4x2048x128, .bf16⟩
  | .hbm, ⟨8, _⟩ => ⟨S_, .i32⟩
  | .hbm, ⟨9, _⟩ => ⟨S_, .f32⟩
  | .hbm, ⟨10, _⟩ => ⟨S4x128, .f32⟩
  | .hbm, ⟨11, _⟩ => ⟨S1x128, .f32⟩
  | .hbm, ⟨12, _⟩ => ⟨S64x128, .f32⟩
  | .local _ .vmem, ⟨0, _⟩ => ⟨S64x2048, .bf16⟩
  | .local _ .vmem, ⟨1, _⟩ => ⟨S1x2048x128, .bf16⟩
  | .local _ .vmem, ⟨2, _⟩ => ⟨S1x128, .f32⟩
  | .local _ .vmem, ⟨3, _⟩ => ⟨S64x128, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== Reference16Ideal.lean ====
abbrev S8256x2048 : Shape := ⟨2, ![8256, 2048]⟩
abbrev S4x2048x8200 : Shape := ⟨3, ![4, 2048, 8200]⟩
abbrev S4x8 : Shape := ⟨2, ![4, 8]⟩
abbrev S1x2048x8200 : Shape := ⟨3, ![1, 2048, 8200]⟩
abbrev S2048x8200 : Shape := ⟨2, ![2048, 8200]⟩
abbrev S2048x8 : Shape := ⟨2, ![2048, 8]⟩
abbrev S_ : Shape := ⟨0, ![]⟩
abbrev S2048x128 : Shape := ⟨2, ![2048, 128]⟩
abbrev S1x8 : Shape := ⟨2, ![1, 8]⟩
abbrev S8 : Shape := ⟨1, ![8]⟩
abbrev S128 : Shape := ⟨1, ![128]⟩
abbrev S64x2048 : Shape := ⟨2, ![64, 2048]⟩
abbrev S64x128 : Shape := ⟨2, ![64, 128]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S4x2048x8200, .f32⟩
  | .hbm, ⟨2, _⟩ => ⟨S4x8, .f32⟩
  | .hbm, ⟨3, _⟩ => ⟨S1x2048x8200, .f32⟩
  | .hbm, ⟨4, _⟩ => ⟨S2048x8200, .f32⟩
  | .hbm, ⟨5, _⟩ => ⟨S2048x8, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S1x8, .f32⟩
  | .hbm, ⟨10, _⟩ => ⟨S8, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S64x2048, .bf16⟩
  | .hbm, ⟨15, _⟩ => ⟨S64x2048, .f32⟩
  | .hbm, ⟨16, _⟩ => ⟨S64x128, .f32⟩
  | .hbm, ⟨17, _⟩ => ⟨S1x128, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S_, .f32⟩
  | .hbm, ⟨22, _⟩ => ⟨S64x128, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S64x128, .i1⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S64x128, .f32⟩
  | .hbm, ⟨35, _⟩ => ⟨S64x128, .f32⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call2_v0 : Ref sig .tc := ⟨.hbm, 20, rfl⟩
abbrev main_call2_call0_cst : Ref sig .tc := ⟨.hbm, 21, rfl⟩
abbrev main_call2_call0_v0 : Ref sig .tc := ⟨.hbm, 22, rfl⟩
abbrev main_call2_call0_v1 : Ref sig .tc := ⟨.hbm, 23, rfl⟩
abbrev main_call2_call0_v2 : Ref sig .tc := ⟨.hbm, 24, rfl⟩
abbrev main_call2_call0_v3 : Ref sig .tc := ⟨.hbm, 25, rfl⟩
abbrev main_call2_call0_v4 : Ref sig .tc := ⟨.hbm, 26, rfl⟩
abbrev main_call2_call0_v5 : Ref sig .tc := ⟨.hbm, 27, rfl⟩
abbrev main_call2_call0_v6 : Ref sig .tc := ⟨.hbm, 28, rfl⟩
abbrev main_call2_call0_v7 : Ref sig .tc := ⟨.hbm, 29, rfl⟩
abbrev main_call2_call0_v8 : Ref sig .tc := ⟨.hbm, 30, rfl⟩
abbrev main_call2_call0_v9 : Ref sig .tc := ⟨.hbm, 31, rfl⟩
abbrev main_call2_call0_v10 : Ref sig .tc := ⟨.hbm, 32, rfl⟩
abbrev main_call2_call0_v11 : Ref sig .tc := ⟨.hbm, 33, rfl⟩
abbrev main_call2_v1 : Ref sig .tc := ⟨.hbm, 34, rfl⟩
abbrev main_v13 : Ref sig .tc := ⟨.hbm, 35, rfl⟩

abbrev nD : Nat := 1
abbrev τ : Topo := Topo.v7x

variable {F : FTy → Type} [FloatOps F]
-- ==== Kernel17.lean ====
abbrev S64x1024 : Shape := ⟨2, ![64, 1024]⟩
abbrev S4x8x64x64 : Shape := ⟨4, ![4, 8, 64, 64]⟩
abbrev S4x64x64 : Shape := ⟨3, ![4, 64, 64]⟩
abbrev S4x64x8x16x64 : Shape := ⟨5, ![4, 64, 8, 16, 64]⟩
abbrev S4x64x128x8x16 : Shape := ⟨5, ![4, 64, 128, 8, 16]⟩
abbrev S4x64x8x16x8x16 : Shape := ⟨6, ![4, 64, 8, 16, 8, 16]⟩
abbrev S4x64x16 : Shape := ⟨3, ![4, 64, 16]⟩
abbrev S4x64x128 : Shape := ⟨3, ![4, 64, 128]⟩
abbrev S4x64x1x128 : Shape := ⟨4, ![4, 64, 1, 128]⟩
abbrev S4x64x2x128 : Shape := ⟨4, ![4, 64, 2, 128]⟩
abbrev S_ : Shape := ⟨0, ![]⟩
abbrev S4x64x6x128 : Shape := ⟨4, ![4, 64, 6, 128]⟩
abbrev S4x64x8x128 : Shape := ⟨4, ![4, 64, 8, 128]⟩
abbrev S4x64x8x16x128 : Shape := ⟨5, ![4, 64, 8, 16, 128]⟩
abbrev S4x64x1x16 : Shape := ⟨4, ![4, 64, 1, 16]⟩
abbrev S1x4x1x64x1x1x1x16 : Shape := ⟨8, ![1, 4, 1, 64, 1, 1, 1, 16]⟩
abbrev S1x4x1x64x8x1x1x16 : Shape := ⟨8, ![1, 4, 1, 64, 8, 1, 1, 16]⟩
abbrev S4x64x8x16 : Shape := ⟨4, ![4, 64, 8, 16]⟩
abbrev S4x64x128x128 : Shape := ⟨4, ![4, 64, 128, 128]⟩
abbrev S8x8x64x16 : Shape := ⟨4, ![8, 8, 64, 16]⟩
abbrev S64x8x8x16 : Shape := ⟨4, ![64, 8, 8, 16]⟩
abbrev S64x8x128 : Shape := ⟨3, ![64, 8, 128]⟩
abbrev S1x8x64x64 : Shape := ⟨4, ![1, 8, 64, 64]⟩
abbrev S8x64x64 : Shape := ⟨3, ![8, 64, 64]⟩
abbrev S8x64x128 : Shape := ⟨3, ![8, 64, 128]⟩
abbrev S8x8x128 : Shape := ⟨3, ![8, 8, 128]⟩
abbrev S1x8x128x128 : Shape := ⟨4, ![1, 8, 128, 128]⟩
abbrev S1x8x1x128 : Shape := ⟨4, ![1, 8, 1, 128]⟩
abbrev S1x8x8x128 : Shape := ⟨4, ![1, 8, 8, 128]⟩
abbrev S1x8x128 : Shape := ⟨3, ![1, 8, 128]⟩
abbrev S8x128 : Shape := ⟨2, ![8, 128]⟩
abbrev S1x1x8x128 : Shape := ⟨4, ![1, 1, 8, 128]⟩
abbrev S1x128 : Shape := ⟨2, ![1, 128]⟩
abbrev S1x1x128x128 : Shape := ⟨4, ![1, 1, 128, 128]⟩
abbrev S128x128 : Shape := ⟨2, ![128, 128]⟩
abbrev S1x1x1x128 : Shape := ⟨4, ![1, 1, 1, 128]⟩

abbrev nBuf : Space → Nat
  | .hbm => 42
  | .vmem => 18
  | .smem => 0
  | _ => 0

abbrev bufTy : (tb : Table) → Fin (tcTables nBuf tb) → BufTy
  | .hbm, ⟨0, _⟩ => ⟨S64x1024, .f32⟩
  | .hbm, ⟨1, _⟩ => ⟨S4x8x64x64, .f32⟩
  | .hbm, ⟨2, _⟩ => ⟨S4x8x64x64, .f32⟩
  | .hbm, ⟨3, _⟩ => ⟨S4x64x64, .f32⟩
  | .hbm, ⟨4, _⟩ => ⟨S4x64x64, .f32⟩
  | .hbm, ⟨5, _⟩ => ⟨S4x64x8x16x64, .f32⟩
  | .hbm, ⟨6, _⟩ => ⟨S4x64x8x16x64, .f32⟩
  | .hbm, ⟨7, _⟩ => ⟨S4x64x128x8x16, .f32⟩
  | .hbm, ⟨8, _⟩ => ⟨S4x64x8x16x8x16, .f32⟩
  | .hbm, ⟨9, _⟩ => ⟨S4x64x16, .f32⟩
  | .hbm, ⟨10, _⟩ => ⟨S4x64x128, .f32⟩
  | .hbm, ⟨11, _⟩ => ⟨S4x64x64, .f32⟩
  | .hbm, ⟨12, _⟩ => ⟨S4x64x128, .f32⟩
  | .hbm, ⟨13, _⟩ => ⟨S4x64x1x128, .f32⟩
  | .hbm, ⟨14, _⟩ => ⟨S4x64x1x128, .f32⟩
  | .hbm, ⟨15, _⟩ => ⟨S4x64x2x128, .f32⟩
  | .hbm, ⟨16, _⟩ => ⟨S_, .f32⟩
  | .hbm, ⟨17, _⟩ => ⟨S4x64x6x128, .f32⟩
  | .hbm, ⟨18, _⟩ => ⟨S4x64x8x128, .f32⟩
  | .hbm, ⟨19, _⟩ => ⟨S4x64x8x16x128, .f32⟩
  | .hbm, ⟨20, _⟩ => ⟨S4x64x1x16, .f32⟩
  | .hbm, ⟨21, _⟩ => ⟨S1x4x1x64x1x1x1x16, .f32⟩
  | .hbm, ⟨22, _⟩ => ⟨S1x4x1x64x8x1x1x16, .f32⟩
  | .hbm, ⟨23, _⟩ => ⟨S4x64x8x16, .f32⟩
  | .hbm, ⟨24, _⟩ => ⟨S4x64x1x128, .f32⟩
  | .hbm, ⟨25, _⟩ => ⟨S4x64x128x128, .f32⟩
  | .hbm, ⟨26, _⟩ => ⟨S4x64x128x128, .bf16⟩
  | .hbm, ⟨27, _⟩ => ⟨S4x64x128x128, .f32⟩
  | .hbm, ⟨28, _⟩ => ⟨S4x64x128x128, .bf16⟩
  | .hbm, ⟨29, _⟩ => ⟨S4x64x128x128, .f32⟩
  | .hbm, ⟨30, _⟩ => ⟨S4x64x128x128, .bf16⟩
  | .hbm, ⟨31, _⟩ => ⟨S8x8x64x16, .f32⟩
  | .hbm, ⟨32, _⟩ => ⟨S64x8x8x16, .f32⟩
  | .hbm, ⟨33, _⟩ => ⟨S64x8x128, .f32⟩
  | .hbm, ⟨34, _⟩ => ⟨S1x8x64x64, .f32⟩
  | .hbm, ⟨35, _⟩ => ⟨S8x64x64, .f32⟩
  | .hbm, ⟨36, _⟩ => ⟨S1x8x64x64, .f32⟩
  | .hbm, ⟨37, _⟩ => ⟨S8x64x64, .f32⟩
  | .hbm, ⟨38, _⟩ => ⟨S8x64x128, .f32⟩
  | .hbm, ⟨39, _⟩ => ⟨S64x8x128, .f32⟩
  | .hbm, ⟨40, _⟩ => ⟨S64x8x128, .f32⟩
  | .hbm, ⟨41, _⟩ => ⟨S64x8x128, .f32⟩
  | .local _ .vmem, ⟨0, _⟩ => ⟨S8x8x128, .f32⟩
  | .local _ .vmem, ⟨1, _⟩ => ⟨S8x8x128, .f32⟩
  | .local _ .vmem, ⟨2, _⟩ => ⟨S1x8x128x128, .bf16⟩
  | .local _ .vmem, ⟨3, _⟩ => ⟨S1x8x128x128, .bf16⟩
  | .local _ .vmem, ⟨4, _⟩ => ⟨S1x8x128x128, .bf16⟩
  | .local _ .vmem, ⟨5, _⟩ => ⟨S1x8x128x128, .bf16⟩
  | .local _ .vmem, ⟨6, _⟩ => ⟨S1x8x128x128, .bf16⟩
  | .local _ .vmem, ⟨7, _⟩ => ⟨S1x8x128x128, .bf16⟩
  | .local _ .vmem, ⟨8, _⟩ => ⟨S1x8x1x128, .f32⟩
  | .local _ .vmem, ⟨9, _⟩ => ⟨S1x8x1x128, .f32⟩
  | .local _ .vmem, ⟨10, _⟩ => ⟨S1x8x8x128, .f32⟩
  | .local _ .vmem, ⟨11, _⟩ => ⟨S1x8x8x128, .f32⟩
  | .local _ .vmem, ⟨12, _⟩ => ⟨S8x8x128, .f32⟩
  | .local _ .vmem, ⟨13, _⟩ => ⟨S8x8x128, .f32⟩
  | .local _ .vmem, ⟨14, _⟩ => ⟨S8x8x128, .f32⟩
  | .local _ .vmem, ⟨15, _⟩ => ⟨S8x8x128, .f32⟩
  | .local _ .vmem, ⟨16, _⟩ => ⟨S8x8x128, .f32⟩
  | .local _ .vmem, ⟨17, _⟩ => ⟨S8x8x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S64x1024 : Shape := ⟨2, ![64, 1024]⟩
abbrev S4x8x64x64 : Shape := ⟨4, ![4, 8, 64, 64]⟩
abbrev S4x64x64 : Shape := ⟨3, ![4, 64, 64]⟩
abbrev S4x64x8x16x64 : Shape := ⟨5, ![4, 64, 8, 16, 64]⟩
abbrev S4x64x128x8x16 : Shape := ⟨5, ![4, 64, 128, 8, 16]⟩
abbrev S4x64x8x16x8x16 : Shape := ⟨6, ![4, 64, 8, 16, 8, 16]⟩
abbrev S4x64x16 : Shape := ⟨3, ![4, 64, 16]⟩
abbrev S1x8x64x64 : Shape := ⟨4, ![1, 8, 64, 64]⟩
abbrev S8x64x64 : Shape := ⟨3, ![8, 64, 64]⟩
abbrev S1x64x64 : Shape := ⟨3, ![1, 64, 64]⟩
abbrev S64x64 : Shape := ⟨2, ![64, 64]⟩
abbrev S8x8x64x16 : Shape := ⟨4, ![8, 8, 64, 16]⟩
abbrev S1x64x8x16x64 : Shape := ⟨5, ![1, 64, 8, 16, 64]⟩
abbrev S64x8x16x64 : Shape := ⟨4, ![64, 8, 16, 64]⟩
abbrev S64x64x8 : Shape := ⟨3, ![64, 64, 8]⟩
abbrev S8x64x128 : Shape := ⟨3, ![8, 64, 128]⟩
abbrev S1x64x8x16x8x16 : Shape := ⟨6, ![1, 64, 8, 16, 8, 16]⟩
abbrev S64x8x16x8x16 : Shape := ⟨5, ![64, 8, 16, 8, 16]⟩
abbrev S64x8x16x8 : Shape := ⟨4, ![64, 8, 16, 8]⟩
abbrev S1x64x128x8x16 : Shape := ⟨5, ![1, 64, 128, 8, 16]⟩
abbrev S64x128x8x16 : Shape := ⟨4, ![64, 128, 8, 16]⟩
abbrev S1x64x16 : Shape := ⟨3, ![1, 64, 16]⟩
abbrev S64x16 : Shape := ⟨2, ![64, 16]⟩
abbrev S1x1x64x16 : Shape := ⟨4, ![1, 1, 64, 16]⟩
abbrev S_ : Shape := ⟨0, ![]⟩
abbrev S64x8x8x16 : Shape := ⟨4, ![64, 8, 8, 16]⟩
abbrev S64x8x128 : Shape := ⟨3, ![64, 8, 128]⟩

abbrev nBuf : Space → Nat
  | .hbm => 80
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S4x8x64x64, .f32⟩
  | .hbm, ⟨2, _⟩ => ⟨S4x8x64x64, .f32⟩
  | .hbm, ⟨3, _⟩ => ⟨S4x64x64, .f32⟩
  | .hbm, ⟨4, _⟩ => ⟨S4x64x64, .f32⟩
  | .hbm, ⟨5, _⟩ => ⟨S4x64x8x16x64, .f32⟩
  | .hbm, ⟨6, _⟩ => ⟨S4x64x8x16x64, .f32⟩
  | .hbm, ⟨7, _⟩ => ⟨S4x64x128x8x16, .f32⟩
  | .hbm, ⟨8, _⟩ => ⟨S4x64x8x16x8x16, .f32⟩
  | .hbm, ⟨9, _⟩ => ⟨S4x64x16, .f32⟩
  | .hbm, ⟨10, _⟩ => ⟨S1x8x64x64, .f32⟩
  | .hbm, ⟨11, _⟩ => ⟨S8x64x64, .f32⟩
  | .hbm, ⟨12, _⟩ => ⟨S1x8x64x64, .f32⟩
  | .hbm, ⟨13, _⟩ => ⟨S8x64x64, .f32⟩
  | .hbm, ⟨14, _⟩ => ⟨S1x64x64, .f32⟩
  | .hbm, ⟨15, _⟩ => ⟨S64x64, .f32⟩
  | .hbm, ⟨16, _⟩ => ⟨S1x64x64, .f32⟩
  | .hbm, ⟨17, _⟩ => ⟨S64x64, .f32⟩
  | .hbm, ⟨18, _⟩ => ⟨S8x8x64x16, .f32⟩
  | .hbm, ⟨19, _⟩ => ⟨S1x64x8x16x64, .f32⟩
  | .hbm, ⟨20, _⟩ => ⟨S64x8x16x64, .f32⟩
  | .hbm, ⟨21, _⟩ => ⟨S64x64x8, .f32⟩
  | .hbm, ⟨22, _⟩ => ⟨S8x64x64, .f32⟩
  | .hbm, ⟨23, _⟩ => ⟨S1x64x8x16x64, .f32⟩
  | .hbm, ⟨24, _⟩ => ⟨S64x8x16x64, .f32⟩
  | .hbm, ⟨25, _⟩ => ⟨S64x64x8, .f32⟩
  | .hbm, ⟨26, _⟩ => ⟨S8x64x64, .f32⟩
  | .hbm, ⟨27, _⟩ => ⟨S1x64x64, .f32⟩
  | .hbm, ⟨28, _⟩ => ⟨S8x64x64, .f32⟩
  | .hbm, ⟨29, _⟩ => ⟨S8x64x64, .f32⟩
  | .hbm, ⟨30, _⟩ => ⟨S1x64x64, .f32⟩
  | .hbm, ⟨31, _⟩ => ⟨S8x64x64, .f32⟩
  | .hbm, ⟨32, _⟩ => ⟨S8x64x64, .f32⟩
  | .hbm, ⟨33, _⟩ => ⟨S8x64x64, .f32⟩
  | .hbm, ⟨34, _⟩ => ⟨S8x64x64, .f32⟩
  | .hbm, ⟨35, _⟩ => ⟨S1x64x64, .f32⟩
  | .hbm, ⟨36, _⟩ => ⟨S8x64x64, .f32⟩
  | .hbm, ⟨37, _⟩ => ⟨S8x64x64, .f32⟩
  | .hbm, ⟨38, _⟩ => ⟨S1x64x64, .f32⟩
  | .hbm, ⟨39, _⟩ => ⟨S8x64x64, .f32⟩
  | .hbm, ⟨40, _⟩ => ⟨S8x64x64, .f32⟩
  | .hbm, ⟨41, _⟩ => ⟨S8x64x64, .f32⟩
  | .hbm, ⟨42, _⟩ => ⟨S8x64x64, .f32⟩
  | .hbm, ⟨43, _⟩ => ⟨S8x64x128, .f32⟩
  | .hbm, ⟨44, _⟩ => ⟨S1x64x8x16x8x16, .f32⟩
  | .hbm, ⟨45, _⟩ => ⟨S64x8x16x8x16, .f32⟩
  | .hbm, ⟨46, _⟩ => ⟨S64x8x16x8, .f32⟩
  | .hbm, ⟨47, _⟩ => ⟨S8x8x64x16, .f32⟩
  | .hbm, ⟨48, _⟩ => ⟨S1x64x128x8x16, .f32⟩
  | .hbm, ⟨49, _⟩ => ⟨S64x128x8x16, .f32⟩
  | .hbm, ⟨50, _⟩ => ⟨S64x8x16x8, .f32⟩
  | .hbm, ⟨51, _⟩ => ⟨S8x8x64x16, .f32⟩
  | .hbm, ⟨52, _⟩ => ⟨S8x8x64x16, .f32⟩
  | .hbm, ⟨53, _⟩ => ⟨S1x64x16, .f32⟩
  | .hbm, ⟨54, _⟩ => ⟨S64x16, .f32⟩
  | .hbm, ⟨55, _⟩ => ⟨S1x1x64x16, .f32⟩
  | .hbm, ⟨56, _⟩ => ⟨S8x8x64x16, .f32⟩
  | .hbm, ⟨57, _⟩ => ⟨S8x8x64x16, .f32⟩
  | .hbm, ⟨58, _⟩ => ⟨S8x8x64x16, .f32⟩
  | .hbm, ⟨59, _⟩ => ⟨S8x8x64x16, .f32⟩
  | .hbm, ⟨60, _⟩ => ⟨S8x8x64x16, .f32⟩
  | .hbm, ⟨61, _⟩ => ⟨S_, .f32⟩
  | .hbm, ⟨62, _⟩ => ⟨S8x8x64x16, .f32⟩
  | .hbm, ⟨63, _⟩ => ⟨S8x8x64x16, .f32⟩
  | .hbm, ⟨64, _⟩ => ⟨S8x8x64x16, .f32⟩
  | .hbm, ⟨65, _⟩ => ⟨S_, .f32⟩
  | .hbm, ⟨66, _⟩ => ⟨S8x8x64x16, .f32⟩
  | .hbm, ⟨67, _⟩ => ⟨S8x8x64x16, .f32⟩
  | .hbm, ⟨68, _⟩ => ⟨S8x8x64x16, .f32⟩
  | .hbm, ⟨69, _⟩ => ⟨S_, .f32⟩
  | .hbm, ⟨70, _⟩ => ⟨S8x8x64x16, .f32⟩
  | .hbm, ⟨71, _⟩ => ⟨S8x8x64x16, .f32⟩
  | .hbm, ⟨72, _⟩ => ⟨S_, .f32⟩
  | .hbm, ⟨73, _⟩ => ⟨S8x8x64x16, .f32⟩
  | .hbm, ⟨74, _⟩ => ⟨S8x8x64x16, .f32⟩
  | .hbm, ⟨75, _⟩ => ⟨S8x8x64x16, .f32⟩
  | .hbm, ⟨76, _⟩ => ⟨S64x8x8x16, .f32⟩
  | .hbm, ⟨77, _⟩ => ⟨S64x8x128, .f32⟩
  | .hbm, ⟨78, _⟩ => ⟨S8x64x128, .f32⟩
  | .hbm, ⟨79, _⟩ => ⟨S64x8x128, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_0 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_cst_2 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩

abbrev nD : Nat := 1
abbrev τ : Topo := Topo.v7x

variable {F : FTy → Type} [FloatOps F]
-- ==== Kernel18.lean ====
abbrev S8192x128 : Shape := ⟨2, ![8192, 128]⟩
abbrev S2x8x4096 : Shape := ⟨3, ![2, 8, 4096]⟩
abbrev S512x128 : Shape := ⟨2, ![512, 128]⟩
abbrev S1x8x512 : Shape := ⟨3, ![1, 8, 512]⟩
abbrev S1x128 : Shape := ⟨2, ![1, 128]⟩
abbrev S512x512 : Shape := ⟨2, ![512, 512]⟩
abbrev S128x512 : Shape := ⟨2, ![128, 512]⟩
abbrev S8x512 : Shape := ⟨2, ![8, 512]⟩

abbrev nBuf : Space → Nat
  | .hbm => 2
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S2x8x4096, .f32⟩
  | .local _ .vmem, ⟨0, _⟩ => ⟨S512x128, .f32⟩
  | .local _ .vmem, ⟨1, _⟩ => ⟨S512x128, .f32⟩
  | .local _ .vmem, ⟨2, _⟩ => ⟨S1x8x512, .f32⟩
  | .local _ .vmem, ⟨3, _⟩ => ⟨S1x8x512, .f32⟩
  | .local _ .vmem, ⟨4, _⟩ => ⟨S1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference18Ideal.lean ====
abbrev S8192x128 : Shape := ⟨2, ![8192, 128]⟩
abbrev S2x4096x128 : Shape := ⟨3, ![2, 4096, 128]⟩
abbrev S_ : Shape := ⟨0, ![]⟩
abbrev S2x4096x8 : Shape := ⟨3, ![2, 4096, 8]⟩
abbrev S2x8x4096 : Shape := ⟨3, ![2, 8, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x4096x128, .f32⟩
  | .hbm, ⟨2, _⟩ => ⟨S_, .f32⟩
  | .hbm, ⟨3, _⟩ => ⟨S_, .f32⟩
  | .hbm, ⟨4, _⟩ => ⟨S2x4096x128, .f32⟩
  | .hbm, ⟨5, _⟩ => ⟨S2x4096x8, .f32⟩
  | .hbm, ⟨6, _⟩ => ⟨S2x8x4096, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_call0_cst : Ref sig .tc := ⟨.hbm, 2, rfl⟩
abbrev main_call0_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Spec.lean ====
/-
  The mathematics both sides of the claims compute, at the extended reals: one row's root-mean-square norm, one hidden
  unit of the gated feed-forward layer, and the feed-forward row with its half residual.
-/
module

public import Idealize.ShloMosaic.Lib.Pointwise

@[expose] public section

noncomputable section

namespace Cert.Layer

open Idealize.ShloMosaic

/-- Entry `d` of the row `x` divided by its root mean square and scaled by `g`: the mean is taken by `cnt`, the count of
    entries as a float constant, and `eps` is added under the root. -/
def rms {n : ℕ} (cnt : EReal) (x g : Fin n → EReal) (d : Fin n) : EReal :=
  x d * Ideal.rsqrt (Ideal.div (∑ k, x k * x k) cnt + Ideal.ofBits .f32 0x358637BD#32) * g d

/-- The count of the model's 2048 columns, as the constant the programs carry. -/
abbrev c2048 : EReal := Ideal.ofBits .f32 0x45000000#32
/-- The count of a head's 128 columns, as the constant the programs carry. -/
abbrev c128 : EReal := Ideal.ofBits .f32 0x43000000#32
/-- The constant one half. -/
abbrev half : EReal := Ideal.ofBits .f32 0x3F000000#32

/-- The inner product of a row and a column. -/
def dot {n : ℕ} (x w : Fin n → EReal) : EReal := ∑ k, x k * w k

/-- One hidden unit: the gate's projection through `z · sigmoid z`, times the up projection. -/
def hid {n : ℕ} (h wg wu : Fin n → EReal) : EReal := dot h wg * Ideal.logistic (dot h wg) * dot h wu

/-- One entry of the feed-forward half step: `x` plus half of the hidden units against the down projection's column. -/
def ffn {n f : ℕ} (cnt : EReal) (x g : Fin n → EReal) (wg wu : Fin n → Fin f → EReal) (wd : Fin f → Fin n → EReal)
    (d : Fin n) : EReal :=
  x d + half * ∑ j, hid (rms cnt x g) (fun k => wg k j) (fun k => wu k j) * wd j d

end Cert.Layer
-- ==== Proof.FfnStep.lean ====
/-
  What one grid point of the feed-forward kernel leaves in its two outputs and its carried scratch, as the body's named
  payloads: the first column block resets, the middle ones add, the last one adds and finishes.
-/
module

public import proofs.«01_k».proof.Proof.Gen.KernelIdeal.Value
public import Idealize.ShloMosaic.Lib.Pointwise

@[expose] public section

set_option maxRecDepth 16384

noncomputable section

namespace Cert.KernelIdeal.Ffn

open Idealize.ShloMosaic Idealize.ShloMosaic.TcCoe Idealize.SL.Sem
open Cert.KernelIdeal Cert.KernelIdeal.Gen Cert.KernelIdeal.Value

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

variable {F : FTy → Type} [FloatOps F]
variable (m : (ℓ : Loc nD τ sig) → Buf (Elt F) ℓ)

/-- At the first point of a row block the partial product is stored and the scratch gets the normed rows. -/
theorem step_A (c : Dev nD) (t : Fin cfg0.N) (acc : Vec F S688x2048 .f32 × Vec F S688x2048 .bf16 × Vec F S688x2048 .bf16) (h : t.val % 11 = 0) :
    (stAt0 m c t.val t.isLt acc).1 = k0_pay2 (k0_pay1 (iblk m c 0 t) (iblk m c 1 t)) (iblk m c 2 t) (iblk m c 3 t) (iblk m c 4 t) := by
  rw [stAt0_A m c t acc h h (by omega) (by omega)]
  dsimp only
  unfold out0_A_6
  refine (View.read_writes_eq_canon _ _ _ (fun y => cover0_A_6 _ _ _ _ _ _ _ _ _ _ _ _ _ _ _ _ _ _ _ _ _ _ _ _ _ _ _ _ _ _ y)).trans ?_
  unfold kernelRun0_A
  dsimp only
  sl_unfold_words
  rw [View.canon_unit_zero hz]
  simp only [View.readAt_eq_ld, View.readCov_unit_zero (S := S688x2048) _ hz, (hs0_0 t).read_unread, (hs0_1 t).read_unread, (hs0_2 t).read_unread, (hs0_3 t).read_unread, (hs0_4 t).read_unread, View.ld_unit_zero (S := S688x2048) hz,  View.ld_unit_zero (S := S1x2048) hz,
    View.ld_unit_zero (S := S1x2048x512) hz3, View.ld_unit_zero (S := S1x512x2048) hz3]

/-- ... and the scratch holds the normed rows. -/
theorem scr_A (c : Dev nD) (t : Fin cfg0.N) (acc : Vec F S688x2048 .f32 × Vec F S688x2048 .bf16 × Vec F S688x2048 .bf16) (h : t.val % 11 = 0) :
    (stAt0 m c t.val t.isLt acc).2.2 = k0_pay1 (iblk m c 0 t) (iblk m c 1 t) := by
  rw [stAt0_A m c t acc h h (by omega) (by omega)]
  dsimp only
  unfold sout0_A_0
  refine (View.read_writes_eq_canon _ _ _ (fun y => scover0_A_0 _ _ _ _ _ _ _ _ _ _ _ _ _ _ _ _ _ _ _ _ _ _ _ _ _ _ _ _ _ _ y)).trans ?_
  unfold kernelRun0_A
  dsimp only
  sl_unfold_words
  rw [View.canon_unit_zero hz]
  simp only [View.readAt_eq_ld, View.readCov_unit_zero (S := S688x2048) _ hz, (hs0_0 t).read_unread, (hs0_1 t).read_unread, (hs0_2 t).read_unread, (hs0_3 t).read_unread, (hs0_4 t).read_unread, View.ld_unit_zero (S := S688x2048) hz,  View.ld_unit_zero (S := S1x2048) hz,
    View.ld_unit_zero (S := S1x2048x512) hz3, View.ld_unit_zero (S := S1x512x2048) hz3]

/-- At a middle point the partial product is added to what the output holds; the scratch stays. -/
theorem step_B (c : Dev nD) (t : Fin cfg0.N) (acc : Vec F S688x2048 .f32 × Vec F S688x2048 .bf16 × Vec F S688x2048 .bf16) (h : t.val % 11 ≠ 0) (h' : t.val % 11 ≠ 10) :
    (stAt0 m c t.val t.isLt acc).1 = k0_pay3 acc.2.2 (iblk m c 2 t) (iblk m c 3 t) (iblk m c 4 t) acc.1 ∧ (stAt0 m c t.val t.isLt acc).2.2 = acc.2.2 := by
  rw [stAt0_B m c t acc h h (by omega) h']
  dsimp only
  constructor
  · unfold out0_B_6
    refine (View.read_writes_eq_canon _ _ _ (fun y => cover0_B_6 _ _ _ _ _ _ _ _ _ _ _ _ _ _ _ _ _ _ _ _ _ _ _ _ _ _ _ _ _ _ _ _ y)).trans ?_
    unfold kernelRun0_B
    dsimp only
    sl_unfold_words
    rw [View.canon_unit_zero hz]
    simp only [View.readAt_eq_ld, View.readCov_unit_zero (S := S688x2048) _ hz, (hs0_0 t).read_unread, (hs0_1 t).read_unread, (hs0_2 t).read_unread, (hs0_3 t).read_unread, (hs0_4 t).read_unread, (hs0_6 t).read_unread, (Memref.isWhole_whole _ : scM0_0.IsWhole).read_unread, View.ld_unit_zero (S := S688x2048) hz,  View.ld_unit_zero (S := S1x2048) hz,
    View.ld_unit_zero (S := S1x2048x512) hz3, View.ld_unit_zero (S := S1x512x2048) hz3]
  · unfold sout0_B_0
    rfl

/-- At the last point of a row block the residual is taken and the second output gets the normed result. -/
theorem step_C (c : Dev nD) (t : Fin cfg0.N) (acc : Vec F S688x2048 .f32 × Vec F S688x2048 .bf16 × Vec F S688x2048 .bf16)  (h' : t.val % 11 = 10) :
    (stAt0 m c t.val t.isLt acc).1 = k0_pay4 (iblk m c 0 t) (k0_pay3 acc.2.2 (iblk m c 2 t) (iblk m c 3 t) (iblk m c 4 t) acc.1) ∧ (stAt0 m c t.val t.isLt acc).2.1 = k0_pay5 (iblk m c 0 t) (k0_pay3 acc.2.2 (iblk m c 2 t) (iblk m c 3 t) (iblk m c 4 t) acc.1) (iblk m c 5 t) := by
  rw [stAt0_C m c t acc (by omega) (by omega) (by omega) h']
  dsimp only
  constructor
  · unfold out0_C_6
    refine (View.read_writes_eq_canon _ _ _ (fun y => cover0_C_6 _ _ _ _ _ _ _ _ _ _ _ _ _ _ _ _ _ _ _ _ _ _ _ _ _ _ _ _ _ _ _ _ y)).trans ?_
    unfold kernelRun0_C
    dsimp only
    sl_unfold_words
    rw [View.canon_cons_unit_zero (S:= S688x2048) hz]
    simp only [View.readAt_eq_ld, View.readCov_unit_zero (S := S688x2048) _ hz, (hs0_0 t).read_unread, (hs0_1 t).read_unread, (hs0_2 t).read_unread, (hs0_3 t).read_unread, (hs0_4 t).read_unread, (hs0_6 t).read_unread, (Memref.isWhole_whole _ : scM0_0.IsWhole).read_unread, View.ld_unit_zero (S := S688x2048) hz,  View.ld_unit_zero (S := S1x2048) hz,
    View.ld_unit_zero (S := S1x2048x512) hz3, View.ld_unit_zero (S := S1x512x2048) hz3]
  · unfold out0_C_7
    refine (View.read_writes_eq_canon _ _ _ (fun y => cover0_C_7 _ _ _ _ _ _ _ _ _ _ _ _ _ _ _ _ _ _ _ _ _ _ _ _ _ _ _ _ _ _ _ _ y)).trans ?_
    unfold kernelRun0_C
    dsimp only
    sl_unfold_words
    rw [View.canon_unit_zero hz]
    simp only [View.readAt_eq_ld, View.readCov_unit_zero (S := S688x2048) _ hz, (hs0_0 t).read_unread, (hs0_1 t).read_unread, (hs0_2 t).read_unread, (hs0_3 t).read_unread, (hs0_4 t).read_unread, (hs0_5 t).read_unread, (hs0_6 t).read_unread, (Memref.isWhole_whole _ : scM0_0.IsWhole).read_unread, View.ld_unit_zero (S := S688x2048) hz,  View.ld_unit_zero (S := S1x2048) hz,
    View.ld_unit_zero (S := S1x2048x512) hz3, View.ld_unit_zero (S := S1x512x2048) hz3]

end Cert.KernelIdeal.Ffn
-- ==== Proof.FfnBlocks.lean ====
/-
  What the feed-forward kernel's input windows hold at a grid point, entry by entry, from the arguments: the rows of the
  point's row block, the norms' gains, and the point's column block of the three weight matrices of layer 0.
-/
module

public import proofs.«01_k».proof.Proof.FfnStep

@[expose] public section

set_option maxRecDepth 16384

noncomputable section

namespace Cert.KernelIdeal.Ffn

open Idealize.ShloMosaic Idealize.ShloMosaic.TcCoe Idealize.SL.Sem
open Cert.KernelIdeal Cert.KernelIdeal.Gen Cert.KernelIdeal.Value

variable (m : (ℓ : Loc nD τ sig) → Buf (Elt Ideal) ℓ)

/-- The region finds the gate weights converted, which changes nothing at the extended reals. -/
theorem V_gate (c : Dev nD) : V m c main_v2 = m ((c : Thread nD τ).loc main_arg2) := by
  unfold_abbrev_sides; after_results; rfl
/-- The region finds the up weights likewise. -/
theorem V_up (c : Dev nD) : V m c main_v3 = m ((c : Thread nD τ).loc main_arg3) := by
  unfold_abbrev_sides; after_results; rfl
/-- The region finds the down weights likewise. -/
theorem V_down (c : Dev nD) : V m c main_v4 = m ((c : Thread nD τ).loc main_arg4) := by
  unfold_abbrev_sides; after_results; rfl
/-- The region finds the first norm's gain as one row. -/
theorem V_gain (c : Dev nD) (d : Fin 2048) :
    (V m c main_v7 : Vec Ideal S1x2048 .f32) (ix2 0 d) = (m ((c : Thread nD τ).loc main_arg1) : Vec Ideal S4x2048 .f32) (ix2 0 d) := by
  unfold_abbrev_sides; after_results
  show shapeCast S1x2048 (shapeCast S2048 (extractStridedSlice S1x2048 ![0, 0] (m ((c : Thread nD τ).loc main_arg1) : Vec Ideal S4x2048 .f32) slices_S4x2048_S1x2048_0_0) shapeCasts_S1x2048_S2048) shapeCasts_S2048_S1x2048 (ix2 0 d) = _
  pointwise
/-- The region finds the second norm's gain as one row. -/
theorem V_gain2 (c : Dev nD) (d : Fin 2048) :
    (V m c main_v8 : Vec Ideal S1x2048 .f32) (ix2 0 d) = (m ((c : Thread nD τ).loc main_arg5) : Vec Ideal S4x2048 .f32) (ix2 0 d) := by
  unfold_abbrev_sides; after_results
  show shapeCast S1x2048 (shapeCast S2048 (extractStridedSlice S1x2048 ![0, 0] (m ((c : Thread nD τ).loc main_arg5) : Vec Ideal S4x2048 .f32) slices_S4x2048_S1x2048_0_0) shapeCasts_S1x2048_S2048) shapeCasts_S2048_S1x2048 (ix2 0 d) = _
  pointwise

theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val % 11 :=
  (by decide +kernel : ∀ t : Fin grid0.N, _)
theorem idx3 : ∀ t : Fin cfg0.N, win0_3.index t (0 : Fin 3) = 0 ∧ win0_3.index t (1 : Fin 3) = 0 ∧ win0_3.index t (2 : Fin 3) = t.val % 11 :=
  (by decide +kernel : ∀ t : Fin grid0.N, _)
theorem idx4 : ∀ t : Fin cfg0.N, win0_4.index t (0 : Fin 3) = 0 ∧ win0_4.index t (1 : Fin 3) = t.val % 11 ∧ win0_4.index t (2 : Fin 3) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

/-- The input rows of the point's row block. -/
theorem blk_x (c : Dev nD) (t : Fin cfg0.N) (r : Fin 688) (d : Fin 2048) (R : Fin 8256) (hR : R.val = 688 * (t.val / 11) + r.val) :
    (iblk m c 0 t : Vec Ideal S688x2048 .f32) (ix2 r d) = (m ((c : Thread nD τ).loc main_arg0) : Vec Ideal S8256x2048 .f32) (ix2 R d) := by
  unfold iblk
  rw [View.read_apply]
  show V m c main_arg0 _ = _
  rw [V_main_arg0]
  congr 1; funext a; apply Fin.ext
  match a with
  | ⟨0, _⟩ => show win0_0.index t (0 : Fin 2) * 688 + 1 * r.val = R.val; rw [(idx0 t).1]; omega
  | ⟨1, _⟩ => show win0_0.index t (1 : Fin 2) * 2048 + 1 * d.val = d.val; rw [(idx0 t).2]; omega

/-- The first norm's gain. -/
theorem blk_g (c : Dev nD) (t : Fin cfg0.N) (d : Fin 2048) :
    (iblk m c 1 t : Vec Ideal S1x2048 .f32) (ix2 0 d) = (m ((c : Thread nD τ).loc main_arg1) : Vec Ideal S4x2048 .f32) (ix2 0 d) := by
  refine Eq.trans ?_ (V_gain m c d)
  unfold iblk
  rw [View.read_apply]
  show V m c main_v7 _ = _
  congr 1; funext a; apply Fin.ext
  match a with
  | ⟨0, _⟩ => show win0_1.index t (0 : Fin 2) * 1 + 1 * 0 = 0; rw [(idx1 t).1]
  | ⟨1, _⟩ => show win0_1.index t (1 : Fin 2) * 2048 + 1 * d.val = d.val; rw [(idx1 t).2]; omega

/-- The second norm's gain. -/
theorem blk_g2 (c : Dev nD) (t : Fin cfg0.N) (d : Fin 2048) :
    (iblk m c 5 t : Vec Ideal S1x2048 .f32) (ix2 0 d) = (m ((c : Thread nD τ).loc main_arg5) : Vec Ideal S4x2048 .f32) (ix2 0 d) := by
  refine Eq.trans ?_ (V_gain2 m c d)
  unfold iblk
  rw [View.read_apply]
  show V m c main_v8 _ = _
  congr 1; funext a; apply Fin.ext
  match a with
  | ⟨0, _⟩ => show win0_5.index t (0 : Fin 2) * 1 + 1 * 0 = 0; rw [(idx5 t).1]
  | ⟨1, _⟩ => show win0_5.index t (1 : Fin 2) * 2048 + 1 * d.val = d.val; rw [(idx5 t).2]; omega

/-- The gate weights' column block. -/
theorem blk_gate (c : Dev nD) (t : Fin cfg0.N) (k : Fin 2048) (f : Fin 512) (J : Fin 5632) (hJ : J.val = 512 * (t.val % 11) + f.val) :
    (iblk m c 2 t : Vec Ideal S1x2048x512 .bf16) (ix3 0 k f) = (m ((c : Thread nD τ).loc main_arg2) : Vec Ideal S4x2048x5632 .f32) (ix3 0 k J) := by
  unfold iblk
  rw [View.read_apply]
  show V m c main_v2 _ = _
  rw [V_gate]
  congr 1; funext a; apply Fin.ext
  match a with
  | ⟨0, _⟩ => show win0_2.index t (0 : Fin 3) * 1 + 1 * 0 = 0; rw [(idx2 t).1]
  | ⟨1, _⟩ => show win0_2.index t (1 : Fin 3) * 2048 + 1 * k.val = k.val; rw [(idx2 t).2.1]; omega
  | ⟨2, _⟩ => show win0_2.index t (2 : Fin 3) * 512 + 1 * f.val = J.val; rw [(idx2 t).2.2]; omega

/-- The up weights' column block. -/
theorem blk_up (c : Dev nD) (t : Fin cfg0.N) (k : Fin 2048) (f : Fin 512) (J : Fin 5632) (hJ : J.val = 512 * (t.val % 11) + f.val) :
    (iblk m c 3 t : Vec Ideal S1x2048x512 .bf16) (ix3 0 k f) = (m ((c : Thread nD τ).loc main_arg3) : Vec Ideal S4x2048x5632 .f32) (ix3 0 k J) := by
  unfold iblk
  rw [View.read_apply]
  show V m c main_v3 _ = _
  rw [V_up]
  congr 1; funext a; apply Fin.ext
  match a with
  | ⟨0, _⟩ => show win0_3.index t (0 : Fin 3) * 1 + 1 * 0 = 0; rw [(idx3 t).1]
  | ⟨1, _⟩ => show win0_3.index t (1 : Fin 3) * 2048 + 1 * k.val = k.val; rw [(idx3 t).2.1]; omega
  | ⟨2, _⟩ => show win0_3.index t (2 : Fin 3) * 512 + 1 * f.val = J.val; rw [(idx3 t).2.2]; omega

/-- The down weights' row block. -/
theorem blk_down (c : Dev nD) (t : Fin cfg0.N) (f : Fin 512) (d : Fin 2048) (J : Fin 5632) (hJ : J.val = 512 * (t.val % 11) + f.val) :
    (iblk m c 4 t : Vec Ideal S1x512x2048 .bf16) (ix3 0 f d) = (m ((c : Thread nD τ).loc main_arg4) : Vec Ideal S4x5632x2048 .f32) (ix3 0 J d) := by
  unfold iblk
  rw [View.read_apply]
  show V m c main_v4 _ = _
  rw [V_down]
  congr 1; funext a; apply Fin.ext
  match a with
  | ⟨0, _⟩ => show win0_4.index t (0 : Fin 3) * 1 + 1 * 0 = 0; rw [(idx4 t).1]
  | ⟨1, _⟩ => show win0_4.index t (1 : Fin 3) * 512 + 1 * f.val = J.val; rw [(idx4 t).2.1]; omega
  | ⟨2, _⟩ => show win0_4.index t (2 : Fin 3) * 2048 + 1 * d.val = d.val; rw [(idx4 t).2.2]; omega

end Cert.KernelIdeal.Ffn
-- ==== Proof.FfnFold.lean ====
/-
  What the feed-forward kernel's result arrays hold, entry by entry: the partial sums over the column blocks add up to
  the sum over all hidden units, by induction on the grid point.
-/
module

public import proofs.«01_k».proof.Proof.Spec
public import proofs.«01_k».proof.Proof.FfnBlocks

@[expose] public section

set_option maxRecDepth 16384

noncomputable section

namespace Cert.KernelIdeal.Ffn

open Idealize.ShloMosaic Idealize.ShloMosaic.TcCoe Idealize.SL.Sem
open Cert.KernelIdeal Cert.KernelIdeal.Gen Cert.KernelIdeal.Value Cert.Layer

/-! ## The payloads at an entry -/

/-- The normed rows. -/
theorem pay1_apply (x : Vec Ideal S688x2048 .f32) (g : Vec Ideal S1x2048 .f32) (r : Fin 688) (d : Fin 2048) :
    k0_pay1 (F := Ideal) x g (ix2 r d) = rms c2048 (fun k => x (ix2 r k)) (fun k => g (ix2 0 k)) d := by
  pointwise [k0_pay1]
  rfl

/-- One column block's contribution to the down projection. -/
theorem pay2_apply (h : Vec Ideal S688x2048 .bf16) (wg wu : Vec Ideal S1x2048x512 .bf16) (wd : Vec Ideal S1x512x2048 .bf16)
    (r : Fin 688) (d : Fin 2048) : k0_pay2 (F := Ideal) h wg wu wd (ix2 r d)
      = ∑ f : Fin 512, hid (fun k => h (ix2 r k)) (fun k => wg (ix3 0 k f)) (fun k => wu (ix3 0 k f)) * wd (ix3 0 f d) := by
  pointwise [k0_pay2]
  rfl

/-- The contribution added to what was there. -/
theorem pay3_apply (h : Vec Ideal S688x2048 .bf16) (wg wu : Vec Ideal S1x2048x512 .bf16) (wd : Vec Ideal S1x512x2048 .bf16)
    (o : Vec Ideal S688x2048 .f32) (r : Fin 688) (d : Fin 2048) : k0_pay3 (F := Ideal) h wg wu wd o (ix2 r d)
      = o (ix2 r d) + ∑ f : Fin 512, hid (fun k => h (ix2 r k)) (fun k => wg (ix3 0 k f)) (fun k => wu (ix3 0 k f)) * wd (ix3 0 f d) := by
  pointwise [k0_pay3]
  rw [pay2_apply]

/-- The half residual. -/
theorem pay4_apply (x o : Vec Ideal S688x2048 .f32) (r : Fin 688) (d : Fin 2048) :
    k0_pay4 (F := Ideal) x o (ix2 r d) = x (ix2 r d) + half * o (ix2 r d) := by
  pointwise [k0_pay4]

/-- The norm of the half residual. -/
theorem pay5_apply (x o : Vec Ideal S688x2048 .f32) (g : Vec Ideal S1x2048 .f32) (r : Fin 688) (d : Fin 2048) :
    k0_pay5 (F := Ideal) x o g (ix2 r d) = rms c2048 (fun k => x (ix2 r k) + half * o (ix2 r k)) (fun k => g (ix2 0 k)) d := by
  pointwise [k0_pay5]
  simp only [pay4_apply]
  rfl

/-! ## The arguments by row and column -/

variable (m : (ℓ : Loc nD τ sig) → Buf (Elt Ideal) ℓ)

/-- Row `R` of the input. -/
abbrev inRow (c : Dev nD) (R : Fin 8256) : Fin 2048 → EReal :=
  fun k => (m ((c : Thread nD τ).loc main_arg0) : Vec Ideal S8256x2048 .f32) (ix2 R k)
/-- Layer 0's first gain. -/
abbrev gain (c : Dev nD) : Fin 2048 → EReal :=
  fun k => (m ((c : Thread nD τ).loc main_arg1) : Vec Ideal S4x2048 .f32) (ix2 0 k)
/-- Layer 0's gate weights. -/
abbrev gateW (c : Dev nD) : Fin 2048 → Fin 5632 → EReal :=
  fun k j => (m ((c : Thread nD τ).loc main_arg2) : Vec Ideal S4x2048x5632 .f32) (ix3 0 k j)
/-- Layer 0's up weights. -/
abbrev upW (c : Dev nD) : Fin 2048 → Fin 5632 → EReal :=
  fun k j => (m ((c : Thread nD τ).loc main_arg3) : Vec Ideal S4x2048x5632 .f32) (ix3 0 k j)
/-- Layer 0's down weights. -/
abbrev downW (c : Dev nD) : Fin 5632 → Fin 2048 → EReal :=
  fun j d => (m ((c : Thread nD τ).loc main_arg4) : Vec Ideal S4x5632x2048 .f32) (ix3 0 j d)
/-- Layer 0's second gain. -/
abbrev gain2 (c : Dev nD) : Fin 2048 → EReal :=
  fun k => (m ((c : Thread nD τ).loc main_arg5) : Vec Ideal S4x2048 .f32) (ix2 0 k)

/-- Hidden unit `j`'s share of entry `(R, d)` of the down projection, zero past the last unit. -/
def share (c : Dev nD) (R : Fin 8256) (d : Fin 2048) (j : ℕ) : EReal :=
  if h : j < 5632 then
    hid (rms c2048 (inRow m c R) (gain m c)) (fun k => gateW m c k ⟨j, h⟩) (fun k => upW m c k ⟨j, h⟩) * downW m c ⟨j, h⟩ d
  else 0

/-- All shares add up to the down projection's sum. -/
theorem sum_share (c : Dev nD) (R : Fin 8256) (d : Fin 2048) : ∑ j ∈ Finset.range 5632, share m c R d j
    = ∑ j, hid (rms c2048 (inRow m c R) (gain m c)) (fun k => gateW m c k j) (fun k => upW m c k j) * downW m c j d := by
  rw [Finset.sum_range]
  exact Finset.sum_congr rfl fun j _ => dif_pos j.isLt

/-- A point's contribution is the shares of its column block. -/
theorem block_share (c : Dev nD) (t : Fin cfg0.N) (h : Vec Ideal S688x2048 .bf16) (r : Fin 688) (R : Fin 8256) (d : Fin 2048)
    (hh : ∀ k, h (ix2 r k) = rms c2048 (inRow m c R) (gain m c) k) :
    (∑ f : Fin 512, hid (fun k => h (ix2 r k)) (fun k => (iblk m c 2 t : Vec Ideal S1x2048x512 .bf16) (ix3 0 k f))
        (fun k => (iblk m c 3 t : Vec Ideal S1x2048x512 .bf16) (ix3 0 k f)) * (iblk m c 4 t : Vec Ideal S1x512x2048 .bf16) (ix3 0 f d))
      = ∑ j ∈ Finset.range 512, share m c R d (512 * (t.val % 11) + j) := by
  rw [Finset.sum_range]
  refine Finset.sum_congr rfl fun f _ => ?_
  have hj : 512 * (t.val % 11) + f.val < 5632 := by have := f.isLt; omega
  unfold share
  rw [dif_pos hj, blk_down m c t f d ⟨_, hj⟩ rfl]
  simp only [hh, blk_gate m c t _ f ⟨_, hj⟩ rfl, blk_up m c t _ f ⟨_, hj⟩ rfl]

/-! ## The fold -/

/-- What the output and the scratch hold after point `n`, short of the last of its row block: the partial sums over the
    column blocks so far, and the normed rows. -/
def Held (c : Dev nD) (n : ℕ) (o : Vec Ideal S688x2048 .f32 × Vec Ideal S688x2048 .bf16 × Vec Ideal S688x2048 .bf16) : Prop :=
  ∀ (r : Fin 688) (R : Fin 8256), R.val = 688 * (n / 11) + r.val →
    (∀ k, o.2.2 (ix2 r k) = rms c2048 (inRow m c R) (gain m c) k)
    ∧ ∀ d, o.1 (ix2 r d) = ∑ j ∈ Finset.range (512 * (n % 11 + 1)), share m c R d j

/-- The first column block. -/
theorem held_first (c : Dev nD) (t : Fin cfg0.N) (h : t.val % 11 = 0)
    (acc : Vec Ideal S688x2048 .f32 × Vec Ideal S688x2048 .bf16 × Vec Ideal S688x2048 .bf16) :
    Held m c t.val (stAt0 m c t.val t.isLt acc) := by
  intro r R hR
  have hn : ∀ k, k0_pay1 (F := Ideal) (iblk m c 0 t) (iblk m c 1 t) (ix2 r k) = rms c2048 (inRow m c R) (gain m c) k := fun k => by
    rw [pay1_apply]
    simp only [blk_x m c t r _ R hR, blk_g]
  refine ⟨fun k => by rw [scr_A m c t acc h, hn], fun d => ?_⟩
  rw [step_A m c t acc h, pay2_apply, block_share m c t _ r R d hn, h]
  simp only [Nat.mul_zero, Nat.zero_add, Nat.mul_one]

/-- A further column block: the sum so far grows by the block's shares. -/
theorem sum_grow (c : Dev nD) (t : Fin cfg0.N) (h : t.val % 11 ≠ 0)
    (acc : Vec Ideal S688x2048 .f32 × Vec Ideal S688x2048 .bf16 × Vec Ideal S688x2048 .bf16)
    (ha : Held m c (t.val - 1) acc) (r : Fin 688) (R : Fin 8256) (hR : R.val = 688 * (t.val / 11) + r.val) (d : Fin 2048) :
    k0_pay3 (F := Ideal) acc.2.2 (iblk m c 2 t) (iblk m c 3 t) (iblk m c 4 t) acc.1 (ix2 r d)
      = ∑ j ∈ Finset.range (512 * (t.val % 11 + 1)), share m c R d j := by
  obtain ⟨h1, h2⟩ := ha r R (by omega)
  rw [pay3_apply, block_share m c t _ r R d h1, h2, show (t.val - 1) % 11 + 1 = t.val % 11 by omega,
    show 512 * (t.val % 11 + 1) = 512 * (t.val % 11) + 512 by omega, Finset.sum_range_add]

/-- A middle column block. -/
theorem held_next (c : Dev nD) (t : Fin cfg0.N) (h : t.val % 11 ≠ 0) (h' : t.val % 11 ≠ 10)
    (acc : Vec Ideal S688x2048 .f32 × Vec Ideal S688x2048 .bf16 × Vec Ideal S688x2048 .bf16)
    (ha : Held m c (t.val - 1) acc) : Held m c t.val (stAt0 m c t.val t.isLt acc) := by
  intro r R hR
  obtain ⟨e1, e2⟩ := step_B m c t acc h h'
  refine ⟨fun k => ?_, fun d => ?_⟩
  · rw [e2]; exact (ha r R (by omega)).1 k
  · rw [e1]; exact sum_grow m c t h acc ha r R hR d

/-- After every point but the last of a row block, the partial sums are held. -/
theorem held (c : Dev nD) : ∀ (n : ℕ) (hn : n < cfg0.N), n % 11 ≠ 10 → Held m c n (outsAt0 m c n hn)
  | 0, hn, _ => by rw [outsAt0_zero]; exact held_first m c ⟨0, hn⟩ rfl _
  | n + 1, hn, h => by
    rw [outsAt0_succ]
    by_cases h0 : (n + 1) % 11 = 0
    · exact held_first m c ⟨n + 1, hn⟩ h0 _
    · exact held_next m c ⟨n + 1, hn⟩ h0 h _ (held c n (Nat.lt_of_succ_lt hn) (by omega))

/-- The half step of row `R`. -/
abbrev outRow (c : Dev nD) (R : Fin 8256) : Fin 2048 → EReal :=
  ffn c2048 (inRow m c R) (gain m c) (gateW m c) (upW m c) (downW m c)

/-- At the last point of a row block the outputs hold the half step and its norm. -/
theorem last (c : Dev nD) (n : ℕ) (hn : n < cfg0.N) (h : n % 11 = 10) (r : Fin 688) (R : Fin 8256)
    (hR : R.val = 688 * (n / 11) + r.val) (d : Fin 2048) :
    (outsAt0 m c n hn).1 (ix2 r d) = outRow m c R d
    ∧ (outsAt0 m c n hn).2.1 (ix2 r d) = rms c2048 (outRow m c R) (gain2 m c) d := by
  obtain ⟨n, rfl⟩ : ∃ k, n = k + 1 := ⟨n - 1, by omega⟩
  rw [outsAt0_succ]
  obtain ⟨e1, e2⟩ := step_C m c ⟨n + 1, hn⟩ (outsAt0 m c n (Nat.lt_of_succ_lt hn)) h
  have hs : ∀ d, k0_pay3 (F := Ideal) (outsAt0 m c n (Nat.lt_of_succ_lt hn)).2.2 (iblk m c 2 ⟨n + 1, hn⟩) (iblk m c 3 ⟨n + 1, hn⟩)
      (iblk m c 4 ⟨n + 1, hn⟩) (outsAt0 m c n (Nat.lt_of_succ_lt hn)).1 (ix2 r d)
      = ∑ j, hid (rms c2048 (inRow m c R) (gain m c)) (fun k => gateW m c k j) (fun k => upW m c k j) * downW m c j d := fun d => by
    rw [sum_grow m c ⟨n + 1, hn⟩ (by dsimp only; omega) _ (held m c n (Nat.lt_of_succ_lt hn) (by omega)) r R hR d]
    dsimp only
    rw [h]; exact sum_share m c R d
  refine ⟨?_, ?_⟩
  · refine (congrFun e1 _).trans ?_
    rw [pay4_apply, hs, blk_x m c ⟨n + 1, hn⟩ r d R hR]; rfl
  · refine (congrFun e2 _).trans ?_
    rw [pay5_apply]
    simp only [hs, blk_x m c ⟨n + 1, hn⟩ r _ R hR, blk_g2]
    rfl

/-! ## The result arrays -/

/-- The first result array holds the half step of every row. -/
theorem G6_apply (c : Dev nD) (R : Fin 8256) (d : Fin 2048) : G6 m c (ix2 R d) = outRow m c R d := by
  have hd := d.isLt
  have hR := R.isLt
  have hp : pt6Of (ix2 R d) = 11 * (R.val / 688) + 10 := by
    show 11 * (1 * (R.val / 688 - 0) + 1 * (d.val / 2048 - 0)) + 10 = _
    omega
  have hb : pt6Of (ix2 R d) < cfg0.N := by rw [hp, show cfg0.N = 132 from N_0]; omega
  unfold G6
  rw [dif_pos hb, ← outsAt0_sweep m c _ hb,
    show loc6Of (ix2 R d) = ix2 ⟨R.val % 688, Nat.mod_lt _ (by decide)⟩ ⟨d.val % 2048, Nat.mod_lt _ (by decide)⟩ from eq_ix2 _,
    (last m c _ hb (by omega) ⟨R.val % 688, Nat.mod_lt _ (by decide)⟩ R (by rw [hp]; dsimp only; omega) _).1]
  congr 1; apply Fin.ext; exact Nat.mod_eq_of_lt hd

/-- The second result array holds the norm of every row's half step. -/
theorem G7_apply (c : Dev nD) (R : Fin 8256) (d : Fin 2048) : G7 m c (ix2 R d) = rms c2048 (outRow m c R) (gain2 m c) d := by
  have hd := d.isLt
  have hR := R.isLt
  have hp : pt7Of (ix2 R d) = 11 * (R.val / 688) + 10 := by
    show 11 * (1 * (R.val / 688 - 0) + 1 * (d.val / 2048 - 0)) + 10 = _
    omega
  have hb : pt7Of (ix2 R d) < cfg0.N := by rw [hp, show cfg0.N = 132 from N_0]; omega
  unfold G7
  rw [dif_pos hb, ← outsAt0_sweep m c _ hb,
    show loc7Of (ix2 R d) = ix2 ⟨R.val % 688, Nat.mod_lt _ (by decide)⟩ ⟨d.val % 2048, Nat.mod_lt _ (by decide)⟩ from eq_ix2 _,
    (last m c _ hb (by omega) ⟨R.val % 688, Nat.mod_lt _ (by decide)⟩ R (by rw [hp]; dsimp only; omega) _).2]
  congr 1; apply Fin.ext; exact Nat.mod_eq_of_lt hd

end Cert.KernelIdeal.Ffn
-- ==== Proof.FfnRef.lean ====
/-
  What the plain feed-forward program returns, entry by entry: its first result is the half step of the row, its second
  the row's norm of that.
-/
module

public import proofs.«01_k».proof.Proof.Spec
public import proofs.«01_k».proof.Proof.Gen.ReferenceIdeal.Run
public import proofs.«01_k».proof.Proof.Gen.ReferenceIdeal.Read

@[expose] public section

set_option maxRecDepth 16384

noncomputable section

namespace Cert.ReferenceIdeal.Ffn

open Idealize.ShloMosaic Idealize.ShloMosaic.TcCoe Idealize.SL.Sem
open Cert.ReferenceIdeal Cert.ReferenceIdeal.Gen Cert.ReferenceIdeal.Read Cert.Layer

variable (x : Vec Ideal S8256x2048 .f32) (g : Vec Ideal S4x2048 .f32) (wg wu : Vec Ideal S4x2048x5632 .f32)
  (wd : Vec Ideal S4x5632x2048 .f32) (g2 : Vec Ideal S4x2048 .f32)

/-- The normed input. -/
theorem norm_apply (r : Fin 8256) (d : Fin 2048) :
    val_main_v14 (F := Ideal) x g (ix2 r d) = rms c2048 (fun k => x (ix2 r k)) (fun k => g (ix2 0 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gate's projection. -/
theorem gate_apply (r : Fin 8256) (j : Fin 5632) : val_main_v17 (F := Ideal) x g wg (ix2 r j)
    = dot (rms c2048 (fun k => x (ix2 r k)) (fun k => g (ix2 0 k))) (fun k => wg (ix3 0 k j)) := by
  pointwise [val_main_v17, val_main_v16, val_main_v15]
  simp only [norm_apply]
  rfl

/-- The up projection. -/
theorem up_apply (r : Fin 8256) (j : Fin 5632) : val_main_v21 (F := Ideal) x g wu (ix2 r j)
    = dot (rms c2048 (fun k => x (ix2 r k)) (fun k => g (ix2 0 k))) (fun k => wu (ix3 0 k j)) := by
  pointwise [val_main_v21, val_main_v20, val_main_v19]
  simp only [norm_apply]
  rfl

/-- One hidden unit. -/
theorem hid_apply (r : Fin 8256) (j : Fin 5632) : val_main_v22 (F := Ideal) x g wg wu (ix2 r j)
    = hid (rms c2048 (fun k => x (ix2 r k)) (fun k => g (ix2 0 k))) (fun k => wg (ix3 0 k j)) (fun k => wu (ix3 0 k j)) := by
  pointwise [val_main_v22, val_main_v18, val_main_call0_v5, val_main_call0_v4, val_main_call0_v3, val_main_call0_v2, val_main_call0_v1, val_main_call0_v0, val_main_call0_cst, val_main_call0_cst_0]
  rw [gate_apply, up_apply]
  rfl

/-- The first result: the feed-forward half step. -/
theorem out_apply (r : Fin 8256) (d : Fin 2048) : val_main_v28 (F := Ideal) x g wg wu wd (ix2 r d)
    = ffn c2048 (fun k => x (ix2 r k)) (fun k => g (ix2 0 k)) (fun k j => wg (ix3 0 k j)) (fun k j => wu (ix3 0 k j)) (fun j k => wd (ix3 0 j k)) d := by
  pointwise [val_main_v28, val_main_v27, val_main_v26, val_main_v25, val_main_v24, val_main_v23, val_main_cst_2]
  simp only [hid_apply]
  rfl

/-- The second result: that row's norm. -/
theorem next_apply (r : Fin 8256) (d : Fin 2048) : val_main_v44 (F := Ideal) x g wg wu wd g2 (ix2 r d)
    = rms c2048 (ffn c2048 (fun k => x (ix2 r k)) (fun k => g (ix2 0 k)) (fun k j => wg (ix3 0 k j)) (fun k j => wu (ix3 0 k j)) (fun j k => wd (ix3 0 j k))) (fun k => g2 (ix2 0 k)) d := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst_3, val_main_cst_4, val_main_cst_5]
  simp only [out_apply]
  rfl

end Cert.ReferenceIdeal.Ffn
-- ==== Proof.FfnClaim.lean ====
/-
  The feed-forward kernel and the plain feed-forward program end with the same result arrays.
-/
module

public import proofs.«01_k».proof.Defs
public import proofs.«01_k».proof.Proof.FfnFold
public import proofs.«01_k».proof.Proof.FfnRef
public import Idealize.ShloMosaic.Lib.Quiescent

@[expose] public section

set_option maxRecDepth 16384

noncomputable section

namespace Cert.Ffn

open Idealize.ShloMosaic Idealize.ShloMosaic.TcCoe Idealize.SL.Sem

/-- The plain program's first result is the kernel's, from the same arguments. -/
theorem out_eq (m : (ℓ : Loc Cert.KernelIdeal.nD Cert.KernelIdeal.τ Cert.KernelIdeal.sig) → Buf (Elt Ideal) ℓ) (c : Dev Cert.KernelIdeal.nD) :
    Cert.ReferenceIdeal.Read.val_main_v28 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      = Cert.KernelIdeal.Value.G6 m c := by
  funext i
  obtain ⟨R, d, rfl⟩ : ∃ (R : Fin 8256) (d : Fin 2048), i = ix2 R d := ⟨i 0, i 1, eq_ix2 i⟩
  exact (Cert.ReferenceIdeal.Ffn.out_apply _ _ _ _ _ R d).trans (Cert.KernelIdeal.Ffn.G6_apply m c R d).symm

/-- The plain program's second result is the kernel's, from the same arguments. -/
theorem next_eq (m : (ℓ : Loc Cert.KernelIdeal.nD Cert.KernelIdeal.τ Cert.KernelIdeal.sig) → Buf (Elt Ideal) ℓ) (c : Dev Cert.KernelIdeal.nD) :
    Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelIdeal.Value.G7 m c := by
  funext i
  obtain ⟨R, d, rfl⟩ : ∃ (R : Fin 8256) (d : Fin 2048), i = ix2 R d := ⟨i 0, i 1, eq_ix2 i⟩
  exact (Cert.ReferenceIdeal.Ffn.next_apply _ _ _ _ _ _ R d).trans (Cert.KernelIdeal.Ffn.G7_apply m c R d).symm

/-- The value claim. -/
theorem algebraic : Cert.algebraic_KernelIdeal_ReferenceIdeal
    (hKernelIdeal := Cert.KernelIdeal.Gen.facts) (hReferenceIdeal := Cert.ReferenceIdeal.Gen.facts) := by
  intro m ρ m' ρ' _ hag
  refine ⟨fun c => Cert.KernelIdeal.Value.G6 m c, fun c => Cert.KernelIdeal.Value.G7 m c, Cert.KernelIdeal.Value.run m ρ,
    (θ_run _ _ _).mono (fun r h c => ?_) (Cert.ReferenceIdeal.Value.run m' ρ')⟩
  obtain ⟨a0, a1, a2, a3, a4, a5⟩ := hag c
  obtain ⟨h1, h2, hr⟩ := h c
  refine ⟨?_, ?_, hr⟩
  · refine (h1.trans (Cert.ReferenceIdeal.Read.val_main_v28_eq _ _ _ _ _)).trans ?_
    rw [a0, a1, a2, a3, a4]; exact out_eq m c
  · refine (h2.trans (Cert.ReferenceIdeal.Read.val_main_v44_eq m' c)).trans ?_
    rw [a0, a1, a2, a3, a4, a5]; exact next_eq m c

/-- The plain program runs and leaves its arguments. -/
theorem frame_reference : Cert.quiescent_ReferenceIdeal (hReferenceIdeal := Cert.ReferenceIdeal.Gen.facts) := by
  intro m ρ _
  exact (θ_run _ _ _).mono (fun r h => ⟨fun c => (h c).2.2, sem_eq_zero_of_no_sems rfl _⟩) (Cert.ReferenceIdeal.Value.run m ρ)

end Cert.Ffn
-- ==== Proof.XattnStep.lean ====
/-
  What one grid point of the cross-attention kernel leaves in its output block, as the body's named payloads.
-/
module

public import proofs.«01_k».proof.Proof.Gen.Kernel2Ideal.Value
public import Idealize.ShloMosaic.Lib.Pointwise

@[expose] public section

set_option maxRecDepth 16384

noncomputable section

namespace Cert.Kernel2Ideal.Xattn

open Idealize.ShloMosaic Idealize.ShloMosaic.TcCoe Idealize.SL.Sem
open Cert.Kernel2Ideal Cert.Kernel2Ideal.Gen Cert.Kernel2Ideal.Value

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

variable {F : FTy → Type} [FloatOps F] [Named F]
variable (m : (ℓ : Loc nD τ sig) → Buf (Elt F) ℓ)

/-- The block a point leaves: the body's last payload of the row block, the four heads' outputs and the output projection. -/
theorem step (c : Dev nD) (t : Fin cfg0.N) :
    outsAt0 m c t = k0_pay1 (X0_0 m c t)
      (k0_pay5 (k0_pay3 (X0_0 m c t) (iblk m c 1 t) (iblk m c 2 t) (iblk m c 3 t))
        (k0_pay4 (extractStridedSlice S1x256x128 ![0, 0, 0] (iblk m c 4 t) ⟨rfl, inb_S1x256x512_S1x256x128_0_0_0⟩)) (constant S512x256 .f32 0x00000000#32)
        (extractStridedSlice S1x256x128 ![0, 0, 0] (iblk m c 5 t) ⟨rfl, inb_S1x256x512_S1x256x128_0_0_0⟩))
      (k0_pay8 (k0_pay6 (k0_pay2 (X0_0 m c t) (iblk m c 1 t) (iblk m c 2 t)) (iblk m c 3 t)
          (extractStridedSlice S1x256x128 ![0, 0, 128] (iblk m c 4 t) ⟨rfl, inb_S1x256x512_S1x256x128_0_0_128⟩))
        (k0_pay7 (k0_pay2 (X0_0 m c t) (iblk m c 1 t) (iblk m c 2 t)) (iblk m c 3 t)
          (extractStridedSlice S1x256x128 ![0, 0, 128] (iblk m c 4 t) ⟨rfl, inb_S1x256x512_S1x256x128_0_0_128⟩))
        (extractStridedSlice S1x256x128 ![0, 0, 128] (iblk m c 5 t) ⟨rfl, inb_S1x256x512_S1x256x128_0_0_128⟩))
      (k0_pay10 (k0_pay9 (k0_pay2 (X0_0 m c t) (iblk m c 1 t) (iblk m c 2 t)) (iblk m c 3 t)
          (extractStridedSlice S1x256x128 ![0, 0, 256] (iblk m c 4 t) ⟨rfl, inb_S1x256x512_S1x256x128_0_0_256⟩))
        (extractStridedSlice S1x256x128 ![0, 0, 256] (iblk m c 5 t) ⟨rfl, inb_S1x256x512_S1x256x128_0_0_256⟩))
      (k0_pay11 (k0_pay2 (X0_0 m c t) (iblk m c 1 t) (iblk m c 2 t)) (iblk m c 3 t)
        (extractStridedSlice S1x256x128 ![0, 0, 384] (iblk m c 4 t) ⟨rfl, inb_S1x256x512_S1x256x128_0_0_384⟩)
        (extractStridedSlice S1x256x128 ![0, 0, 384] (iblk m c 5 t) ⟨rfl, inb_S1x256x512_S1x256x128_0_0_384⟩))
      (iblk m c 6 t) := by
  unfold outsAt0 out0_A_7
  refine (View.read_writes_eq_canon _ _ _ (fun y => cover0_A_7 _ _ _ _ _ _ _ _ _ _ _ _ _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S512x2048) hz,  View.ld_unit_zero (S := S1x2048) hz, View.ld_unit_zero (S := S1x128) hz,
    View.ld_unit_zero (S := S1x2048x512) hz3, View.ld_unit_zero (S := S1x512x2048) hz3, View.ld_unit]

end Cert.Kernel2Ideal.Xattn
-- ==== Proof.XattnBlocks.lean ====
/-
  What the cross-attention kernel's input windows hold at a grid point, entry by entry, from the arguments: the rows of the
  point's row block, the norms' gains, layer 0's projections, and the memory slots of the point's sequence.
-/
module

public import proofs.«01_k».proof.Proof.XattnStep

@[expose] public section

set_option maxRecDepth 16384

noncomputable section

namespace Cert.Kernel2Ideal.Xattn

open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

/-- The region finds the query weights converted, which changes nothing at the extended reals. -/
theorem V_wq (c : Dev nD) : V m c main_v2 = m ((c : Thread nD τ).loc main_arg4) := by
  unfold_abbrev_sides; after_results; rfl
/-- The region finds the output weights likewise. -/
theorem V_wo (c : Dev nD) : V m c main_v5 = m ((c : Thread nD τ).loc main_arg6) := by
  unfold_abbrev_sides; after_results; rfl
/-- The region finds the result's buffer as a copy of the input rows. -/
theorem V_out (c : Dev nD) : V m c main_v8 = m ((c : Thread nD τ).loc main_arg0) := by
  unfold_abbrev_sides; after_results; rfl
/-- The region finds the row norm's gain as one row. -/
theorem V_gain (c : Dev nD) (d : Fin 2048) :
    (V m c main_v6 : Vec Ideal S1x2048 .f32) (ix2 0 d) = (m ((c : Thread nD τ).loc main_arg3) : Vec Ideal S4x2048 .f32) (ix2 0 d) := by
  unfold_abbrev_sides; after_results
  show shapeCast S1x2048 (shapeCast S2048 (extractStridedSlice S1x2048 ![0, 0] (m ((c : Thread nD τ).loc main_arg3) : Vec Ideal S4x2048 .f32) slices_S4x2048_S1x2048_0_0) shapeCasts_S1x2048_S2048) shapeCasts_S2048_S1x2048 (ix2 0 d) = _
  pointwise
/-- The region finds the query norm's gain as one row. -/
theorem V_qgain (c : Dev nD) (d : Fin 128) :
    (V m c main_v7 : Vec Ideal S1x128 .f32) (ix2 0 d) = (m ((c : Thread nD τ).loc main_arg5) : Vec Ideal S4x128 .f32) (ix2 0 d) := by
  unfold_abbrev_sides; after_results
  show shapeCast S1x128 (shapeCast S128 (extractStridedSlice S1x128 ![0, 0] (m ((c : Thread nD τ).loc main_arg5) : Vec Ideal S4x128 .f32) slices_S4x128_S1x128_0_0) shapeCasts_S1x128_S128) shapeCasts_S128_S1x128 (ix2 0 d) = _
  pointwise

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 0 ∧ win0_4.index t (1 : Fin 3) = t.val / 8 ∧ win0_4.index t (2 : Fin 3) = 0 :=
  (by decide +kernel : ∀ t : Fin grid0.N, _)
theorem idx5 : ∀ t : Fin cfg0.N, win0_5.index t (0 : Fin 3) = 0 ∧ win0_5.index t (1 : Fin 3) = t.val / 8 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- The input rows of the point's row block. -/
theorem blk_x (c : Dev nD) (t : Fin cfg0.N) (r : Fin 512) (d : Fin 2048) (R : Fin 8256) (hR : R.val = 512 * t.val + r.val) :
    (X0_0 m c t : Vec Ideal S512x2048 .f32) (ix2 r d) = (m ((c : Thread nD τ).loc main_arg0) : Vec Ideal S8256x2048 .f32) (ix2 R d) := by
  unfold X0_0 Pipeline.Window.fill
  rw [dif_pos (moved0_0 t (ix2 r d))]
  unfold iblk
  rw [View.read_apply]
  show V m c main_arg0 _ = _
  rw [V_main_arg0]
  congr 1; funext a; apply Fin.ext
  match a with
  | ⟨0, _⟩ => show win0_0.index t (0 : Fin 2) * 512 + 1 * r.val = R.val; rw [(idx0 t).1]; omega
  | ⟨1, _⟩ => show win0_0.index t (1 : Fin 2) * 2048 + 1 * d.val = d.val; rw [(idx0 t).2]; omega

/-- The row norm's gain. -/
theorem blk_g (c : Dev nD) (t : Fin cfg0.N) (d : Fin 2048) :
    (iblk m c 1 t : Vec Ideal S1x2048 .f32) (ix2 0 d) = (m ((c : Thread nD τ).loc main_arg3) : Vec Ideal S4x2048 .f32) (ix2 0 d) := by
  refine Eq.trans ?_ (V_gain m c d)
  unfold iblk
  rw [View.read_apply]
  show V m c main_v6 _ = _
  congr 1; funext a; apply Fin.ext
  match a with
  | ⟨0, _⟩ => show win0_1.index t (0 : Fin 2) * 1 + 1 * 0 = 0; rw [(idx1 t).1]
  | ⟨1, _⟩ => show win0_1.index t (1 : Fin 2) * 2048 + 1 * d.val = d.val; rw [(idx1 t).2]; omega

/-- The query norm's gain. -/
theorem blk_qg (c : Dev nD) (t : Fin cfg0.N) (d : Fin 128) :
    (iblk m c 3 t : Vec Ideal S1x128 .f32) (ix2 0 d) = (m ((c : Thread nD τ).loc main_arg5) : Vec Ideal S4x128 .f32) (ix2 0 d) := by
  refine Eq.trans ?_ (V_qgain m c d)
  unfold iblk
  rw [View.read_apply]
  show V m c main_v7 _ = _
  congr 1; funext a; apply Fin.ext
  match a with
  | ⟨0, _⟩ => show win0_3.index t (0 : Fin 2) * 1 + 1 * 0 = 0; rw [(idx3 t).1]
  | ⟨1, _⟩ => show win0_3.index t (1 : Fin 2) * 128 + 1 * d.val = d.val; rw [(idx3 t).2]; omega

/-- The query weights of layer 0. -/
theorem blk_wq (c : Dev nD) (t : Fin cfg0.N) (k : Fin 2048) (j : Fin 512) :
    (iblk m c 2 t : Vec Ideal S1x2048x512 .bf16) (ix3 0 k j) = (m ((c : Thread nD τ).loc main_arg4) : Vec Ideal S4x2048x512 .f32) (ix3 0 k j) := by
  unfold iblk
  rw [View.read_apply]
  show V m c main_v2 _ = _
  rw [V_wq]
  congr 1; funext a; apply Fin.ext
  match a with
  | ⟨0, _⟩ => show win0_2.index t (0 : Fin 3) * 1 + 1 * 0 = 0; rw [(idx2 t).1]
  | ⟨1, _⟩ => show win0_2.index t (1 : Fin 3) * 2048 + 1 * k.val = k.val; rw [(idx2 t).2.1]; omega
  | ⟨2, _⟩ => show win0_2.index t (2 : Fin 3) * 512 + 1 * j.val = j.val; rw [(idx2 t).2.2]; omega

/-- The output weights of layer 0. -/
theorem blk_wo (c : Dev nD) (t : Fin cfg0.N) (j : Fin 512) (d : Fin 2048) :
    (iblk m c 6 t : Vec Ideal S1x512x2048 .bf16) (ix3 0 j d) = (m ((c : Thread nD τ).loc main_arg6) : Vec Ideal S4x512x2048 .f32) (ix3 0 j d) := by
  unfold iblk
  rw [View.read_apply]
  show V m c main_v5 _ = _
  rw [V_wo]
  congr 1; funext a; apply Fin.ext
  match a with
  | ⟨0, _⟩ => show win0_6.index t (0 : Fin 3) * 1 + 1 * 0 = 0; rw [(idx6 t).1]
  | ⟨1, _⟩ => show win0_6.index t (1 : Fin 3) * 512 + 1 * j.val = j.val; rw [(idx6 t).2.1]; omega
  | ⟨2, _⟩ => show win0_6.index t (2 : Fin 3) * 2048 + 1 * d.val = d.val; rw [(idx6 t).2.2]; omega

/-- The memory keys of the point's sequence. -/
theorem blk_mk (c : Dev nD) (t : Fin cfg0.N) (l : Fin 256) (j : Fin 512) (L : Fin 512) (hL : L.val = 256 * (t.val / 8) + l.val) :
    (iblk m c 4 t : Vec Ideal S1x256x512 .f32) (ix3 0 l j) = (m ((c : Thread nD τ).loc main_arg1) : Vec Ideal S4x512x512 .f32) (ix3 0 L j) := by
  unfold iblk
  rw [View.read_apply]
  show V m c main_arg1 _ = _
  rw [V_main_arg1]
  congr 1; funext a; apply Fin.ext
  match a with
  | ⟨0, _⟩ => show win0_4.index t (0 : Fin 3) * 1 + 1 * 0 = 0; rw [(idx4 t).1]
  | ⟨1, _⟩ => show win0_4.index t (1 : Fin 3) * 256 + 1 * l.val = L.val; rw [(idx4 t).2.1]; omega
  | ⟨2, _⟩ => show win0_4.index t (2 : Fin 3) * 512 + 1 * j.val = j.val; rw [(idx4 t).2.2]; omega

/-- The memory values of the point's sequence. -/
theorem blk_mv (c : Dev nD) (t : Fin cfg0.N) (l : Fin 256) (j : Fin 512) (L : Fin 512) (hL : L.val = 256 * (t.val / 8) + l.val) :
    (iblk m c 5 t : Vec Ideal S1x256x512 .f32) (ix3 0 l j) = (m ((c : Thread nD τ).loc main_arg2) : Vec Ideal S4x512x512 .f32) (ix3 0 L j) := by
  unfold iblk
  rw [View.read_apply]
  show V m c main_arg2 _ = _
  rw [V_main_arg2]
  congr 1; funext a; apply Fin.ext
  match a with
  | ⟨0, _⟩ => show win0_5.index t (0 : Fin 3) * 1 + 1 * 0 = 0; rw [(idx5 t).1]
  | ⟨1, _⟩ => show win0_5.index t (1 : Fin 3) * 256 + 1 * l.val = L.val; rw [(idx5 t).2.1]; omega
  | ⟨2, _⟩ => show win0_5.index t (2 : Fin 3) * 512 + 1 * j.val = j.val; rw [(idx5 t).2.2]; omega

end Cert.Kernel2Ideal.Xattn
-- ==== Proof.Att.lean ====
/-
  The attention both sides of a claim compute, at the extended reals: a row's greatest entry, its softmax, and one head's
  output for one query row.
-/
module

public import proofs.«01_k».proof.Proof.Spec

@[expose] public section

noncomputable section

namespace Cert.Layer

open Idealize.ShloMosaic

/-- The greatest entry of a row, from minus infinity. -/
def rowMax {n : ℕ} (x : Fin n → EReal) : EReal := Finset.univ.fold max (Ideal.ofBits .f32 0xFF800000#32) x

/-- The exponential of an entry less the row's greatest. -/
def expRow {n : ℕ} (x : Fin n → EReal) (k : Fin n) : EReal := Ideal.exp (x k - rowMax x)

/-- The softmax of a row. -/
def softmax {n : ℕ} (x : Fin n → EReal) (k : Fin n) : EReal := Ideal.div (expRow x k) (∑ l, expRow x l)

/-- One entry of a head's output: the values weighted by the softmax of the scaled scores. -/
def headOut {n d : ℕ} (s : EReal) (q : Fin d → EReal) (k v : Fin n → Fin d → EReal) (j : Fin d) : EReal :=
  ∑ l, softmax (fun l => dot q (k l) * s) l * v l j

/-- A head's output is fixed by its query, keys and values. -/
theorem headOut_congr {n d : ℕ} (s : EReal) {q q' : Fin d → EReal} {k k' v v' : Fin n → Fin d → EReal} (j : Fin d)
    (hq : ∀ e, q e = q' e) (hk : ∀ l e, k l e = k' l e) (hv : ∀ l e, v l e = v' l e) :
    headOut s q k v j = headOut s q' k' v' j := by
  rw [funext hq, funext fun l => funext (hk l), funext fun l => funext (hv l)]

/-- Taking the maximum with minus infinity once more changes nothing. -/
theorem max_rowMax {n : ℕ} (x : Fin n → EReal) : max (Ideal.ofBits .f32 0xFF800000#32) (rowMax x) = rowMax x :=
  max_eq_right ((Finset.le_fold_max _).2 (Or.inl le_rfl))

/-- The inverse root of a head's 128 columns, which scales the scores. -/
def scale : EReal := (((Real.sqrt 128)⁻¹ : ℝ) : EReal)

/-- The constant 128 is the real 128. -/
theorem c128_eq : Ideal.ofBits .f32 0x43000000#32 = ((128 : ℝ) : EReal) := by
  simp [Ideal.ofBits, Ideal.ieee, -EReal.coe_mul]; norm_num

/-- Dividing by the root of 128 is scaling by its inverse. -/
theorem div_root (x : EReal) : Ideal.div x (Ideal.sqrt (Ideal.ofBits .f32 0x43000000#32)) = x * scale := by
  rw [c128_eq, Ideal.sqrt_coe, if_neg (by norm_num), Ideal.div_coe (Real.sqrt_pos.mpr (by norm_num)).ne', one_div]
  rfl

/-- Column `e` of head `h` among the 512 columns of four heads. -/
def col (h : Fin 4) (e : Fin 128) : Fin 512 := ⟨h.val * 128 + e.val, by omega⟩

/-- The head of a column. -/
def headOf (j : Fin 512) : Fin 4 := ⟨j.val / 128, by omega⟩
/-- The place of a column in its head. -/
def inHead (j : Fin 512) : Fin 128 := ⟨j.val % 128, by omega⟩

theorem headOf_col (h : Fin 4) (e : Fin 128) : headOf (col h e) = h := by
  apply Fin.ext; show (h.val * 128 + e.val) / 128 = h.val; omega
theorem inHead_col (h : Fin 4) (e : Fin 128) : inHead (col h e) = e := by
  apply Fin.ext; show (h.val * 128 + e.val) % 128 = e.val; omega

/-- A head's normed query: the head's columns of the row's projection, normed. -/
def query (u : Fin 2048 → EReal) (wq : Fin 2048 → Fin 512 → EReal) (qg : Fin 128 → EReal) (h : Fin 4) : Fin 128 → EReal :=
  rms c128 (fun e => dot u (fun k => wq k (col h e))) qg

/-- One row of the cross attention: every head attends to the memory slots, and the heads' outputs against the output
    projection are added to the row. -/
def cross {n : ℕ} (s : EReal) (x g : Fin 2048 → EReal) (wq : Fin 2048 → Fin 512 → EReal) (qg : Fin 128 → EReal)
    (mk mv : Fin n → Fin 512 → EReal) (wo : Fin 512 → Fin 2048 → EReal) (d : Fin 2048) : EReal :=
  x d + dot (fun j => headOut s (query (rms c2048 x g) wq qg (headOf j)) (fun l e => mk l (col (headOf j) e))
    (fun l e => mv l (col (headOf j) e)) (inHead j)) (fun j => wo j d)

end Cert.Layer
-- ==== Proof.XattnRows.lean ====
/-
  The cross-attention body's named payloads at one entry: the query projection of the normed row, each head's normed
  query, its softmax attention over the memory slots, and the output projection added to the row.
-/
module

public import proofs.«01_k».proof.Proof.Gen.Kernel2Ideal.Skeleton
public import proofs.«01_k».proof.Proof.Att
public import Idealize.ShloMosaic.PureOps.IdealRules

@[expose] public section

set_option maxRecDepth 16384

noncomputable section

namespace Cert.Kernel2Ideal.Xattn

open Idealize.ShloMosaic Idealize.ShloMosaic.TcCoe
open Cert.Kernel2Ideal Cert.Kernel2Ideal.Gen Cert.Layer

/-- The constant named in the kernel is the inverse root of 128. -/
theorem scale_named : Named.named (F := Ideal) Cert.Kernel2Ideal.κ "s" (φ := .f32) 0x3DB504F3#32 = scale :=
  IdealRules.named_const.ideal_named_scalar _ _ _ _ rfl

/-- The projected queries of a row. -/
theorem pay2_apply (x : Vec Ideal S512x2048 .f32) (g : Vec Ideal S1x2048 .f32) (w : Vec Ideal S1x2048x512 .bf16) (r j : Fin 512) :
    k0_pay2 x g w (ix2 r j) = dot (rms c2048 (fun d => x (ix2 r d)) (fun d => g (ix2 0 d))) (fun k => w (ix3 0 k j)) := by
  pointwise [k0_pay2]
  rfl

/-- A head's normed query: the head's 128 columns of the projected queries. -/
def qHead (qx : Vec Ideal S512x512 .f32) (qg : Vec Ideal S1x128 .f32) (r : Fin 512) (h : Fin 4) : Fin 128 → EReal :=
  rms c128 (fun d : Fin 128 => qx (ix2 r (col h d))) (fun d => qg (ix2 0 d))

/-- The first head's normed query. -/
theorem pay3_apply (x : Vec Ideal S512x2048 .f32) (g : Vec Ideal S1x2048 .f32) (w : Vec Ideal S1x2048x512 .bf16) (qg : Vec Ideal S1x128 .f32) (r : Fin 512) (j : Fin 128) :
    k0_pay3 x g w qg (ix2 r j) = qHead (k0_pay2 x g w) qg r 0 j := by
  pointwise [k0_pay3]
  unfold qHead
  rw [show (fun d : Fin 128 => k0_pay2 x g w (ix2 r (col 0 d))) = fun d : Fin 128 => k0_pay2 x g w (ix2 r ⟨d.val, by omega⟩) from
    funext fun d => congrArg (fun e => k0_pay2 x g w (ix2 r e)) (Fin.ext (show 0 * 128 + d.val = d.val by omega))]
  rfl

/-- The first head's keys. -/
theorem pay4_apply (k : Vec Ideal S1x256x128 .f32) (l : Fin 256) (d : Fin 128) : k0_pay4 k (ix2 l d) = k (ix3 0 l d) := by
  pointwise [k0_pay4]

/-- The first head's output. -/
theorem pay5_apply (q : Vec Ideal S512x128 .bf16) (k : Vec Ideal S256x128 .bf16) (v : Vec Ideal S1x256x128 .f32) (r : Fin 512) (j : Fin 128) :
    k0_pay5 q k (constant S512x256 .f32 0x00000000#32) v (ix2 r j)
      = headOut scale (fun d => q (ix2 r d)) (fun l d => k (ix2 l d)) (fun l d => v (ix3 0 l d)) j := by
  pointwise [k0_pay5]
  rfl

/-- The second head's scaled scores. -/
theorem pay6_apply (qx : Vec Ideal S512x512 .f32) (qg : Vec Ideal S1x128 .f32) (k : Vec Ideal S1x256x128 .f32) (r : Fin 512) (l : Fin 256) :
    k0_pay6 qx qg k (ix2 r l) = dot (qHead qx qg r 1) (fun d => k (ix3 0 l d)) * scale := by
  pointwise [k0_pay6]
  rfl

/-- The second head's greatest score, across the slots. -/
theorem pay7_apply (qx : Vec Ideal S512x512 .f32) (qg : Vec Ideal S1x128 .f32) (k : Vec Ideal S1x256x128 .f32) (r : Fin 512) (l : Fin 256) :
    k0_pay7 qx qg k (ix2 r l) = rowMax (fun l => k0_pay6 qx qg k (ix2 r l)) := by
  pointwise [k0_pay7]
  rfl

/-- The second head's output. -/
theorem pay8_apply (qx : Vec Ideal S512x512 .f32) (qg : Vec Ideal S1x128 .f32) (k v : Vec Ideal S1x256x128 .f32) (r : Fin 512) (j : Fin 128) :
    k0_pay8 (k0_pay6 qx qg k) (k0_pay7 qx qg k) v (ix2 r j)
      = headOut scale (qHead qx qg r 1) (fun l d => k (ix3 0 l d)) (fun l d => v (ix3 0 l d)) j := by
  pointwise [k0_pay8]
  simp only [pay7_apply, pay6_apply]
  rfl

/-- The third head's softmax. -/
theorem pay9_apply (qx : Vec Ideal S512x512 .f32) (qg : Vec Ideal S1x128 .f32) (k : Vec Ideal S1x256x128 .f32) (r : Fin 512) (l : Fin 256) :
    k0_pay9 qx qg k (ix2 r l) = softmax (fun l => dot (qHead qx qg r 2) (fun d => k (ix3 0 l d)) * scale) l := by
  pointwise [k0_pay9]
  rfl

/-- The third head's output. -/
theorem pay10_apply (qx : Vec Ideal S512x512 .f32) (qg : Vec Ideal S1x128 .f32) (k v : Vec Ideal S1x256x128 .f32) (r : Fin 512) (j : Fin 128) :
    k0_pay10 (k0_pay9 qx qg k) v (ix2 r j)
      = headOut scale (qHead qx qg r 2) (fun l d => k (ix3 0 l d)) (fun l d => v (ix3 0 l d)) j := by
  pointwise [k0_pay10]
  simp only [pay9_apply]
  rfl

/-- The fourth head's output. -/
theorem pay11_apply (qx : Vec Ideal S512x512 .f32) (qg : Vec Ideal S1x128 .f32) (k v : Vec Ideal S1x256x128 .f32) (r : Fin 512) (j : Fin 128) :
    k0_pay11 qx qg k v (ix2 r j)
      = headOut scale (qHead qx qg r 3) (fun l d => k (ix3 0 l d)) (fun l d => v (ix3 0 l d)) j := by
  pointwise [k0_pay11]
  rfl

/-- The row plus its heads' outputs against the output projection. -/
theorem pay1_apply (x : Vec Ideal S512x2048 .f32) (o0 o1 o2 o3 : Vec Ideal S512x128 .f32) (w : Vec Ideal S1x512x2048 .bf16) (r : Fin 512) (d : Fin 2048) :
    k0_pay1 x o0 o1 o2 o3 w (ix2 r d)
      = x (ix2 r d) + dot (fun j : Fin 512 => (![o0, o1, o2, o3] (headOf j)) (ix2 r (inHead j))) (fun j => w (ix3 0 j d)) := by
  pointwise [k0_pay1]
  rfl

/-- The columns from `o` on of a memory block, as a load of one head's columns reads them. -/
theorem headCols_apply (k : Vec Ideal S1x256x512 .f32) (o : ℕ) (hs : S1x256x512.Slices ![0, 0, o] S1x256x128) (h : Fin 4) (ho : o = h.val * 128) (l : Fin 256) (e : Fin 128) :
    extractStridedSlice S1x256x128 ![0, 0, o] k hs (ix3 0 l e) = k (ix3 0 l (col h e)) := by
  subst ho
  show k _ = k _
  congr 1; funext a; apply Fin.ext
  match a with
  | ⟨0, _⟩ => rfl
  | ⟨1, _⟩ => exact Nat.zero_add _
  | ⟨2, _⟩ => rfl

end Cert.Kernel2Ideal.Xattn
-- ==== Proof.XattnOut.lean ====
/-
  The cross-attention kernel's result array, entry by entry: the rows of the two prompts hold their attended rows, the rows
  after them what they held.
-/
module

public import proofs.«01_k».proof.Proof.XattnBlocks
public import proofs.«01_k».proof.Proof.XattnRows

@[expose] public section

set_option maxRecDepth 16384

noncomputable section

namespace Cert.Kernel2Ideal.Xattn

open Idealize.ShloMosaic Idealize.ShloMosaic.TcCoe Idealize.SL.Sem
open Cert.Kernel2Ideal Cert.Kernel2Ideal.Gen Cert.Kernel2Ideal.Value Cert.Layer

variable (m : (ℓ : Loc nD τ sig) → Buf (Elt Ideal) ℓ)

/-- An input row. -/
abbrev inRow (c : Dev nD) (R : Fin 8256) : Fin 2048 → EReal := fun d => (m ((c : Thread nD τ).loc main_arg0) : Vec Ideal S8256x2048 .f32) (ix2 R d)
/-- The row norm's gain. -/
abbrev gain (c : Dev nD) : Fin 2048 → EReal := fun d => (m ((c : Thread nD τ).loc main_arg3) : Vec Ideal S4x2048 .f32) (ix2 0 d)
/-- The query weights. -/
abbrev queryW (c : Dev nD) : Fin 2048 → Fin 512 → EReal := fun k j => (m ((c : Thread nD τ).loc main_arg4) : Vec Ideal S4x2048x512 .f32) (ix3 0 k j)
/-- The query norm's gain. -/
abbrev queryGain (c : Dev nD) : Fin 128 → EReal := fun d => (m ((c : Thread nD τ).loc main_arg5) : Vec Ideal S4x128 .f32) (ix2 0 d)
/-- The memory keys of a sequence. -/
abbrev memK (c : Dev nD) (b : Fin 2) : Fin 256 → Fin 512 → EReal := fun l j => (m ((c : Thread nD τ).loc main_arg1) : Vec Ideal S4x512x512 .f32) (ix3 0 ⟨b.val * 256 + l.val, by omega⟩ j)
/-- The memory values of a sequence. -/
abbrev memV (c : Dev nD) (b : Fin 2) : Fin 256 → Fin 512 → EReal := fun l j => (m ((c : Thread nD τ).loc main_arg2) : Vec Ideal S4x512x512 .f32) (ix3 0 ⟨b.val * 256 + l.val, by omega⟩ j)
/-- The output weights. -/
abbrev outW (c : Dev nD) : Fin 512 → Fin 2048 → EReal := fun j d => (m ((c : Thread nD τ).loc main_arg6) : Vec Ideal S4x512x2048 .f32) (ix3 0 j d)

/-- The attended row. -/
abbrev outRow (c : Dev nD) (b : Fin 2) (R : Fin 8256) : Fin 2048 → EReal :=
  cross scale (inRow m c R) (gain m c) (queryW m c) (queryGain m c) (memK m c b) (memV m c b) (outW m c)

/-- The block a point leaves, at one entry. -/
theorem block (c : Dev nD) (t : Fin cfg0.N) (r : Fin 512) (d : Fin 2048) (R : Fin 8256) (hR : R.val = 512 * t.val + r.val)
    (b : Fin 2) (hb : b.val = t.val / 8) :
    outsAt0 m c t (ix2 r d) = outRow m c b R d := by
  have hq : ∀ h, qHead (k0_pay2 (X0_0 m c t) (iblk m c 1 t) (iblk m c 2 t)) (iblk m c 3 t) r h
      = query (rms c2048 (inRow m c R) (gain m c)) (queryW m c) (queryGain m c) h := fun h => by
    unfold qHead query
    simp only [pay2_apply, blk_x m c t r _ R hR, blk_g, blk_wq, blk_qg]
  have hk : ∀ (l : Fin 256) (j : Fin 512), (iblk m c 4 t : Vec Ideal S1x256x512 .f32) (ix3 0 l j) = memK m c b l j := fun l j =>
    blk_mk m c t l j _ (by dsimp only; omega)
  have hv : ∀ (l : Fin 256) (j : Fin 512), (iblk m c 5 t : Vec Ideal S1x256x512 .f32) (ix3 0 l j) = memV m c b l j := fun l j =>
    blk_mv m c t l j _ (by dsimp only; omega)
  refine (congrFun (step m c t) _).trans ((pay1_apply _ _ _ _ _ _ r d).trans ?_)
  unfold outRow cross
  simp only [blk_wo]
  rw [blk_x m c t r d R hR]
  congr 2; funext j
  generalize headOf j = h
  generalize inHead j = e
  match h with
  | 0 =>
    refine (pay5_apply _ _ _ r e).trans (headOut_congr _ e (fun e => (pay3_apply _ _ _ _ r e).trans (congrFun (hq 0) e))
      (fun l e => (pay4_apply _ l e).trans ((headCols_apply _ 0 _ 0 rfl l e).trans (hk l _)))
      (fun l e => (headCols_apply _ 0 _ 0 rfl l e).trans (hv l _)))
  | 1 =>
    refine (pay8_apply _ _ _ _ r e).trans (headOut_congr _ e (fun e => congrFun (hq 1) e)
      (fun l e => (headCols_apply _ 128 _ 1 rfl l e).trans (hk l _)) (fun l e => (headCols_apply _ 128 _ 1 rfl l e).trans (hv l _)))
  | 2 =>
    refine (pay10_apply _ _ _ _ r e).trans (headOut_congr _ e (fun e => congrFun (hq 2) e)
      (fun l e => (headCols_apply _ 256 _ 2 rfl l e).trans (hk l _)) (fun l e => (headCols_apply _ 256 _ 2 rfl l e).trans (hv l _)))
  | 3 =>
    refine (pay11_apply _ _ _ _ r e).trans (headOut_congr _ e (fun e => congrFun (hq 3) e)
      (fun l e => (headCols_apply _ 384 _ 3 rfl l e).trans (hk l _)) (fun l e => (headCols_apply _ 384 _ 3 rfl l e).trans (hv l _)))

/-- Every point writes its block back. -/
theorem flush7 : ∀ t : Fin cfg0.N, (cfg0.win 7).flush t = true := (by decide +kernel : ∀ t : Fin grid0.N, _)
/-- No block is cut. -/
theorem xsize7 : ∀ t : Fin cfg0.N, ∀ a, (cfg0.win 7).xsize (cfg0.grid.coords t) a = (cfg0.win 7).size a := by decide +kernel

/-- The result array at a prompt's row. -/
theorem out_rows (c : Dev nD) (R : Fin 8256) (hR : R.val < 8192) (d : Fin 2048) :
    ((dats m 0 c).arrAt 7 cfg0.N : Vec Ideal S8256x2048 .f32) (ix2 R d) = outRow m c ⟨R.val / 4096, by omega⟩ R d := by
  have hN : cfg0.N = 16 := N_0
  have ht : R.val / 512 < cfg0.N := by omega
  let i : S512x2048.Idx := ix2 ⟨R.val % 512, by omega⟩ d
  let y : ((cfg0.win 7).xblock (cfg0.grid.coords ⟨R.val / 512, ht⟩)).Idx :=
    fun a => ⟨(i a).val, lt_of_lt_of_eq (i a).isLt (xsize7 ⟨R.val / 512, ht⟩ a).symm⟩
  have h := congrFun (blocks7 m c ⟨R.val / 512, ht⟩ (flush7 _)) y
  rw [flushed7, View.read_apply] at h
  refine Eq.trans ?_ (h.trans (block m c ⟨R.val / 512, ht⟩ ⟨R.val % 512, by omega⟩ d R (by dsimp only; omega) _ (by dsimp only; omega)))
  congr 1; funext a; apply Fin.ext
  match a with
  | ⟨0, _⟩ => show R.val = win0_7.index ⟨R.val / 512, ht⟩ (0 : Fin 2) * 512 + 1 * (R.val % 512); rw [(idx7 _).1]; dsimp only; omega
  | ⟨1, _⟩ => show d.val = win0_7.index ⟨R.val / 512, ht⟩ (1 : Fin 2) * 2048 + 1 * d.val; rw [(idx7 _).2]; omega

/-- The result array at a later row. -/
theorem out_rest (c : Dev nD) (R : Fin 8256) (hR : 8192 ≤ R.val) (d : Fin 2048) :
    ((dats m 0 c).arrAt 7 cfg0.N : Vec Ideal S8256x2048 .f32) (ix2 R d) = inRow m c R d := by
  refine (entry7 m c (ix2 R d) fun t _ hmem => ?_).trans (congrFun (V_out m c) _)
  obtain ⟨y, hy⟩ := View.exists_emb_of_mem_set _ hmem
  have h0 : win0_7.index t (0 : Fin 2) * 512 + 1 * (y (0 : Fin 2)).val = R.val := congrArg (fun i : S8256x2048.Idx => (i 0).val) hy
  have hl : (y (0 : Fin 2)).val < 512 := lt_of_lt_of_eq (y (0 : Fin 2)).isLt (xsize7 t 0)
  have hN : cfg0.N = 16 := N_0
  rw [(idx7 t).1] at h0
  have := t.isLt
  omega

end Cert.Kernel2Ideal.Xattn
-- ==== Proof.XattnRef.lean ====
/-
  What the plain cross-attention program returns, entry by entry: a prompt's rows are the attended rows, the rows after
  them the input's.
-/
module

public import proofs.«01_k».proof.Proof.Att
public import proofs.«01_k».proof.Proof.Gen.Reference2Ideal.Run
public import proofs.«01_k».proof.Proof.Gen.Reference2Ideal.Read

@[expose] public section

set_option maxRecDepth 16384

noncomputable section

namespace Cert.Reference2Ideal.Xattn

open Idealize.ShloMosaic Idealize.ShloMosaic.TcCoe Idealize.SL.Sem
open Cert.Reference2Ideal Cert.Reference2Ideal.Gen Cert.Reference2Ideal.Read Cert.Layer

variable (x : Vec Ideal S8256x2048 .f32) (mk mv : Vec Ideal S4x512x512 .f32) (g : Vec Ideal S4x2048 .f32)
  (wq : Vec Ideal S4x2048x512 .f32) (qg : Vec Ideal S4x128 .f32) (wo : Vec Ideal S4x512x2048 .f32)

/-- The row of the stacked input that holds row `t` of prompt `b`. -/
def row (b : Fin 2) (t : Fin 4096) : Fin 8256 := ⟨b.val * 4096 + t.val, by omega⟩

/-- The slot of the stacked memory that holds slot `l` of prompt `b`. -/
def slot (b : Fin 2) (l : Fin 256) : Fin 512 := ⟨b.val * 256 + l.val, by omega⟩

/-- The prompts' rows. -/
theorem in_apply (b : Fin 2) (t : Fin 4096) (d : Fin 2048) : val_main_v1 (F := Ideal) x (ix3 b t d) = x (ix2 (row b t) d) := by
  pointwise [val_main_v1, val_main_v0]
  rfl

/-- The normed input. -/
theorem norm_apply (b : Fin 2) (t : Fin 4096) (d : Fin 2048) :
    val_main_v16 (F := Ideal) x g (ix3 b t d) = rms c2048 (fun k => x (ix2 (row b t) k)) (fun k => g (ix2 0 k)) d := by
  pointwise [val_main_v16, val_main_v15, val_main_v14, val_main_v13, val_main_v12, val_main_v11, val_main_v10, val_main_v9, val_main_v8, val_main_v7, val_main_v6, val_main_v5, val_main_v4, val_main_v3, val_main_v2, val_main_cst, val_main_cst_0, val_main_cst_1]
  simp only [in_apply]
  rfl

/-- The projected queries. -/
theorem proj_apply (b : Fin 2) (t : Fin 4096) (j : Fin 512) : val_main_v19 (F := Ideal) x g wq (ix3 b t j)
    = dot (rms c2048 (fun k => x (ix2 (row b t) k)) (fun k => g (ix2 0 k))) (fun k => wq (ix3 0 k j)) := by
  pointwise [val_main_v19, val_main_v18, val_main_v17]
  simp only [norm_apply]
  rfl

/-- A head's normed query. -/
theorem query_apply (b : Fin 2) (t : Fin 4096) (h : Fin 4) (e : Fin 128) : val_main_v35 (F := Ideal) x g wq qg (ix4 b t h e)
    = query (rms c2048 (fun k => x (ix2 (row b t) k)) (fun k => g (ix2 0 k))) (fun k j => wq (ix3 0 k j)) (fun k => qg (ix2 0 k)) h e := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]
  simp only [proj_apply]
  rfl

/-- A memory key. -/
theorem key_apply (b : Fin 2) (l : Fin 256) (h : Fin 4) (e : Fin 128) : val_main_v38 (F := Ideal) mk (ix4 b l h e)
    = mk (ix3 0 (slot b l) (col h e)) := by
  pointwise [val_main_v38, val_main_v37, val_main_v36]
  rfl

/-- A memory value. -/
theorem value_apply (b : Fin 2) (l : Fin 256) (h : Fin 4) (e : Fin 128) : val_main_v41 (F := Ideal) mv (ix4 b l h e)
    = mv (ix3 0 (slot b l) (col h e)) := by
  pointwise [val_main_v41, val_main_v40, val_main_v39]
  rfl

end Cert.Reference2Ideal.Xattn
-- ==== Proof.XattnRefOut.lean ====
/-
  What the plain cross-attention program returns, from its queries, keys and values on: the scores, their softmax, the
  heads' outputs, and the rows of the result.
-/
module

public import proofs.«01_k».proof.Proof.XattnRef

@[expose] public section

set_option maxRecDepth 16384

noncomputable section

namespace Cert.Reference2Ideal.Xattn

open Idealize.ShloMosaic Idealize.ShloMosaic.TcCoe Idealize.SL.Sem
open Cert.Reference2Ideal Cert.Reference2Ideal.Gen Cert.Reference2Ideal.Read Cert.Layer

variable (x : Vec Ideal S8256x2048 .f32) (mk mv : Vec Ideal S4x512x512 .f32) (g : Vec Ideal S4x2048 .f32)
  (wq : Vec Ideal S4x2048x512 .f32) (qg : Vec Ideal S4x128 .f32) (wo : Vec Ideal S4x512x2048 .f32)

/-- The scaled scores of row `t` of prompt `b`, head `h`, over the memory slots. -/
abbrev scores (b : Fin 2) (t : Fin 4096) (h : Fin 4) : Fin 256 → EReal := fun l =>
  dot (query (rms c2048 (fun k => x (ix2 (row b t) k)) (fun k => g (ix2 0 k))) (fun k j => wq (ix3 0 k j)) (fun k => qg (ix2 0 k)) h)
    (fun e => mk (ix3 0 (slot b l) (col h e))) * scale

theorem score_apply (b : Fin 2) (t : Fin 4096) (h : Fin 4) (l : Fin 256) : val_main_v45 (F := Ideal) x mk g wq qg (ix4 b h t l)
    = scores x mk g wq qg b t h l := by
  pointwise [val_main_v45, val_main_v44, val_main_v43, val_main_v42, val_main_cst_5]
  rw [div_root]
  refine congrArg (· * scale) ?_
  exact Finset.sum_congr rfl fun e _ => by rw [query_apply, key_apply]

/-- The reference's maximum over the slots, of any scores. -/
theorem reduce_max (y : FVec Ideal S2x4x4096x256 .f32) (c : FVec Ideal S_ .f32)
    (hr : S2x4x4096x256.ReducesTo [3] S2x4x4096) (hu : 0 < S_.numel) (b : Fin 2) (h : Fin 4) (t : Fin 4096) :
    Host.reduce FloatOps.maximumf y c hr hu (ix3 b h t)
      = Finset.univ.fold max (c (Shape.Idx.first hu)) fun l : Fin 256 => y (ix4 b h t l) := by
  pointwise

theorem max_apply (b : Fin 2) (t : Fin 4096) (h : Fin 4) : val_main_v48 (F := Ideal) x mk g wq qg (ix3 b h t)
    = rowMax (scores x mk g wq qg b t h) := by
  have e : val_main_v46 (F := Ideal) x mk g wq qg (ix3 b h t) = rowMax (scores x mk g wq qg b t h) := by
    unfold val_main_v46
    refine (reduce_max _ _ _ _ b h t).trans ?_
    have f : (fun l : Fin 256 => val_main_v45 (F := Ideal) x mk g wq qg (ix4 b h t l)) = scores x mk g wq qg b t h :=
      funext fun l => score_apply x mk g wq qg b t h l
    have i : val_main_cst_6 (F := Ideal) (Shape.Idx.first h_S_) = Ideal.ofBits .f32 0xFF800000#32 := rfl
    unfold rowMax
    rw [f, i]
  rw [val_main_v48_apply, val_main_v47_apply, e]
  exact max_rowMax _

theorem exp_apply (b : Fin 2) (t : Fin 4096) (h : Fin 4) (l : Fin 256) : val_main_v52 (F := Ideal) x mk g wq qg (ix4 b h t l)
    = expRow (scores x mk g wq qg b t h) l := by
  pointwise [val_main_v52, val_main_v51, val_main_v50, val_main_v49]
  rw [score_apply, max_apply]
  rfl

/-- The softmax over the memory slots. -/
theorem softmax_apply (b : Fin 2) (t : Fin 4096) (h : Fin 4) (l : Fin 256) : val_main_v56 (F := Ideal) x mk g wq qg (ix4 b h t l)
    = softmax (scores x mk g wq qg b t h) l := by
  pointwise [val_main_v56, val_main_v55, val_main_v54, val_main_v53, val_main_cst_8]
  simp only [exp_apply]
  rfl

/-- A head's output. -/
theorem head_apply (b : Fin 2) (t : Fin 4096) (h : Fin 4) (e : Fin 128) : val_main_v58 (F := Ideal) x mk mv g wq qg (ix4 b t h e)
    = headOut scale (query (rms c2048 (fun k => x (ix2 (row b t) k)) (fun k => g (ix2 0 k))) (fun k j => wq (ix3 0 k j)) (fun k => qg (ix2 0 k)) h)
      (fun l e => mk (ix3 0 (slot b l) (col h e))) (fun l e => mv (ix3 0 (slot b l) (col h e))) e := by
  pointwise [val_main_v58, val_main_v57]
  simp only [softmax_apply, value_apply]
  exact Finset.sum_congr rfl fun l _ => mul_comm _ _

/-- The heads' outputs side by side. -/
theorem heads_apply (b : Fin 2) (t : Fin 4096) (j : Fin 512) : val_main_v59 (F := Ideal) x mk mv g wq qg (ix3 b t j)
    = val_main_v58 (F := Ideal) x mk mv g wq qg (ix4 b t (headOf j) (inHead j)) := by
  pointwise [val_main_v59]
  rfl

/-- The attended row. -/
theorem cross_apply (b : Fin 2) (t : Fin 4096) (d : Fin 2048) : val_main_v63 (F := Ideal) x mk mv g wq qg wo (ix3 b t d)
    = cross scale (fun k => x (ix2 (row b t) k)) (fun k => g (ix2 0 k)) (fun k j => wq (ix3 0 k j)) (fun k => qg (ix2 0 k))
      (fun l j => mk (ix3 0 (slot b l) j)) (fun l j => mv (ix3 0 (slot b l) j)) (fun j k => wo (ix3 0 j k)) d := by
  pointwise [val_main_v63, val_main_v62, val_main_v61, val_main_v60]
  simp only [in_apply, heads_apply, head_apply]
  rfl

/-- The result at a prompt's row. -/
theorem out_rows (b : Fin 2) (t : Fin 4096) (d : Fin 2048) : val_main_v66 (F := Ideal) x mk mv g wq qg wo (ix2 (row b t) d)
    = val_main_v63 (F := Ideal) x mk mv g wq qg wo (ix3 b t d) := by
  pointwise [val_main_v66, val_main_v64, val_main_v65]
  have h : (row b t).val = b.val * 4096 + t.val := rfl
  rw [dif_pos (by omega)]
  congr 2 <;> apply Fin.ext <;> dsimp only <;> omega

/-- The result at a later row. -/
theorem out_rest (R : Fin 8256) (hR : 8192 ≤ R.val) (d : Fin 2048) : val_main_v66 (F := Ideal) x mk mv g wq qg wo (ix2 R d)
    = x (ix2 R d) := by
  pointwise [val_main_v66, val_main_v65]
  rw [dif_neg (by omega)]
  exact congrArg (fun r => x (ix2 r d)) (Fin.ext (Nat.add_sub_of_le hR))

end Cert.Reference2Ideal.Xattn
-- ==== Proof.XattnClaim.lean ====
/-
  The cross-attention kernel and the plain cross-attention program end with the same result array.
-/
module

public import proofs.«01_k».proof.Defs
public import proofs.«01_k».proof.Proof.XattnOut
public import proofs.«01_k».proof.Proof.XattnRefOut
public import Idealize.ShloMosaic.Lib.Quiescent

@[expose] public section

set_option maxRecDepth 16384

noncomputable section

namespace Cert.Xattn

open Idealize.ShloMosaic Idealize.ShloMosaic.TcCoe Idealize.SL.Sem

/-- The plain program's result is the kernel's, from the same arguments. -/
theorem out_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v66 (F := Ideal)
      (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6))
      = (Cert.Kernel2Ideal.Gen.dats m 0 c).arrAt 7 Cert.Kernel2Ideal.cfg0.N := by
  funext i
  obtain ⟨R, d, rfl⟩ : ∃ (R : Fin 8256) (d : Fin 2048), i = ix2 R d := ⟨i 0, i 1, eq_ix2 i⟩
  by_cases hR : R.val < 8192
  · refine Eq.trans ?_ (Cert.Kernel2Ideal.Xattn.out_rows m c R hR d).symm
    obtain ⟨b, t, rfl⟩ : ∃ (b : Fin 2) (t : Fin 4096), R = Cert.Reference2Ideal.Xattn.row b t :=
      ⟨⟨R.val / 4096, by omega⟩, ⟨R.val % 4096, by omega⟩, Fin.ext (Nat.div_add_mod' R.val 4096).symm⟩
    have hb : (⟨(Cert.Reference2Ideal.Xattn.row b t).val / 4096, by omega⟩ : Fin 2) = b :=
      Fin.ext (by show (b.val * 4096 + t.val) / 4096 = b.val; omega)
    rw [hb]
    exact (Cert.Reference2Ideal.Xattn.out_rows _ _ _ _ _ _ _ b t d).trans (Cert.Reference2Ideal.Xattn.cross_apply _ _ _ _ _ _ _ b t d)
  · exact (Cert.Reference2Ideal.Xattn.out_rest _ _ _ _ _ _ _ R (by omega) d).trans
      (Cert.Kernel2Ideal.Xattn.out_rest m c R (by omega) d).symm

/-- The value claim. -/
theorem algebraic : Cert.algebraic_Kernel2Ideal_Reference2Ideal
    (hKernel2Ideal := Cert.Kernel2Ideal.Gen.facts) (hReference2Ideal := Cert.Reference2Ideal.Gen.facts) := by
  intro m ρ m' ρ' _ hag
  refine ⟨fun c => (Cert.Kernel2Ideal.Gen.dats m 0 c).arrAt 7 Cert.Kernel2Ideal.cfg0.N, Cert.Kernel2Ideal.Value.run_blocks m ρ,
    (θ_run _ _ _).mono (fun r h c => ?_) (Cert.Reference2Ideal.Value.run m' ρ')⟩
  obtain ⟨a0, a1, a2, a3, a4, a5, a6⟩ := hag c
  obtain ⟨h1, hr⟩ := h c
  refine ⟨(h1.trans (Cert.Reference2Ideal.Read.val_main_v66_eq m' c)).trans ?_, hr⟩
  rw [a0, a1, a2, a3, a4, a5, a6]
  exact out_eq m c

/-- The plain program runs and leaves its arguments. -/
theorem frame_reference : Cert.quiescent_Reference2Ideal (hReference2Ideal := Cert.Reference2Ideal.Gen.facts) := by
  intro m ρ _
  exact (θ_run _ _ _).mono (fun r h => ⟨fun c => (h c).2, sem_eq_zero_of_no_sems rfl _⟩) (Cert.Reference2Ideal.Value.run m ρ)

/-- The literal that stands for the inverse root of 128. -/
theorem preserves : Cert.preserves_Kernel2_Kernel2Ideal :=
  IdealRules.named_const.statement Cert.Kernel2Ideal.κ "s" .f32 0x3DB504F3#32 (((Real.sqrt 128)⁻¹ : ℝ) : EReal) rfl

end Cert.Xattn
-- ==== Proof.LastFfnStep.lean ====
/-
  What one grid point of the feed-forward kernel leaves in its output and its carried scratch, as the body's named
  payloads: the first column block resets, the middle ones add, the last one adds and finishes.
-/
module

public import proofs.«01_k».proof.Proof.Gen.Kernel3Ideal.Value
public import Idealize.ShloMosaic.Lib.Pointwise

@[expose] public section

set_option maxRecDepth 16384

noncomputable section

namespace Cert.Kernel3Ideal.LastFfn

open Idealize.ShloMosaic Idealize.ShloMosaic.TcCoe Idealize.SL.Sem
open Cert.Kernel3Ideal Cert.Kernel3Ideal.Gen Cert.Kernel3Ideal.Value

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

variable {F : FTy → Type} [FloatOps F]
variable (m : (ℓ : Loc nD τ sig) → Buf (Elt F) ℓ)

/-- At the first point of a row block the partial product is stored and the scratch gets the normed rows. -/
theorem step_A (c : Dev nD) (t : Fin cfg0.N) (acc : Vec F S688x2048 .f32 × Vec F S688x2048 .bf16) (h : t.val % 11 = 0) :
    (stAt0 m c t.val t.isLt acc).1 = k0_pay2 (k0_pay1 (iblk m c 0 t) (iblk m c 1 t)) (iblk m c 2 t) (iblk m c 3 t) (iblk m c 4 t) := by
  rw [stAt0_A m c t acc h h (by omega) (by omega)]
  dsimp only
  unfold out0_A_5
  refine (View.read_writes_eq_canon _ _ _ (fun y => cover0_A_5 _ _ _ _ _ _ _ _ _ _ _ _ _ _ _ _ _ _ _ _ _ _ _ _ _ y)).trans ?_
  unfold kernelRun0_A
  dsimp only
  sl_unfold_words
  rw [View.canon_unit_zero hz]
  simp only [View.readAt_eq_ld, View.readCov_unit_zero (S := S688x2048) _ hz, (hs0_0 t).read_unread, (hs0_1 t).read_unread, (hs0_2 t).read_unread, (hs0_3 t).read_unread, (hs0_4 t).read_unread, View.ld_unit_zero (S := S688x2048) hz,  View.ld_unit_zero (S := S1x2048) hz,
    View.ld_unit_zero (S := S1x2048x512) hz3, View.ld_unit_zero (S := S1x512x2048) hz3]

/-- ... and the scratch holds the normed rows. -/
theorem scr_A (c : Dev nD) (t : Fin cfg0.N) (acc : Vec F S688x2048 .f32 × Vec F S688x2048 .bf16) (h : t.val % 11 = 0) :
    (stAt0 m c t.val t.isLt acc).2 = k0_pay1 (iblk m c 0 t) (iblk m c 1 t) := by
  rw [stAt0_A m c t acc h h (by omega) (by omega)]
  dsimp only
  unfold sout0_A_0
  refine (View.read_writes_eq_canon _ _ _ (fun y => scover0_A_0 _ _ _ _ _ _ _ _ _ _ _ _ _ _ _ _ _ _ _ _ _ _ _ _ _ y)).trans ?_
  unfold kernelRun0_A
  dsimp only
  sl_unfold_words
  rw [View.canon_unit_zero hz]
  simp only [View.readAt_eq_ld, View.readCov_unit_zero (S := S688x2048) _ hz, (hs0_0 t).read_unread, (hs0_1 t).read_unread, (hs0_2 t).read_unread, (hs0_3 t).read_unread, (hs0_4 t).read_unread, View.ld_unit_zero (S := S688x2048) hz,  View.ld_unit_zero (S := S1x2048) hz,
    View.ld_unit_zero (S := S1x2048x512) hz3, View.ld_unit_zero (S := S1x512x2048) hz3]

/-- At a middle point the partial product is added to what the output holds; the scratch stays. -/
theorem step_B (c : Dev nD) (t : Fin cfg0.N) (acc : Vec F S688x2048 .f32 × Vec F S688x2048 .bf16) (h : t.val % 11 ≠ 0) (h' : t.val % 11 ≠ 10) :
    (stAt0 m c t.val t.isLt acc).1 = k0_pay3 acc.2 (iblk m c 2 t) (iblk m c 3 t) (iblk m c 4 t) acc.1 ∧ (stAt0 m c t.val t.isLt acc).2 = acc.2 := by
  rw [stAt0_B m c t acc h h (by omega) h']
  dsimp only
  constructor
  · unfold out0_B_5
    refine (View.read_writes_eq_canon _ _ _ (fun y => cover0_B_5 _ _ _ _ _ _ _ _ _ _ _ _ _ _ _ _ _ _ _ _ _ _ _ _ _ _ _ y)).trans ?_
    unfold kernelRun0_B
    dsimp only
    sl_unfold_words
    rw [View.canon_unit_zero hz]
    simp only [View.readAt_eq_ld, View.readCov_unit_zero (S := S688x2048) _ hz, (hs0_0 t).read_unread, (hs0_1 t).read_unread, (hs0_2 t).read_unread, (hs0_3 t).read_unread, (hs0_4 t).read_unread, (hs0_5 t).read_unread, (Memref.isWhole_whole _ : scM0_0.IsWhole).read_unread, View.ld_unit_zero (S := S688x2048) hz,  View.ld_unit_zero (S := S1x2048) hz,
    View.ld_unit_zero (S := S1x2048x512) hz3, View.ld_unit_zero (S := S1x512x2048) hz3]
  · unfold sout0_B_0
    rfl

/-- At the last point of a row block the half residual is taken. -/
theorem step_C (c : Dev nD) (t : Fin cfg0.N) (acc : Vec F S688x2048 .f32 × Vec F S688x2048 .bf16)  (h' : t.val % 11 = 10) :
    (stAt0 m c t.val t.isLt acc).1 = k0_pay4 (iblk m c 0 t) (k0_pay3 acc.2 (iblk m c 2 t) (iblk m c 3 t) (iblk m c 4 t) acc.1) := by
  rw [stAt0_C m c t acc (by omega) (by omega) (by omega) h']
  dsimp only
  unfold out0_C_5
  refine (View.read_writes_eq_canon _ _ _ (fun y => cover0_C_5 _ _ _ _ _ _ _ _ _ _ _ _ _ _ _ _ _ _ _ _ _ _ _ _ _ _ _ y)).trans ?_
  unfold kernelRun0_C
  dsimp only
  sl_unfold_words
  rw [View.canon_cons_unit_zero (S:= S688x2048) hz]
  simp only [View.readAt_eq_ld, View.readCov_unit_zero (S := S688x2048) _ hz, (hs0_0 t).read_unread, (hs0_1 t).read_unread, (hs0_2 t).read_unread, (hs0_3 t).read_unread, (hs0_4 t).read_unread, (hs0_5 t).read_unread, (Memref.isWhole_whole _ : scM0_0.IsWhole).read_unread, View.ld_unit_zero (S := S688x2048) hz,  View.ld_unit_zero (S := S1x2048) hz,
  View.ld_unit_zero (S := S1x2048x512) hz3, View.ld_unit_zero (S := S1x512x2048) hz3]

end Cert.Kernel3Ideal.LastFfn
-- ==== Proof.LastFfnBlocks.lean ====
/-
  What the feed-forward kernel's input windows hold at a grid point, entry by entry, from the arguments: the rows of the
  point's row block, the norm's gain, and the point's column block of the three weight matrices of layer 0.
-/
module

public import proofs.«01_k».proof.Proof.LastFfnStep

@[expose] public section

set_option maxRecDepth 16384

noncomputable section

namespace Cert.Kernel3Ideal.LastFfn

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ)

/-- The region finds the gate weights converted, which changes nothing at the extended reals. -/
theorem V_gate (c : Dev nD) : V m c main_v2 = m ((c : Thread nD τ).loc main_arg2) := by
  unfold_abbrev_sides; after_results; rfl
/-- The region finds the up weights likewise. -/
theorem V_up (c : Dev nD) : V m c main_v3 = m ((c : Thread nD τ).loc main_arg3) := by
  unfold_abbrev_sides; after_results; rfl
/-- The region finds the down weights likewise. -/
theorem V_down (c : Dev nD) : V m c main_v4 = m ((c : Thread nD τ).loc main_arg4) := by
  unfold_abbrev_sides; after_results; rfl
/-- The region finds the norm's gain as one row. -/
theorem V_gain (c : Dev nD) (d : Fin 2048) :
    (V m c main_v5 : Vec Ideal S1x2048 .f32) (ix2 0 d) = (m ((c : Thread nD τ).loc main_arg1) : Vec Ideal S4x2048 .f32) (ix2 0 d) := by
  unfold_abbrev_sides; after_results
  show shapeCast S1x2048 (shapeCast S2048 (extractStridedSlice S1x2048 ![0, 0] (m ((c : Thread nD τ).loc main_arg1) : Vec Ideal S4x2048 .f32) slices_S4x2048_S1x2048_0_0) shapeCasts_S1x2048_S2048) shapeCasts_S2048_S1x2048 (ix2 0 d) = _
  pointwise
theorem idx0 : ∀ t : Fin cfg0.N, win0_0.index t (0 : Fin 2) = t.val / 11 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = 0 ∧ win0_2.index t (1 : Fin 3) = 0 ∧ win0_2.index t (2 : Fin 3) = t.val % 11 :=
  (by decide +kernel : ∀ t : Fin grid0.N, _)
theorem idx3 : ∀ t : Fin cfg0.N, win0_3.index t (0 : Fin 3) = 0 ∧ win0_3.index t (1 : Fin 3) = 0 ∧ win0_3.index t (2 : Fin 3) = t.val % 11 :=
  (by decide +kernel : ∀ t : Fin grid0.N, _)
theorem idx4 : ∀ t : Fin cfg0.N, win0_4.index t (0 : Fin 3) = 0 ∧ win0_4.index t (1 : Fin 3) = t.val % 11 ∧ win0_4.index t (2 : Fin 3) = 0 :=
  (by decide +kernel : ∀ t : Fin grid0.N, _)
/-- The input rows of the point's row block. -/
theorem blk_x (c : Dev nD) (t : Fin cfg0.N) (r : Fin 688) (d : Fin 2048) (R : Fin 8256) (hR : R.val = 688 * (t.val / 11) + r.val) :
    (iblk m c 0 t : Vec Ideal S688x2048 .f32) (ix2 r d) = (m ((c : Thread nD τ).loc main_arg0) : Vec Ideal S8256x2048 .f32) (ix2 R d) := by
  unfold iblk
  rw [View.read_apply]
  show V m c main_arg0 _ = _
  rw [V_main_arg0]
  congr 1; funext a; apply Fin.ext
  match a with
  | ⟨0, _⟩ => show win0_0.index t (0 : Fin 2) * 688 + 1 * r.val = R.val; rw [(idx0 t).1]; omega
  | ⟨1, _⟩ => show win0_0.index t (1 : Fin 2) * 2048 + 1 * d.val = d.val; rw [(idx0 t).2]; omega

/-- The norm's gain. -/
theorem blk_g (c : Dev nD) (t : Fin cfg0.N) (d : Fin 2048) :
    (iblk m c 1 t : Vec Ideal S1x2048 .f32) (ix2 0 d) = (m ((c : Thread nD τ).loc main_arg1) : Vec Ideal S4x2048 .f32) (ix2 0 d) := by
  refine Eq.trans ?_ (V_gain m c d)
  unfold iblk
  rw [View.read_apply]
  show V m c main_v5 _ = _
  congr 1; funext a; apply Fin.ext
  match a with
  | ⟨0, _⟩ => show win0_1.index t (0 : Fin 2) * 1 + 1 * 0 = 0; rw [(idx1 t).1]
  | ⟨1, _⟩ => show win0_1.index t (1 : Fin 2) * 2048 + 1 * d.val = d.val; rw [(idx1 t).2]; omega

/-- The gate weights' column block. -/
theorem blk_gate (c : Dev nD) (t : Fin cfg0.N) (k : Fin 2048) (f : Fin 512) (J : Fin 5632) (hJ : J.val = 512 * (t.val % 11) + f.val) :
    (iblk m c 2 t : Vec Ideal S1x2048x512 .bf16) (ix3 0 k f) = (m ((c : Thread nD τ).loc main_arg2) : Vec Ideal S4x2048x5632 .f32) (ix3 0 k J) := by
  unfold iblk
  rw [View.read_apply]
  show V m c main_v2 _ = _
  rw [V_gate]
  congr 1; funext a; apply Fin.ext
  match a with
  | ⟨0, _⟩ => show win0_2.index t (0 : Fin 3) * 1 + 1 * 0 = 0; rw [(idx2 t).1]
  | ⟨1, _⟩ => show win0_2.index t (1 : Fin 3) * 2048 + 1 * k.val = k.val; rw [(idx2 t).2.1]; omega
  | ⟨2, _⟩ => show win0_2.index t (2 : Fin 3) * 512 + 1 * f.val = J.val; rw [(idx2 t).2.2]; omega

/-- The up weights' column block. -/
theorem blk_up (c : Dev nD) (t : Fin cfg0.N) (k : Fin 2048) (f : Fin 512) (J : Fin 5632) (hJ : J.val = 512 * (t.val % 11) + f.val) :
    (iblk m c 3 t : Vec Ideal S1x2048x512 .bf16) (ix3 0 k f) = (m ((c : Thread nD τ).loc main_arg3) : Vec Ideal S4x2048x5632 .f32) (ix3 0 k J) := by
  unfold iblk
  rw [View.read_apply]
  show V m c main_v3 _ = _
  rw [V_up]
  congr 1; funext a; apply Fin.ext
  match a with
  | ⟨0, _⟩ => show win0_3.index t (0 : Fin 3) * 1 + 1 * 0 = 0; rw [(idx3 t).1]
  | ⟨1, _⟩ => show win0_3.index t (1 : Fin 3) * 2048 + 1 * k.val = k.val; rw [(idx3 t).2.1]; omega
  | ⟨2, _⟩ => show win0_3.index t (2 : Fin 3) * 512 + 1 * f.val = J.val; rw [(idx3 t).2.2]; omega

/-- The down weights' row block. -/
theorem blk_down (c : Dev nD) (t : Fin cfg0.N) (f : Fin 512) (d : Fin 2048) (J : Fin 5632) (hJ : J.val = 512 * (t.val % 11) + f.val) :
    (iblk m c 4 t : Vec Ideal S1x512x2048 .bf16) (ix3 0 f d) = (m ((c : Thread nD τ).loc main_arg4) : Vec Ideal S4x5632x2048 .f32) (ix3 0 J d) := by
  unfold iblk
  rw [View.read_apply]
  show V m c main_v4 _ = _
  rw [V_down]
  congr 1; funext a; apply Fin.ext
  match a with
  | ⟨0, _⟩ => show win0_4.index t (0 : Fin 3) * 1 + 1 * 0 = 0; rw [(idx4 t).1]
  | ⟨1, _⟩ => show win0_4.index t (1 : Fin 3) * 512 + 1 * f.val = J.val; rw [(idx4 t).2.1]; omega
  | ⟨2, _⟩ => show win0_4.index t (2 : Fin 3) * 2048 + 1 * d.val = d.val; rw [(idx4 t).2.2]; omega

end Cert.Kernel3Ideal.LastFfn
-- ==== Proof.LastFfnFold.lean ====
/-
  What the feed-forward kernel's result array holds, entry by entry: the partial sums over the column blocks add up to
  the sum over all hidden units, by induction on the grid point.
-/
module

public import proofs.«01_k».proof.Proof.Spec
public import proofs.«01_k».proof.Proof.LastFfnBlocks

@[expose] public section

set_option maxRecDepth 16384

noncomputable section

namespace Cert.Kernel3Ideal.LastFfn

open Idealize.ShloMosaic Idealize.ShloMosaic.TcCoe Idealize.SL.Sem
open Cert.Kernel3Ideal Cert.Kernel3Ideal.Gen Cert.Kernel3Ideal.Value Cert.Layer

/-! ## The payloads at an entry -/

/-- The normed rows. -/
theorem pay1_apply (x : Vec Ideal S688x2048 .f32) (g : Vec Ideal S1x2048 .f32) (r : Fin 688) (d : Fin 2048) :
    k0_pay1 (F := Ideal) x g (ix2 r d) = rms c2048 (fun k => x (ix2 r k)) (fun k => g (ix2 0 k)) d := by
  pointwise [k0_pay1]
  rfl

/-- One column block's contribution to the down projection. -/
theorem pay2_apply (h : Vec Ideal S688x2048 .bf16) (wg wu : Vec Ideal S1x2048x512 .bf16) (wd : Vec Ideal S1x512x2048 .bf16)
    (r : Fin 688) (d : Fin 2048) : k0_pay2 (F := Ideal) h wg wu wd (ix2 r d)
      = ∑ f : Fin 512, hid (fun k => h (ix2 r k)) (fun k => wg (ix3 0 k f)) (fun k => wu (ix3 0 k f)) * wd (ix3 0 f d) := by
  pointwise [k0_pay2]
  rfl

/-- The contribution added to what was there. -/
theorem pay3_apply (h : Vec Ideal S688x2048 .bf16) (wg wu : Vec Ideal S1x2048x512 .bf16) (wd : Vec Ideal S1x512x2048 .bf16)
    (o : Vec Ideal S688x2048 .f32) (r : Fin 688) (d : Fin 2048) : k0_pay3 (F := Ideal) h wg wu wd o (ix2 r d)
      = o (ix2 r d) + ∑ f : Fin 512, hid (fun k => h (ix2 r k)) (fun k => wg (ix3 0 k f)) (fun k => wu (ix3 0 k f)) * wd (ix3 0 f d) := by
  pointwise [k0_pay3]
  rw [pay2_apply]

/-- The half residual. -/
theorem pay4_apply (x o : Vec Ideal S688x2048 .f32) (r : Fin 688) (d : Fin 2048) :
    k0_pay4 (F := Ideal) x o (ix2 r d) = x (ix2 r d) + half * o (ix2 r d) := by
  pointwise [k0_pay4]

/-! ## The arguments by row and column -/

variable (m : (ℓ : Loc nD τ sig) → Buf (Elt Ideal) ℓ)

/-- Row `R` of the input. -/
abbrev inRow (c : Dev nD) (R : Fin 8256) : Fin 2048 → EReal :=
  fun k => (m ((c : Thread nD τ).loc main_arg0) : Vec Ideal S8256x2048 .f32) (ix2 R k)
/-- Layer 0's gain. -/
abbrev gain (c : Dev nD) : Fin 2048 → EReal :=
  fun k => (m ((c : Thread nD τ).loc main_arg1) : Vec Ideal S4x2048 .f32) (ix2 0 k)
/-- Layer 0's gate weights. -/
abbrev gateW (c : Dev nD) : Fin 2048 → Fin 5632 → EReal :=
  fun k j => (m ((c : Thread nD τ).loc main_arg2) : Vec Ideal S4x2048x5632 .f32) (ix3 0 k j)
/-- Layer 0's up weights. -/
abbrev upW (c : Dev nD) : Fin 2048 → Fin 5632 → EReal :=
  fun k j => (m ((c : Thread nD τ).loc main_arg3) : Vec Ideal S4x2048x5632 .f32) (ix3 0 k j)
/-- Layer 0's down weights. -/
abbrev downW (c : Dev nD) : Fin 5632 → Fin 2048 → EReal :=
  fun j d => (m ((c : Thread nD τ).loc main_arg4) : Vec Ideal S4x5632x2048 .f32) (ix3 0 j d)
/-- Hidden unit `j`'s share of entry `(R, d)` of the down projection, zero past the last unit. -/
def share (c : Dev nD) (R : Fin 8256) (d : Fin 2048) (j : ℕ) : EReal :=
  if h : j < 5632 then
    hid (rms c2048 (inRow m c R) (gain m c)) (fun k => gateW m c k ⟨j, h⟩) (fun k => upW m c k ⟨j, h⟩) * downW m c ⟨j, h⟩ d
  else 0

/-- All shares add up to the down projection's sum. -/
theorem sum_share (c : Dev nD) (R : Fin 8256) (d : Fin 2048) : ∑ j ∈ Finset.range 5632, share m c R d j
    = ∑ j, hid (rms c2048 (inRow m c R) (gain m c)) (fun k => gateW m c k j) (fun k => upW m c k j) * downW m c j d := by
  rw [Finset.sum_range]
  exact Finset.sum_congr rfl fun j _ => dif_pos j.isLt

/-- A point's contribution is the shares of its column block. -/
theorem block_share (c : Dev nD) (t : Fin cfg0.N) (h : Vec Ideal S688x2048 .bf16) (r : Fin 688) (R : Fin 8256) (d : Fin 2048)
    (hh : ∀ k, h (ix2 r k) = rms c2048 (inRow m c R) (gain m c) k) :
    (∑ f : Fin 512, hid (fun k => h (ix2 r k)) (fun k => (iblk m c 2 t : Vec Ideal S1x2048x512 .bf16) (ix3 0 k f))
        (fun k => (iblk m c 3 t : Vec Ideal S1x2048x512 .bf16) (ix3 0 k f)) * (iblk m c 4 t : Vec Ideal S1x512x2048 .bf16) (ix3 0 f d))
      = ∑ j ∈ Finset.range 512, share m c R d (512 * (t.val % 11) + j) := by
  rw [Finset.sum_range]
  refine Finset.sum_congr rfl fun f _ => ?_
  have hj : 512 * (t.val % 11) + f.val < 5632 := by have := f.isLt; omega
  unfold share
  rw [dif_pos hj, blk_down m c t f d ⟨_, hj⟩ rfl]
  simp only [hh, blk_gate m c t _ f ⟨_, hj⟩ rfl, blk_up m c t _ f ⟨_, hj⟩ rfl]

/-! ## The fold -/

/-- What the output and the scratch hold after point `n`, short of the last of its row block: the partial sums over the
    column blocks so far, and the normed rows. -/
def Held (c : Dev nD) (n : ℕ) (o : Vec Ideal S688x2048 .f32 × Vec Ideal S688x2048 .bf16) : Prop :=
  ∀ (r : Fin 688) (R : Fin 8256), R.val = 688 * (n / 11) + r.val →
    (∀ k, o.2 (ix2 r k) = rms c2048 (inRow m c R) (gain m c) k)
    ∧ ∀ d, o.1 (ix2 r d) = ∑ j ∈ Finset.range (512 * (n % 11 + 1)), share m c R d j

/-- The first column block. -/
theorem held_first (c : Dev nD) (t : Fin cfg0.N) (h : t.val % 11 = 0)
    (acc : Vec Ideal S688x2048 .f32 × Vec Ideal S688x2048 .bf16) :
    Held m c t.val (stAt0 m c t.val t.isLt acc) := by
  intro r R hR
  have hn : ∀ k, k0_pay1 (F := Ideal) (iblk m c 0 t) (iblk m c 1 t) (ix2 r k) = rms c2048 (inRow m c R) (gain m c) k := fun k => by
    rw [pay1_apply]
    simp only [blk_x m c t r _ R hR, blk_g]
  refine ⟨fun k => by rw [scr_A m c t acc h, hn], fun d => ?_⟩
  rw [step_A m c t acc h, pay2_apply, block_share m c t _ r R d hn, h]
  simp only [Nat.mul_zero, Nat.zero_add, Nat.mul_one]

/-- A further column block: the sum so far grows by the block's shares. -/
theorem sum_grow (c : Dev nD) (t : Fin cfg0.N) (h : t.val % 11 ≠ 0)
    (acc : Vec Ideal S688x2048 .f32 × Vec Ideal S688x2048 .bf16)
    (ha : Held m c (t.val - 1) acc) (r : Fin 688) (R : Fin 8256) (hR : R.val = 688 * (t.val / 11) + r.val) (d : Fin 2048) :
    k0_pay3 (F := Ideal) acc.2 (iblk m c 2 t) (iblk m c 3 t) (iblk m c 4 t) acc.1 (ix2 r d)
      = ∑ j ∈ Finset.range (512 * (t.val % 11 + 1)), share m c R d j := by
  obtain ⟨h1, h2⟩ := ha r R (by omega)
  rw [pay3_apply, block_share m c t _ r R d h1, h2, show (t.val - 1) % 11 + 1 = t.val % 11 by omega,
    show 512 * (t.val % 11 + 1) = 512 * (t.val % 11) + 512 by omega, Finset.sum_range_add]

/-- A middle column block. -/
theorem held_next (c : Dev nD) (t : Fin cfg0.N) (h : t.val % 11 ≠ 0) (h' : t.val % 11 ≠ 10)
    (acc : Vec Ideal S688x2048 .f32 × Vec Ideal S688x2048 .bf16)
    (ha : Held m c (t.val - 1) acc) : Held m c t.val (stAt0 m c t.val t.isLt acc) := by
  intro r R hR
  obtain ⟨e1, e2⟩ := step_B m c t acc h h'
  refine ⟨fun k => ?_, fun d => ?_⟩
  · rw [e2]; exact (ha r R (by omega)).1 k
  · rw [e1]; exact sum_grow m c t h acc ha r R hR d

/-- After every point but the last of a row block, the partial sums are held. -/
theorem held (c : Dev nD) : ∀ (n : ℕ) (hn : n < cfg0.N), n % 11 ≠ 10 → Held m c n (outsAt0 m c n hn)
  | 0, hn, _ => by rw [outsAt0_zero]; exact held_first m c ⟨0, hn⟩ rfl _
  | n + 1, hn, h => by
    rw [outsAt0_succ]
    by_cases h0 : (n + 1) % 11 = 0
    · exact held_first m c ⟨n + 1, hn⟩ h0 _
    · exact held_next m c ⟨n + 1, hn⟩ h0 h _ (held c n (Nat.lt_of_succ_lt hn) (by omega))

/-- The half step of row `R`. -/
abbrev outRow (c : Dev nD) (R : Fin 8256) : Fin 2048 → EReal :=
  ffn c2048 (inRow m c R) (gain m c) (gateW m c) (upW m c) (downW m c)

/-- At the last point of a row block the output holds the half step. -/
theorem last (c : Dev nD) (n : ℕ) (hn : n < cfg0.N) (h : n % 11 = 10) (r : Fin 688) (R : Fin 8256)
    (hR : R.val = 688 * (n / 11) + r.val) (d : Fin 2048) :
    (outsAt0 m c n hn).1 (ix2 r d) = outRow m c R d := by
  obtain ⟨n, rfl⟩ : ∃ k, n = k + 1 := ⟨n - 1, by omega⟩
  rw [outsAt0_succ]
  have e1 := step_C m c ⟨n + 1, hn⟩ (outsAt0 m c n (Nat.lt_of_succ_lt hn)) h
  have hs : ∀ d, k0_pay3 (F := Ideal) (outsAt0 m c n (Nat.lt_of_succ_lt hn)).2 (iblk m c 2 ⟨n + 1, hn⟩) (iblk m c 3 ⟨n + 1, hn⟩)
      (iblk m c 4 ⟨n + 1, hn⟩) (outsAt0 m c n (Nat.lt_of_succ_lt hn)).1 (ix2 r d)
      = ∑ j, hid (rms c2048 (inRow m c R) (gain m c)) (fun k => gateW m c k j) (fun k => upW m c k j) * downW m c j d := fun d => by
    rw [sum_grow m c ⟨n + 1, hn⟩ (by dsimp only; omega) _ (held m c n (Nat.lt_of_succ_lt hn) (by omega)) r R hR d]
    dsimp only
    rw [h]; exact sum_share m c R d
  refine (congrFun e1 _).trans ?_
  rw [pay4_apply, hs, blk_x m c ⟨n + 1, hn⟩ r d R hR]; rfl

/-! ## The result array -/

/-- The result array holds the half step of every row. -/
theorem G5_apply (c : Dev nD) (R : Fin 8256) (d : Fin 2048) : G5 m c (ix2 R d) = outRow m c R d := by
  have hd := d.isLt
  have hR := R.isLt
  have hp : pt5Of (ix2 R d) = 11 * (R.val / 688) + 10 := by
    show 11 * (1 * (R.val / 688 - 0) + 1 * (d.val / 2048 - 0)) + 10 = _
    omega
  have hb : pt5Of (ix2 R d) < cfg0.N := by rw [hp, show cfg0.N = 132 from N_0]; omega
  unfold G5
  rw [dif_pos hb, ← outsAt0_sweep m c _ hb,
    show loc5Of (ix2 R d) = ix2 ⟨R.val % 688, Nat.mod_lt _ (by decide)⟩ ⟨d.val % 2048, Nat.mod_lt _ (by decide)⟩ from eq_ix2 _,
    (last m c _ hb (by omega) ⟨R.val % 688, Nat.mod_lt _ (by decide)⟩ R (by rw [hp]; dsimp only; omega) _)]
  congr 1; apply Fin.ext; exact Nat.mod_eq_of_lt hd

end Cert.Kernel3Ideal.LastFfn
-- ==== Proof.LastFfnRef.lean ====
/-
  What the plain feed-forward program returns, entry by entry: the half step of the row.
-/
module

public import proofs.«01_k».proof.Proof.Spec
public import proofs.«01_k».proof.Proof.Gen.Reference3Ideal.Run
public import proofs.«01_k».proof.Proof.Gen.Reference3Ideal.Read

@[expose] public section

set_option maxRecDepth 16384

noncomputable section

namespace Cert.Reference3Ideal.LastFfn

open Idealize.ShloMosaic Idealize.ShloMosaic.TcCoe Idealize.SL.Sem
open Cert.Reference3Ideal Cert.Reference3Ideal.Gen Cert.Reference3Ideal.Read Cert.Layer

variable (x : Vec Ideal S8256x2048 .f32) (g : Vec Ideal S4x2048 .f32) (wg wu : Vec Ideal S4x2048x5632 .f32)
  (wd : Vec Ideal S4x5632x2048 .f32)

/-- The normed input. -/
theorem norm_apply (r : Fin 8256) (d : Fin 2048) :
    val_main_v14 (F := Ideal) x g (ix2 r d) = rms c2048 (fun k => x (ix2 r k)) (fun k => g (ix2 0 k)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gate's projection. -/
theorem gate_apply (r : Fin 8256) (j : Fin 5632) : val_main_v17 (F := Ideal) x g wg (ix2 r j)
    = dot (rms c2048 (fun k => x (ix2 r k)) (fun k => g (ix2 0 k))) (fun k => wg (ix3 0 k j)) := by
  pointwise [val_main_v17, val_main_v16, val_main_v15]
  simp only [norm_apply]
  rfl

/-- The up projection. -/
theorem up_apply (r : Fin 8256) (j : Fin 5632) : val_main_v21 (F := Ideal) x g wu (ix2 r j)
    = dot (rms c2048 (fun k => x (ix2 r k)) (fun k => g (ix2 0 k))) (fun k => wu (ix3 0 k j)) := by
  pointwise [val_main_v21, val_main_v20, val_main_v19]
  simp only [norm_apply]
  rfl

/-- One hidden unit. -/
theorem hid_apply (r : Fin 8256) (j : Fin 5632) : val_main_v22 (F := Ideal) x g wg wu (ix2 r j)
    = hid (rms c2048 (fun k => x (ix2 r k)) (fun k => g (ix2 0 k))) (fun k => wg (ix3 0 k j)) (fun k => wu (ix3 0 k j)) := by
  pointwise [val_main_v22, val_main_v18, val_main_call0_v5, val_main_call0_v4, val_main_call0_v3, val_main_call0_v2, val_main_call0_v1, val_main_call0_v0, val_main_call0_cst, val_main_call0_cst_0]
  rw [gate_apply, up_apply]
  rfl

/-- The result: the feed-forward half step. -/
theorem out_apply (r : Fin 8256) (d : Fin 2048) : val_main_v28 (F := Ideal) x g wg wu wd (ix2 r d)
    = ffn c2048 (fun k => x (ix2 r k)) (fun k => g (ix2 0 k)) (fun k j => wg (ix3 0 k j)) (fun k j => wu (ix3 0 k j)) (fun j k => wd (ix3 0 j k)) d := by
  pointwise [val_main_v28, val_main_v27, val_main_v26, val_main_v25, val_main_v24, val_main_v23, val_main_cst_2]
  simp only [hid_apply]
  rfl

end Cert.Reference3Ideal.LastFfn
-- ==== Proof.LastFfnClaim.lean ====
/-
  The feed-forward kernel of the layer's last half step and the plain feed-forward program end with the same result array.
-/
module

public import proofs.«01_k».proof.Defs
public import proofs.«01_k».proof.Proof.LastFfnFold
public import proofs.«01_k».proof.Proof.LastFfnRef
public import Idealize.ShloMosaic.Lib.Quiescent

@[expose] public section

set_option maxRecDepth 16384

noncomputable section

namespace Cert.LastFfn

open Idealize.ShloMosaic Idealize.ShloMosaic.TcCoe Idealize.SL.Sem

/-- The plain program's result is the kernel's, from the same arguments. -/
theorem out_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v28 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      = Cert.Kernel3Ideal.Value.G5 m c := by
  funext i
  obtain ⟨R, d, rfl⟩ : ∃ (R : Fin 8256) (d : Fin 2048), i = ix2 R d := ⟨i 0, i 1, eq_ix2 i⟩
  exact (Cert.Reference3Ideal.LastFfn.out_apply _ _ _ _ _ R d).trans (Cert.Kernel3Ideal.LastFfn.G5_apply m c R d).symm

/-- The value claim. -/
theorem algebraic : Cert.algebraic_Kernel3Ideal_Reference3Ideal
    (hKernel3Ideal := Cert.Kernel3Ideal.Gen.facts) (hReference3Ideal := Cert.Reference3Ideal.Gen.facts) := by
  intro m ρ m' ρ' _ hag
  refine ⟨fun c => Cert.Kernel3Ideal.Value.G5 m c, Cert.Kernel3Ideal.Value.run m ρ,
    (θ_run _ _ _).mono (fun r h c => ?_) (Cert.Reference3Ideal.Value.run m' ρ')⟩
  obtain ⟨a0, a1, a2, a3, a4⟩ := hag c
  obtain ⟨h1, hr⟩ := h c
  refine ⟨(h1.trans (Cert.Reference3Ideal.Read.val_main_v28_eq _ _ _ _ _)).trans ?_, hr⟩
  rw [a0, a1, a2, a3, a4]; exact out_eq m c

/-- The plain program runs and leaves its arguments. -/
theorem frame_reference : Cert.quiescent_Reference3Ideal (hReference3Ideal := Cert.Reference3Ideal.Gen.facts) := by
  intro m ρ _
  exact (θ_run _ _ _).mono (fun r h => ⟨fun c => (h c).2, sem_eq_zero_of_no_sems rfl _⟩) (Cert.Reference3Ideal.Value.run m ρ)

end Cert.LastFfn
-- ==== Proof.Key1.lean ====
/-
  The key projection's kernel: layer 1 of its result holds the input rows' products with the key columns of the combined
  input projection, each head normed; the other layers what they held.
-/
module

public import proofs.«01_k».proof.Proof.Spec
public import proofs.«01_k».proof.Proof.Gen.Kernel4Ideal.Value
public import Idealize.ShloMosaic.Lib.Pointwise

@[expose] public section

set_option maxRecDepth 16384

noncomputable section

namespace Cert.Kernel4Ideal.Key1

open Idealize.ShloMosaic Idealize.ShloMosaic.TcCoe Idealize.SL.Sem
open Cert.Kernel4Ideal Cert.Kernel4Ideal.Gen Cert.Kernel4Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

/-- The body's payload. -/
abbrev payload {F : FTy → Type} [FloatOps F] (u : Vec F S1024x2048 .bf16) (w : Vec F S1x2048x1024 .bf16) (g : Vec F S1x128 .f32) : FVec F S1x1024x1024 .f32 :=
  k0_pay1 (k0_pay2 u w) (k0_pay3 g) (k0_pay4 u w g) (k0_pay5 u w g) (k0_pay8 (k0_pay3 g) (k0_pay6 u w) (k0_pay7 u w))
    (k0_pay9 (k0_pay2 u w) (k0_pay3 g)) (k0_pay10 (k0_pay2 u w) (k0_pay3 g)) (k0_pay11 (k0_pay2 u w) (k0_pay3 g))
    (k0_pay12 (k0_pay2 u w)) (k0_pay13 (k0_pay2 u w))

section
variable {F : FTy → Type} [FloatOps F]
variable (m : (ℓ : Loc nD τ sig) → Buf (Elt F) ℓ)

/-- The block a point leaves is the body's payload of its input blocks. -/
theorem step (c : Dev nD) (t : Fin cfg0.N) : outsAt0 m c t = payload (X0_0 m c t) (iblk m c 1 t) (iblk m c 2 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz3]
  simp only [View.readAt_eq_ld, (hs0_0 t).read_unread, (hs0_1 t).read_unread, (hs0_2 t).read_unread, View.ld_unit_zero (S := S1024x2048) hz,
    View.ld_unit_zero (S := S1x2048x1024) hz3, View.ld_unit_zero (S := S1x128) hz]
end

/-- One entry of a head's normed columns: the 128 columns from `o` on of a row of products, normed. -/
def headAt (z : Vec Ideal S1024x1024 .f32) (g : Vec Ideal S1x128 .f32) (r : Fin 1024) (o : ℕ) (ho : o + 128 ≤ 1024) (e : Fin 128) : EReal :=
  rms c128 (fun e : Fin 128 => z (ix2 r ⟨o + e.val, by omega⟩)) (fun e => g (ix2 0 e)) e

/-- One entry of the row's normed products: the column's head, at the column's place in it. -/
def normAt (z : Vec Ideal S1024x1024 .f32) (g : Vec Ideal S1x128 .f32) (r j : Fin 1024) : EReal :=
  headAt z g r (j.val / 128 * 128) (by omega) ⟨j.val % 128, by omega⟩

theorem headAt_eq (z : Vec Ideal S1024x1024 .f32) (g : Vec Ideal S1x128 .f32) (r : Fin 1024) (o : ℕ) (ho : o + 128 ≤ 1024) (e : Fin 128) (j : Fin 1024)
    (h : o = j.val / 128 * 128) (he : e.val = j.val % 128) : headAt z g r o ho e = normAt z g r j := by
  subst h
  rw [show e = ⟨j.val % 128, by omega⟩ from Fin.ext he]
  rfl

/-- The projected rows. -/
theorem pay2_apply (u : Vec Ideal S1024x2048 .bf16) (w : Vec Ideal S1x2048x1024 .bf16) (r d : Fin 1024) :
    k0_pay2 (F := Ideal) u w (ix2 r d) = dot (fun k => u (ix2 r k)) (fun k => w (ix3 0 k d)) := by
  pointwise [k0_pay2]
  rfl

section
variable (u : Vec Ideal S1024x2048 .bf16) (w : Vec Ideal S1x2048x1024 .bf16) (z : Vec Ideal S1024x1024 .f32) (g : Vec Ideal S1x128 .f32) (r : Fin 1024) (e : Fin 128)

/-- The first head. -/
theorem pay4_apply : k0_pay4 (F := Ideal) u w g (ix2 r e) = headAt (k0_pay2 u w) g r 0 (by omega) e := by
  pointwise [k0_pay4, k0_pay3]
  have h : (fun e : Fin 128 => k0_pay2 u w (ix2 r ⟨0 + e.val, by omega⟩)) = fun e : Fin 128 => k0_pay2 u w (ix2 r ⟨e.val, by omega⟩) :=
    funext fun e => congrArg (fun q => k0_pay2 u w (ix2 r q)) (Fin.ext (Nat.zero_add _))
  unfold headAt
  rw [h]
  rfl
/-- The second head. -/
theorem pay5_apply : k0_pay5 (F := Ideal) u w g (ix2 r e) = headAt (k0_pay2 u w) g r 128 (by omega) e := by
  pointwise [k0_pay5, k0_pay3]
  rfl
/-- The third head. -/
theorem pay8_apply : k0_pay8 (F := Ideal) (k0_pay3 g) (k0_pay6 u w) (k0_pay7 u w) (ix2 r e) = headAt (k0_pay2 u w) g r 256 (by omega) e := by
  pointwise [k0_pay8, k0_pay7, k0_pay6, k0_pay3]
  rfl
/-- The fourth head. -/
theorem pay9_apply : k0_pay9 (F := Ideal) z (k0_pay3 g) (ix2 r e) = headAt z g r 384 (by omega) e := by
  pointwise [k0_pay9, k0_pay3]
  rfl
/-- The fifth head. -/
theorem pay10_apply : k0_pay10 (F := Ideal) z (k0_pay3 g) (ix2 r e) = headAt z g r 512 (by omega) e := by
  pointwise [k0_pay10, k0_pay3]
  rfl
/-- The sixth head. -/
theorem pay11_apply : k0_pay11 (F := Ideal) z (k0_pay3 g) (ix2 r e) = headAt z g r 640 (by omega) e := by
  pointwise [k0_pay11, k0_pay3]
  rfl
/-- The seventh head's columns. -/
theorem pay12_apply : k0_pay12 (F := Ideal) z (ix2 r e) = z (ix2 r ⟨768 + e.val, by omega⟩) := by
  pointwise [k0_pay12]
/-- The seventh head's mean square. -/
theorem pay13_apply : k0_pay13 (F := Ideal) z (ix2 r 0)
    = Ideal.div (∑ y : Fin 128, z (ix2 r ⟨768 + y.val, by omega⟩) * z (ix2 r ⟨768 + y.val, by omega⟩)) c128 := by
  pointwise [k0_pay13, k0_pay12]
end

/-- The heads side by side, given each head's columns. -/
theorem pay1_apply (z : Vec Ideal S1024x1024 .f32) (g : Vec Ideal S1x128 .f32) (a b c d e f v84 : Vec Ideal S1024x128 .f32) (v89 : Vec Ideal S1024x1 .f32) (r j : Fin 1024)
    (ha : ∀ y, a (ix2 r y) = headAt z g r 0 (by omega) y) (hb : ∀ y, b (ix2 r y) = headAt z g r 128 (by omega) y)
    (hc : ∀ y, c (ix2 r y) = headAt z g r 256 (by omega) y) (hd : ∀ y, d (ix2 r y) = headAt z g r 384 (by omega) y)
    (he : ∀ y, e (ix2 r y) = headAt z g r 512 (by omega) y) (hf : ∀ y, f (ix2 r y) = headAt z g r 640 (by omega) y)
    (hg : ∀ y : Fin 128, v84 (ix2 r y) = z (ix2 r ⟨768 + y.val, by omega⟩))
    (hm : v89 (ix2 r 0) = Ideal.div (∑ y : Fin 128, z (ix2 r ⟨768 + y.val, by omega⟩) * z (ix2 r ⟨768 + y.val, by omega⟩)) c128) :
    k0_pay1 (F := Ideal) z g a b c d e f v84 v89 (ix3 0 r j) = normAt z g r j := by
  have hj := j.isLt
  pointwise [k0_pay1]
  by_cases h0 : j.val < 128
  · rw [dif_pos h0]
    exact (ha _).trans (headAt_eq _ _ _ _ _ _ _ (by omega) (by dsimp only; omega))
  rw [dif_neg h0]
  by_cases h1 : j.val - 128 < 128
  · rw [dif_pos h1]
    exact (hb _).trans (headAt_eq _ _ _ _ _ _ _ (by omega) (by dsimp only; omega))
  rw [dif_neg h1]
  by_cases h2 : j.val - 128 - 128 < 128
  · rw [dif_pos h2]
    exact (hc _).trans (headAt_eq _ _ _ _ _ _ _ (by omega) (by dsimp only; omega))
  rw [dif_neg h2]
  by_cases h3 : j.val - 128 - 128 - 128 < 128
  · rw [dif_pos h3]
    exact (hd _).trans (headAt_eq _ _ _ _ _ _ _ (by omega) (by dsimp only; omega))
  rw [dif_neg h3]
  by_cases h4 : j.val - 128 - 128 - 128 - 128 < 128
  · rw [dif_pos h4]
    exact (he _).trans (headAt_eq _ _ _ _ _ _ _ (by omega) (by dsimp only; omega))
  rw [dif_neg h4]
  by_cases h5 : j.val - 128 - 128 - 128 - 128 - 128 < 128
  · rw [dif_pos h5]
    exact (hf _).trans (headAt_eq _ _ _ _ _ _ _ (by omega) (by dsimp only; omega))
  rw [dif_neg h5]
  by_cases h6 : j.val - 128 - 128 - 128 - 128 - 128 - 128 < 128
  · rw [dif_pos h6, hg, hm]
    exact headAt_eq z g r 768 (by omega) ⟨j.val - 128 - 128 - 128 - 128 - 128 - 128, by omega⟩ j (by omega) (by dsimp only; omega)
  rw [dif_neg h6]
  exact headAt_eq z g r 896 (by omega) ⟨j.val - 128 - 128 - 128 - 128 - 128 - 128 - 128, by omega⟩ j (by omega) (by dsimp only; omega)

/-- The gain row is kept. -/
theorem pay3_eq (g : Vec Ideal S1x128 .f32) : k0_pay3 (F := Ideal) g = g := by
  funext i
  obtain ⟨a, e, rfl⟩ : ∃ (a : Fin 1) (e : Fin 128), i = ix2 a e := ⟨i 0, i 1, eq_ix2 i⟩
  pointwise [k0_pay3]

/-- One entry of the payload. -/
theorem payload_apply (u : Vec Ideal S1024x2048 .bf16) (w : Vec Ideal S1x2048x1024 .bf16) (g : Vec Ideal S1x128 .f32) (r j : Fin 1024) :
    payload (F := Ideal) u w g (ix3 0 r j) = normAt (k0_pay2 u w) g r j := by
  have h1 := fun y => pay8_apply u w g r y
  have h2 := fun y => pay9_apply (k0_pay2 u w) g r y
  have h3 := fun y => pay10_apply (k0_pay2 u w) g r y
  have h4 := fun y => pay11_apply (k0_pay2 u w) g r y
  unfold payload
  simp only [pay3_eq] at h1 h2 h3 h4 ⊢
  exact pay1_apply _ _ _ _ _ _ _ _ _ _ r j (pay4_apply u w g r) (pay5_apply u w g r) h1 h2 h3 h4 (pay12_apply _ r) (pay13_apply _ r)

variable (m : (ℓ : Loc nD τ sig) → Buf (Elt Ideal) ℓ)

/-- The region finds the first 3072 columns of the weights, converted. -/
theorem V_w (c : Dev nD) (l : Fin 4) (k : Fin 2048) (j : Fin 3072) :
    (V m c main_v1 : Vec Ideal S4x2048x3072 .bf16) (ix3 l k j) = (m ((c : Thread nD τ).loc main_arg2) : Vec Ideal S4x2048x8200 .f32) (ix3 l k ⟨j.val, by omega⟩) := by
  unfold_abbrev_sides; after_results
  show extractStridedSlice S4x2048x3072 ![0, 0, 0] (m ((c : Thread nD τ).loc main_arg2) : Vec Ideal S4x2048x8200 .f32) slices_S4x2048x8200_S4x2048x3072_0_0_0 (ix3 l k j) = _
  pointwise

/-- The region finds the result's buffer as the first argument. -/
theorem V_out (c : Dev nD) : V m c main_v5 = m ((c : Thread nD τ).loc main_arg0) := by
  unfold_abbrev_sides; after_results; rfl

/-- The region finds the head norm's gain as one row. -/
theorem V_gain (c : Dev nD) (d : Fin 128) :
    (V m c main_v4 : Vec Ideal S1x128 .f32) (ix2 0 d) = (m ((c : Thread nD τ).loc main_arg3) : Vec Ideal S4x128 .f32) (ix2 1 d) := by
  unfold_abbrev_sides; after_results
  show shapeCast S1x128 (shapeCast S128 (extractStridedSlice S1x128 ![1, 0] (m ((c : Thread nD τ).loc main_arg3) : Vec Ideal S4x128 .f32) slices_S4x128_S1x128_1_0) shapeCasts_S1x128_S128) shapeCasts_S128_S1x128 (ix2 0 d) = _
  pointwise
theorem idx2 : ∀ t : Fin cfg0.N, win0_2.index t (0 : Fin 2) = 0 ∧ win0_2.index t (1 : Fin 2) = 0 :=
  (by decide +kernel : ∀ t : Fin grid0.N, _)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 1 :=
  (by decide +kernel : ∀ t : Fin grid0.N, _)
theorem idx3 : ∀ t : Fin cfg0.N, win0_3.index t (0 : Fin 3) = 1 ∧ win0_3.index t (1 : Fin 3) = t.val ∧ win0_3.index t (2 : Fin 3) = 0 :=
  (by decide +kernel : ∀ t : Fin grid0.N, _)

/-- The input rows of the point's row block. -/
theorem blk_u (c : Dev nD) (t : Fin cfg0.N) (r : Fin 1024) (d : Fin 2048) (R : Fin 8256) (hR : R.val = 1024 * t.val + r.val) :
    (X0_0 m c t : Vec Ideal S1024x2048 .bf16) (ix2 r d) = (m ((c : Thread nD τ).loc main_arg1) : Vec Ideal S8256x2048 .bf16) (ix2 R d) := by
  unfold X0_0 Pipeline.Window.fill
  rw [dif_pos (moved0_0 t (ix2 r d))]
  unfold iblk
  rw [View.read_apply]
  show V m c main_arg1 _ = _
  rw [V_main_arg1]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The weights of layer 1. -/
theorem blk_w (c : Dev nD) (t : Fin cfg0.N) (k : Fin 2048) (j : Fin 1024) :
    (iblk m c 1 t : Vec Ideal S1x2048x1024 .bf16) (ix3 0 k j) = (m ((c : Thread nD τ).loc main_arg2) : Vec Ideal S4x2048x8200 .f32) (ix3 1 k ⟨1024 + j.val, by omega⟩) := by
  refine Eq.trans ?_ (V_w m c 1 k ⟨1024 + j.val, by omega⟩)
  unfold iblk
  rw [View.read_apply]
  show V m c main_v1 _ = _
  congr 1; funext a; apply Fin.ext
  match a with
  | ⟨0, _⟩ => show win0_1.index t (0 : Fin 3) * 1 + 1 * 0 = 1; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 1024 + j.val; rw [(idx1 t).2.2]; omega

/-- The head norm's gain. -/
theorem blk_g (c : Dev nD) (t : Fin cfg0.N) (d : Fin 128) :
    (iblk m c 2 t : Vec Ideal S1x128 .f32) (ix2 0 d) = (m ((c : Thread nD τ).loc main_arg3) : Vec Ideal S4x128 .f32) (ix2 1 d) := by
  refine Eq.trans ?_ (V_gain m c d)
  unfold iblk
  rw [View.read_apply]
  show V m c main_v4 _ = _
  congr 1; funext a; apply Fin.ext
  match a with
  | ⟨0, _⟩ => show win0_2.index t (0 : Fin 2) * 1 + 1 * 0 = 0; rw [(idx2 t).1]
  | ⟨1, _⟩ => show win0_2.index t (1 : Fin 2) * 128 + 1 * d.val = d.val; rw [(idx2 t).2]; omega

/-- One entry of the keys: the column's head of the row's products, normed. -/
abbrev keyAt (c : Dev nD) (R : Fin 8256) (d : Fin 1024) : EReal :=
  rms c128 (fun e : Fin 128 => dot (fun k => (m ((c : Thread nD τ).loc main_arg1) : Vec Ideal S8256x2048 .bf16) (ix2 R k))
      (fun k => (m ((c : Thread nD τ).loc main_arg2) : Vec Ideal S4x2048x8200 .f32) (ix3 1 k ⟨1024 + (d.val / 128 * 128 + e.val), by omega⟩)))
    (fun e => (m ((c : Thread nD τ).loc main_arg3) : Vec Ideal S4x128 .f32) (ix2 1 e)) ⟨d.val % 128, by omega⟩

/-- The block a point leaves, at one entry. -/
theorem block (c : Dev nD) (t : Fin cfg0.N) (r : Fin 1024) (d : Fin 1024) (R : Fin 8256) (hR : R.val = 1024 * t.val + r.val) :
    outsAt0 m c t (ix3 0 r d) = keyAt m c R d := by
  rw [step, payload_apply]
  unfold normAt headAt keyAt
  simp only [pay2_apply, blk_w, blk_g, blk_u m c t r _ R hR]

/-- Every point writes its block back. -/
theorem flush3 : ∀ t : Fin cfg0.N, (cfg0.win 3).flush t = true := (by decide +kernel : ∀ t : Fin grid0.N, _)

/-- The result array in layer 1. -/
theorem out_layer (c : Dev nD) (R : Fin 8192) (d : Fin 1024) :
    ((dats m 0 c).arrAt 3 cfg0.N : Vec Ideal S4x8192x1024 .f32) (ix3 1 R d) = keyAt m c ⟨R.val, by omega⟩ d := by
  have hN : cfg0.N = 8 := N_0
  have ht : R.val / 1024 < cfg0.N := by omega
  generalize hp : (⟨R.val / 1024, ht⟩ : Fin cfg0.N) = t
  have hv : t.val = R.val / 1024 := by rw [← hp]
  have h := congrFun (blocks3 m c t (flush3 t)) (ix3 0 ⟨R.val % 1024, by omega⟩ d : S1x1024x1024.Idx)
  rw [flushed3, View.read_apply] at h
  refine Eq.trans ?_ (h.trans (block m c t ⟨R.val % 1024, by omega⟩ d ⟨R.val, by omega⟩ (by dsimp only; omega)))
  congr 1; funext a; apply Fin.ext
  match a with
  | ⟨0, _⟩ => show 1 = win0_3.index t (0 : Fin 3) * 1 + 1 * 0; rw [(idx3 t).1]
  | ⟨1, _⟩ => show R.val = win0_3.index t (1 : Fin 3) * 1024 + 1 * (R.val % 1024); rw [(idx3 t).2.1]; omega
  | ⟨2, _⟩ => show d.val = win0_3.index t (2 : Fin 3) * 1024 + 1 * d.val; rw [(idx3 t).2.2]; omega

/-- The result array in another layer holds what it held. -/
theorem out_rest (c : Dev nD) (l : Fin 4) (hl : l.val ≠ 1) (R : Fin 8192) (d : Fin 1024) :
    ((dats m 0 c).arrAt 3 cfg0.N : Vec Ideal S4x8192x1024 .f32) (ix3 l R d) = (m ((c : Thread nD τ).loc main_arg0) : Vec Ideal S4x8192x1024 .f32) (ix3 l R d) := by
  refine (entry3 m c (ix3 l R d) fun t _ hmem => ?_).trans (congrFun (V_out m c) _)
  obtain ⟨y, hy⟩ := View.exists_emb_of_mem_set _ hmem
  have h0 : win0_3.index t (0 : Fin 3) * 1 + 1 * (y (0 : Fin 3)).val = l.val := congrArg (fun i : S4x8192x1024.Idx => (i 0).val) hy
  have hy0 : (y (0 : Fin 3)).val < 1 := (y (0 : Fin 3)).isLt
  rw [(idx3 t).1] at h0
  omega

end Cert.Kernel4Ideal.Key1
-- ==== Proof.Key1Claim.lean ====
/-
  The plain key projection's result, and that the kernel's is the same.
-/
module

public import proofs.«01_k».proof.Defs
public import proofs.«01_k».proof.Proof.Key1
public import proofs.«01_k».proof.Proof.Gen.Reference4Ideal.Run
public import proofs.«01_k».proof.Proof.Gen.Reference4Ideal.Read
public import Idealize.ShloMosaic.Lib.Quiescent

@[expose] public section

set_option maxRecDepth 16384

noncomputable section

namespace Cert.Key1

open Idealize.ShloMosaic Idealize.ShloMosaic.TcCoe Idealize.SL.Sem
open Cert.Reference4Ideal Cert.Reference4Ideal.Read Cert.Layer

variable (kp : Vec Ideal S4x8192x1024 .f32) (u : Vec Ideal S8256x2048 .bf16) (w : Vec Ideal S4x2048x8200 .f32) (g : Vec Ideal S4x128 .f32)

/-- A row's products with the key columns. -/
theorem dot_apply (R : Fin 8192) (d : Fin 1024) : val_main_v5 (F := Ideal) u w (ix2 R d)
    = dot (fun k => u (ix2 ⟨R.val, by omega⟩ k)) (fun k => w (ix3 1 k ⟨1024 + d.val, by omega⟩)) := by
  pointwise [val_main_v5, val_main_v4, val_main_v3, val_main_v2, val_main_v1, val_main_v0]
  rfl

/-- A head's normed products. -/
theorem norm_apply (b : Fin 2) (t : Fin 4096) (h : Fin 8) (e : Fin 128) : val_main_v21 (F := Ideal) u w g (ix4 b t h e)
    = rms c128 (fun e : Fin 128 => val_main_v5 (F := Ideal) u w (ix2 ⟨b.val * 4096 + t.val, by omega⟩ ⟨h.val * 128 + e.val, by omega⟩)) (fun e => g (ix2 1 e)) e := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1]
  rfl

/-- The plain program's result in layer 1. -/
theorem ref_layer (R : Fin 8192) (d : Fin 1024) : val_main_v25 (F := Ideal) kp u w g (ix3 1 R d)
    = rms c128 (fun e : Fin 128 => dot (fun k => u (ix2 ⟨R.val, by omega⟩ k)) (fun k => w (ix3 1 k ⟨1024 + (d.val / 128 * 128 + e.val), by omega⟩)))
        (fun e => g (ix2 1 e)) ⟨d.val % 128, by omega⟩ := by
  have f : val_main_v25 (F := Ideal) kp u w g (ix3 1 R d)
      = val_main_v21 (F := Ideal) u w g (ix4 ⟨R.val / 4096, by omega⟩ ⟨R.val % 4096, by omega⟩ ⟨d.val / 128, by omega⟩ ⟨d.val % 128, by omega⟩) := by
    pointwise [val_main_v25, val_main_v23]
  rw [f, norm_apply]
  have hR : (⟨R.val / 4096 * 4096 + R.val % 4096, by omega⟩ : Fin 8192) = R := Fin.ext (by dsimp only; omega)
  simp only [dot_apply, hR]

/-- The plain program's result in another layer. -/
theorem ref_rest (l : Fin 4) (hl : l.val ≠ 1) (R : Fin 8192) (d : Fin 1024) : val_main_v25 (F := Ideal) kp u w g (ix3 l R d) = kp (ix3 l R d) := by
  pointwise [val_main_v25, val_main_v24, val_main_v22]
  match l, hl with
  | 0, _ => rfl
  | 2, _ => rfl
  | 3, _ => rfl

/-- The plain program's result is the kernel's, from the same arguments. -/
theorem out_eq (m : (ℓ : Loc Cert.Kernel4Ideal.nD Cert.Kernel4Ideal.τ Cert.Kernel4Ideal.sig) → Buf (Elt Ideal) ℓ) (c : Dev Cert.Kernel4Ideal.nD) :
    val_main_v25 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      = (Cert.Kernel4Ideal.Gen.dats m 0 c).arrAt 3 Cert.Kernel4Ideal.cfg0.N := by
  funext i
  obtain ⟨l, R, d, rfl⟩ : ∃ (l : Fin 4) (R : Fin 8192) (d : Fin 1024), i = ix3 l R d := ⟨i 0, i 1, i 2, eq_ix3 i⟩
  by_cases hl : l.val = 1
  · obtain rfl : l = 1 := Fin.ext hl
    exact (ref_layer _ _ _ _ R d).trans (Cert.Kernel4Ideal.Key1.out_layer m c R d).symm
  · exact (ref_rest _ _ _ _ l hl R d).trans (Cert.Kernel4Ideal.Key1.out_rest m c l hl R d).symm

/-- The value claim. -/
theorem algebraic : Cert.algebraic_Kernel4Ideal_Reference4Ideal
    (hKernel4Ideal := Cert.Kernel4Ideal.Gen.facts) (hReference4Ideal := Cert.Reference4Ideal.Gen.facts) := by
  intro m ρ m' ρ' _ hag
  refine ⟨fun c => (Cert.Kernel4Ideal.Gen.dats m 0 c).arrAt 3 Cert.Kernel4Ideal.cfg0.N, Cert.Kernel4Ideal.Value.run_blocks m ρ,
    (θ_run _ _ _).mono (fun r h c => ?_) (Cert.Reference4Ideal.Value.run m' ρ')⟩
  obtain ⟨a0, a1, a2, a3⟩ := hag c
  obtain ⟨h1, hr⟩ := h c
  refine ⟨(h1.trans (val_main_v25_eq _ _ _ _)).trans ?_, hr⟩
  rw [a0, a1, a2, a3]
  exact out_eq m c

/-- The plain program runs and leaves its arguments. -/
theorem frame_reference : Cert.quiescent_Reference4Ideal (hReference4Ideal := Cert.Reference4Ideal.Gen.facts) := by
  intro m ρ _
  exact (θ_run _ _ _).mono (fun r h => ⟨fun c => (h c).2, sem_eq_zero_of_no_sems rfl _⟩) (Cert.Reference4Ideal.Value.run m ρ)

end Cert.Key1
-- ==== Proof.Value1.lean ====
/-
  The value projection's kernel: layer 1 of its result holds the input rows' products with the value columns of the combined
  input projection, the other layers what they held.
-/
module

public import proofs.«01_k».proof.Proof.Spec
public import proofs.«01_k».proof.Proof.Gen.Kernel5Ideal.Value
public import Idealize.ShloMosaic.Lib.Pointwise

@[expose] public section

set_option maxRecDepth 16384

noncomputable section

namespace Cert.Kernel5Ideal.Value1

open Idealize.ShloMosaic Idealize.ShloMosaic.TcCoe Idealize.SL.Sem
open Cert.Kernel5Ideal Cert.Kernel5Ideal.Gen Cert.Kernel5Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block a point leaves is the body's payload of its input blocks. -/
theorem step (c : Dev nD) (t : Fin cfg0.N) : outsAt0 m c t = k0_pay1 (X0_0 m c t) (iblk m c 1 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz3]
  simp only [View.readAt_eq_ld, (hs0_0 t).read_unread, (hs0_1 t).read_unread, (hs0_2 t).read_unread, View.ld_unit_zero (S := S1024x2048) hz,
    View.ld_unit_zero (S := S1x2048x1024) hz3]
end

/-- One entry of the payload. -/
theorem pay1_apply (u : Vec Ideal S1024x2048 .bf16) (w : Vec Ideal S1x2048x1024 .bf16) (r d : Fin 1024) :
    k0_pay1 (F := Ideal) u w (ix3 0 r d) = dot (fun k => u (ix2 r k)) (fun k => w (ix3 0 k d)) := by
  pointwise [k0_pay1]
  rfl

variable (m : (ℓ : Loc nD τ sig) → Buf (Elt Ideal) ℓ)

/-- The region finds the first 3072 columns of the weights, converted. -/
theorem V_w (c : Dev nD) (l : Fin 4) (k : Fin 2048) (j : Fin 3072) :
    (V m c main_v1 : Vec Ideal S4x2048x3072 .bf16) (ix3 l k j) = (m ((c : Thread nD τ).loc main_arg2) : Vec Ideal S4x2048x8200 .f32) (ix3 l k ⟨j.val, by omega⟩) := by
  unfold_abbrev_sides; after_results
  show extractStridedSlice S4x2048x3072 ![0, 0, 0] (m ((c : Thread nD τ).loc main_arg2) : Vec Ideal S4x2048x8200 .f32) slices_S4x2048x8200_S4x2048x3072_0_0_0 (ix3 l k j) = _
  pointwise

/-- The region finds the result's buffer as the first argument. -/
theorem V_out (c : Dev nD) : V m c main_v3 = m ((c : Thread nD τ).loc main_arg0) := by
  unfold_abbrev_sides; after_results; rfl

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 2 :=
  (by decide +kernel : ∀ t : Fin grid0.N, _)
theorem idx3 : ∀ t : Fin cfg0.N, win0_3.index t (0 : Fin 3) = 1 ∧ win0_3.index t (1 : Fin 3) = t.val ∧ win0_3.index t (2 : Fin 3) = 0 :=
  (by decide +kernel : ∀ t : Fin grid0.N, _)

/-- The input rows of the point's row block. -/
theorem blk_u (c : Dev nD) (t : Fin cfg0.N) (r : Fin 1024) (d : Fin 2048) (R : Fin 8256) (hR : R.val = 1024 * t.val + r.val) :
    (X0_0 m c t : Vec Ideal S1024x2048 .bf16) (ix2 r d) = (m ((c : Thread nD τ).loc main_arg1) : Vec Ideal S8256x2048 .bf16) (ix2 R d) := by
  unfold X0_0 Pipeline.Window.fill
  rw [dif_pos (moved0_0 t (ix2 r d))]
  unfold iblk
  rw [View.read_apply]
  show V m c main_arg1 _ = _
  rw [V_main_arg1]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The weights of layer 1. -/
theorem blk_w (c : Dev nD) (t : Fin cfg0.N) (k : Fin 2048) (j : Fin 1024) :
    (iblk m c 1 t : Vec Ideal S1x2048x1024 .bf16) (ix3 0 k j) = (m ((c : Thread nD τ).loc main_arg2) : Vec Ideal S4x2048x8200 .f32) (ix3 1 k ⟨2048 + j.val, by omega⟩) := by
  refine Eq.trans ?_ (V_w m c 1 k ⟨2048 + j.val, by omega⟩)
  unfold iblk
  rw [View.read_apply]
  show V m c main_v1 _ = _
  congr 1; funext a; apply Fin.ext
  match a with
  | ⟨0, _⟩ => show win0_1.index t (0 : Fin 3) * 1 + 1 * 0 = 1; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 2048 + j.val; rw [(idx1 t).2.2]; omega

/-- One entry of the values. -/
abbrev val (c : Dev nD) (R : Fin 8256) (d : Fin 1024) : EReal :=
  dot (fun k => (m ((c : Thread nD τ).loc main_arg1) : Vec Ideal S8256x2048 .bf16) (ix2 R k)) (fun k => (m ((c : Thread nD τ).loc main_arg2) : Vec Ideal S4x2048x8200 .f32) (ix3 1 k ⟨2048 + d.val, by omega⟩))

/-- The block a point leaves, at one entry. -/
theorem block (c : Dev nD) (t : Fin cfg0.N) (r : Fin 1024) (d : Fin 1024) (R : Fin 8256) (hR : R.val = 1024 * t.val + r.val) :
    outsAt0 m c t (ix3 0 r d) = val m c R d := by
  rw [step, pay1_apply]
  exact Finset.sum_congr rfl fun k _ => congrArg₂ (· * ·) (blk_u m c t r k R hR) (blk_w m c t k d)

/-- Every point writes its block back. -/
theorem flush3 : ∀ t : Fin cfg0.N, (cfg0.win 3).flush t = true := (by decide +kernel : ∀ t : Fin grid0.N, _)

/-- The result array in layer 1. -/
theorem out_layer (c : Dev nD) (R : Fin 8192) (d : Fin 1024) :
    ((dats m 0 c).arrAt 3 cfg0.N : Vec Ideal S4x8192x1024 .f32) (ix3 1 R d) = val m c ⟨R.val, by omega⟩ d := by
  have hN : cfg0.N = 8 := N_0
  have ht : R.val / 1024 < cfg0.N := by omega
  generalize hp : (⟨R.val / 1024, ht⟩ : Fin cfg0.N) = t
  have hv : t.val = R.val / 1024 := by rw [← hp]
  have h := congrFun (blocks3 m c t (flush3 t)) (ix3 0 ⟨R.val % 1024, by omega⟩ d : S1x1024x1024.Idx)
  rw [flushed3, View.read_apply] at h
  refine Eq.trans ?_ (h.trans (block m c t ⟨R.val % 1024, by omega⟩ d ⟨R.val, by omega⟩ (by dsimp only; omega)))
  congr 1; funext a; apply Fin.ext
  match a with
  | ⟨0, _⟩ => show 1 = win0_3.index t (0 : Fin 3) * 1 + 1 * 0; rw [(idx3 t).1]
  | ⟨1, _⟩ => show R.val = win0_3.index t (1 : Fin 3) * 1024 + 1 * (R.val % 1024); rw [(idx3 t).2.1]; omega
  | ⟨2, _⟩ => show d.val = win0_3.index t (2 : Fin 3) * 1024 + 1 * d.val; rw [(idx3 t).2.2]; omega

/-- The result array in another layer holds what it held. -/
theorem out_rest (c : Dev nD) (l : Fin 4) (hl : l.val ≠ 1) (R : Fin 8192) (d : Fin 1024) :
    ((dats m 0 c).arrAt 3 cfg0.N : Vec Ideal S4x8192x1024 .f32) (ix3 l R d) = (m ((c : Thread nD τ).loc main_arg0) : Vec Ideal S4x8192x1024 .f32) (ix3 l R d) := by
  refine (entry3 m c (ix3 l R d) fun t _ hmem => ?_).trans (congrFun (V_out m c) _)
  obtain ⟨y, hy⟩ := View.exists_emb_of_mem_set _ hmem
  have h0 : win0_3.index t (0 : Fin 3) * 1 + 1 * (y (0 : Fin 3)).val = l.val := congrArg (fun i : S4x8192x1024.Idx => (i 0).val) hy
  have hy0 : (y (0 : Fin 3)).val < 1 := (y (0 : Fin 3)).isLt
  rw [(idx3 t).1] at h0
  omega

end Cert.Kernel5Ideal.Value1
-- ==== Proof.Value1Claim.lean ====
/-
  The plain value projection's result, and that the kernel's is the same.
-/
module

public import proofs.«01_k».proof.Defs
public import proofs.«01_k».proof.Proof.Value1
public import proofs.«01_k».proof.Proof.Gen.Reference5Ideal.Run
public import proofs.«01_k».proof.Proof.Gen.Reference5Ideal.Read
public import Idealize.ShloMosaic.Lib.Quiescent

@[expose] public section

set_option maxRecDepth 16384

noncomputable section

namespace Cert.Value1

open Idealize.ShloMosaic Idealize.ShloMosaic.TcCoe Idealize.SL.Sem
open Cert.Reference5Ideal Cert.Reference5Ideal.Read Cert.Layer

variable (vp : Vec Ideal S4x8192x1024 .f32) (u : Vec Ideal S8256x2048 .bf16) (w : Vec Ideal S4x2048x8200 .f32)

/-- The plain program's result in layer 1. -/
theorem ref_layer (R : Fin 8192) (d : Fin 1024) : val_main_v9 (F := Ideal) vp u w (ix3 1 R d)
    = dot (fun k => u (ix2 ⟨R.val, by omega⟩ k)) (fun k => w (ix3 1 k ⟨2048 + d.val, by omega⟩)) := by
  pointwise [val_main_v9, val_main_v8, val_main_v7, val_main_v6, val_main_v5, val_main_v4, val_main_v3, val_main_v2, val_main_v1, val_main_v0]
  rfl

/-- The plain program's result in another layer. -/
theorem ref_rest (l : Fin 4) (hl : l.val ≠ 1) (R : Fin 8192) (d : Fin 1024) : val_main_v9 (F := Ideal) vp u w (ix3 l R d) = vp (ix3 l R d) := by
  pointwise [val_main_v9, val_main_v8, val_main_v6]
  match l, hl with
  | 0, _ => rfl
  | 2, _ => rfl
  | 3, _ => rfl

/-- The plain program's result is the kernel's, from the same arguments. -/
theorem out_eq (m : (ℓ : Loc Cert.Kernel5Ideal.nD Cert.Kernel5Ideal.τ Cert.Kernel5Ideal.sig) → Buf (Elt Ideal) ℓ) (c : Dev Cert.Kernel5Ideal.nD) :
    val_main_v9 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      = (Cert.Kernel5Ideal.Gen.dats m 0 c).arrAt 3 Cert.Kernel5Ideal.cfg0.N := by
  funext i
  obtain ⟨l, R, d, rfl⟩ : ∃ (l : Fin 4) (R : Fin 8192) (d : Fin 1024), i = ix3 l R d := ⟨i 0, i 1, i 2, eq_ix3 i⟩
  by_cases hl : l.val = 1
  · obtain rfl : l = 1 := Fin.ext hl
    exact (ref_layer _ _ _ R d).trans (Cert.Kernel5Ideal.Value1.out_layer m c R d).symm
  · exact (ref_rest _ _ _ l hl R d).trans (Cert.Kernel5Ideal.Value1.out_rest m c l hl R d).symm

/-- The value claim. -/
theorem algebraic : Cert.algebraic_Kernel5Ideal_Reference5Ideal
    (hKernel5Ideal := Cert.Kernel5Ideal.Gen.facts) (hReference5Ideal := Cert.Reference5Ideal.Gen.facts) := by
  intro m ρ m' ρ' _ hag
  refine ⟨fun c => (Cert.Kernel5Ideal.Gen.dats m 0 c).arrAt 3 Cert.Kernel5Ideal.cfg0.N, Cert.Kernel5Ideal.Value.run_blocks m ρ,
    (θ_run _ _ _).mono (fun r h c => ?_) (Cert.Reference5Ideal.Value.run m' ρ')⟩
  obtain ⟨a0, a1, a2⟩ := hag c
  obtain ⟨h1, hr⟩ := h c
  refine ⟨(h1.trans (val_main_v9_eq _ _ _)).trans ?_, hr⟩
  rw [a0, a1, a2]
  exact out_eq m c

/-- The plain program runs and leaves its arguments. -/
theorem frame_reference : Cert.quiescent_Reference5Ideal (hReference5Ideal := Cert.Reference5Ideal.Gen.facts) := by
  intro m ρ _
  exact (θ_run _ _ _).mono (fun r h => ⟨fun c => (h c).2, sem_eq_zero_of_no_sems rfl _⟩) (Cert.Reference5Ideal.Value.run m ρ)

end Cert.Value1
-- ==== Proof.Gate.lean ====
/-
  The gate projection's kernel: every block of its result is the logistic of the rows' products with the gate's columns of
  the combined input projection.
-/
module

public import proofs.«01_k».proof.Proof.Spec
public import proofs.«01_k».proof.Proof.Gen.Kernel6Ideal.Value
public import Idealize.ShloMosaic.Lib.Pointwise

@[expose] public section

set_option maxRecDepth 16384

noncomputable section

namespace Cert.Kernel6Ideal.Gate

open Idealize.ShloMosaic Idealize.ShloMosaic.TcCoe Idealize.SL.Sem
open Cert.Kernel6Ideal Cert.Kernel6Ideal.Gen Cert.Kernel6Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block a point leaves is the body's payload of its two input blocks. -/
theorem step (c : Dev nD) (t : Fin cfg0.N) : outsAt0 m c t = k0_pay1 (X0_0 m c t) (iblk m c 1 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, View.ld_unit_zero (S := S1024x2048) hz,
    View.ld_unit_zero (S := S1x2048x1024) hz3]
end

/-- One entry of the payload. -/
theorem pay1_apply (u : Vec Ideal S1024x2048 .bf16) (w : Vec Ideal S1x2048x1024 .bf16) (r d : Fin 1024) :
    k0_pay1 (F := Ideal) u w (ix2 r d) = Ideal.logistic (dot (fun k => u (ix2 r k)) (fun k => w (ix3 0 k d))) := by
  pointwise [k0_pay1]
  rfl

variable (m : (ℓ : Loc nD τ sig) → Buf (Elt Ideal) ℓ)

/-- The region finds the columns past the forget gate's, converted. -/
theorem V_w (c : Dev nD) (l : Fin 4) (k : Fin 2048) (j : Fin 5120) (J : Fin 8200) (hJ : J.val = 3080 + j.val) :
    (V m c main_v1 : Vec Ideal S4x2048x5120 .bf16) (ix3 l k j) = (m ((c : Thread nD τ).loc main_arg1) : Vec Ideal S4x2048x8200 .f32) (ix3 l k J) := by
  unfold_abbrev_sides; after_results
  show extractStridedSlice S4x2048x5120 ![0, 0, 3080] (m ((c : Thread nD τ).loc main_arg1) : Vec Ideal S4x2048x8200 .f32) slices_S4x2048x8200_S4x2048x5120_0_0_3080 (ix3 l k j) = _
  pointwise
  congr 2; exact Fin.ext hJ.symm

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 1 + t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)

/-- The input rows of the point's row block. -/
theorem blk_u (c : Dev nD) (t : Fin cfg0.N) (r : Fin 1024) (d : Fin 2048) (R : Fin 8256) (hR : R.val = 1024 * (t.val % 8) + r.val) :
    (X0_0 m c t : Vec Ideal S1024x2048 .bf16) (ix2 r d) = (m ((c : Thread nD τ).loc main_arg0) : Vec Ideal S8256x2048 .bf16) (ix2 R d) := by
  unfold X0_0 Pipeline.Window.fill
  rw [dif_pos (moved0_0 t (ix2 r d))]
  unfold iblk
  rw [View.read_apply]
  show V m c main_arg0 _ = _
  rw [V_main_arg0]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The weights of the point's column block. -/
theorem blk_w (c : Dev nD) (t : Fin cfg0.N) (k : Fin 2048) (j : Fin 1024) (J : Fin 8200) (hJ : J.val = 4104 + 1024 * (t.val / 8) + j.val) :
    (iblk m c 1 t : Vec Ideal S1x2048x1024 .bf16) (ix3 0 k j) = (m ((c : Thread nD τ).loc main_arg1) : Vec Ideal S4x2048x8200 .f32) (ix3 0 k J) := by
  have hN : t.val < 16 := lt_of_lt_of_eq t.isLt N_0
  refine Eq.trans ?_ (V_w m c 0 k ⟨1024 * (1 + t.val / 8) + j.val, by omega⟩ J (by dsimp only; omega))
  unfold iblk
  rw [View.read_apply]
  show V m c main_v1 _ = _
  congr 1; funext a; apply Fin.ext
  match a with
  | ⟨0, _⟩ => show win0_1.index t (0 : Fin 3) * 1 + 1 * 0 = 0; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 1024 * (1 + t.val / 8) + j.val; rw [(idx1 t).2.2]; omega

/-- One entry of the gate: the logistic of an input row against a column. -/
abbrev gate (c : Dev nD) (R : Fin 8256) (J : Fin 8200) : EReal :=
  Ideal.logistic (dot (fun k => (m ((c : Thread nD τ).loc main_arg0) : Vec Ideal S8256x2048 .bf16) (ix2 R k))
    (fun k => (m ((c : Thread nD τ).loc main_arg1) : Vec Ideal S4x2048x8200 .f32) (ix3 0 k J)))

/-- Every point writes its block back. -/
theorem flush3 : ∀ t : Fin cfg0.N, (cfg0.win 3).flush t = true := (by decide +kernel : ∀ t : Fin grid0.N, _)

/-- The result array, entry by entry. -/
theorem out_apply (c : Dev nD) (R : Fin 8192) (d : Fin 2048) :
    ((dats m 0 c).arrAt 3 cfg0.N : Vec Ideal S8192x2048 .f32) (ix2 R d)
      = gate m c ⟨R.val, by omega⟩ ⟨4104 + d.val, by omega⟩ := by
  have hN : cfg0.N = 16 := N_0
  have ht : 8 * (d.val / 1024) + R.val / 1024 < cfg0.N := by omega
  generalize hp : (⟨8 * (d.val / 1024) + R.val / 1024, ht⟩ : Fin cfg0.N) = t
  have hv : t.val = 8 * (d.val / 1024) + R.val / 1024 := by rw [← hp]
  have h := congrFun (blocks3 m c t (flush3 t)) (ix2 ⟨R.val % 1024, by omega⟩ ⟨d.val % 1024, by omega⟩ : S1024x1024.Idx)
  rw [flushed3, View.read_apply] at h
  have hb : outsAt0 m c t (ix2 ⟨R.val % 1024, by omega⟩ ⟨d.val % 1024, by omega⟩ : S1024x1024.Idx)
      = gate m c ⟨R.val, by omega⟩ ⟨4104 + d.val, by omega⟩ := by
    rw [step, pay1_apply]
    exact congrArg Ideal.logistic (Finset.sum_congr rfl fun k _ => congrArg₂ (· * ·)
      (blk_u m c t _ k ⟨R.val, by omega⟩ (by dsimp only; omega)) (blk_w m c t k _ ⟨4104 + d.val, by omega⟩ (by dsimp only; omega)))
  refine Eq.trans ?_ (h.trans hb)
  congr 1; funext a; apply Fin.ext
  match a with
  | ⟨0, _⟩ => show R.val = win0_3.index t (0 : Fin 2) * 1024 + 1 * (R.val % 1024); rw [(idx3 t).1]; omega
  | ⟨1, _⟩ => show d.val = win0_3.index t (1 : Fin 2) * 1024 + 1 * (d.val % 1024); rw [(idx3 t).2]; omega

end Cert.Kernel6Ideal.Gate
-- ==== Proof.GateClaim.lean ====
/-
  The plain gate program's result, and that the gate kernel's is the same.
-/
module

public import proofs.«01_k».proof.Defs
public import proofs.«01_k».proof.Proof.Gate
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Gate

open Idealize.ShloMosaic Idealize.ShloMosaic.TcCoe Idealize.SL.Sem
open Cert.Layer

/-- One entry of the plain program's result. -/
theorem ref_apply (u : Vec Ideal Cert.Reference6Ideal.S8256x2048 .bf16) (w : Vec Ideal Cert.Reference6Ideal.S4x2048x8200 .f32) (R : Fin 8192) (d : Fin 2048) :
    Cert.Reference6Ideal.Read.val_main_v11 (F := Ideal) u w (ix2 R d)
      = Ideal.logistic (dot (fun k => u (ix2 ⟨R.val, by omega⟩ k)) (fun k => w (ix3 0 k ⟨4104 + d.val, by omega⟩))) := by
  pointwise [Cert.Reference6Ideal.Read.val_main_v11, Cert.Reference6Ideal.Read.val_main_v10, Cert.Reference6Ideal.Read.val_main_v9, Cert.Reference6Ideal.Read.val_main_v8, Cert.Reference6Ideal.Read.val_main_v7, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0, Cert.Reference6Ideal.Read.val_main_cst, Cert.Reference6Ideal.Read.val_main_cst_0]
  rfl

/-- The plain program's result is the kernel's, from the same arguments. -/
theorem out_eq (m : (ℓ : Loc Cert.Kernel6Ideal.nD Cert.Kernel6Ideal.τ Cert.Kernel6Ideal.sig) → Buf (Elt Ideal) ℓ) (c : Dev Cert.Kernel6Ideal.nD) :
    Cert.Reference6Ideal.Read.val_main_v11 (F := Ideal)
      (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      = (Cert.Kernel6Ideal.Gen.dats m 0 c).arrAt 3 Cert.Kernel6Ideal.cfg0.N := by
  funext i
  obtain ⟨R, d, rfl⟩ : ∃ (R : Fin 8192) (d : Fin 2048), i = ix2 R d := ⟨i 0, i 1, eq_ix2 i⟩
  exact (ref_apply _ _ R d).trans (Cert.Kernel6Ideal.Gate.out_apply m c R d).symm

/-- The value claim. -/
theorem algebraic : Cert.algebraic_Kernel6Ideal_Reference6Ideal
    (hKernel6Ideal := Cert.Kernel6Ideal.Gen.facts) (hReference6Ideal := Cert.Reference6Ideal.Gen.facts) := by
  intro m ρ m' ρ' _ hag
  refine ⟨fun c => (Cert.Kernel6Ideal.Gen.dats m 0 c).arrAt 3 Cert.Kernel6Ideal.cfg0.N, Cert.Kernel6Ideal.Value.run_blocks m ρ,
    (θ_run _ _ _).mono (fun r h c => ?_) (Cert.Reference6Ideal.Value.run m' ρ')⟩
  obtain ⟨a0, a1⟩ := hag c
  obtain ⟨h1, hr⟩ := h c
  refine ⟨(h1.trans (Cert.Reference6Ideal.Read.val_main_v11_eq _ _)).trans ?_, hr⟩
  rw [a0, a1]
  exact out_eq m c

/-- The plain program runs and leaves its arguments. -/
theorem frame_reference : Cert.quiescent_Reference6Ideal (hReference6Ideal := Cert.Reference6Ideal.Gen.facts) := by
  intro m ρ _
  exact (θ_run _ _ _).mono (fun r h => ⟨fun c => (h c).2, sem_eq_zero_of_no_sems rfl _⟩) (Cert.Reference6Ideal.Value.run m ρ)

end Cert.Gate
-- ==== Proof.LogSigmoid.lean ====
/-
  The logarithm of the sigmoid, as the kernel spells it and as the library spells it, and the padded lanes both sides read.
-/
module

public import proofs.«01_k».proof.Proof.Spec

@[expose] public section

noncomputable section

namespace Cert.Layer

open Idealize.ShloMosaic

/-- The logarithm of the sigmoid: minus the softplus of minus `x`. -/
def logSigmoid (x : EReal) : EReal := -(max (-x) 0 + Ideal.log1p (Ideal.exp (-max x (-x))))

/-- The kernel's spelling subtracts from zero. -/
theorem logSigmoid_sub (x : EReal) : 0 - (max (0 - x) 0 + Ideal.log1p (Ideal.exp (0 - max x (-x)))) = logSigmoid x := by
  unfold logSigmoid
  simp only [zero_sub]

/-- The library's spelling takes the absolute value of minus `x`. -/
theorem logSigmoid_neg (x : EReal) : -(max (-x) 0 + Ideal.log1p (Ideal.exp (-max (-x) (-(-x))))) = logSigmoid x := by
  unfold logSigmoid
  rw [neg_neg, max_comm (-x) x]

/-- The value past the eight forget lanes: the integer zero as a float. -/
abbrev padding : EReal := FloatOps.sitofp (F := Ideal) .f32 (0#32)

/-- Eight lanes and the padding after them. -/
def lanes (x : Fin 8 → EReal) (j : Fin 128) : EReal := if h : j.val < 8 then x ⟨j.val, h⟩ else padding

end Cert.Layer
-- ==== Proof.Logf.lean ====
/-
  The forget gate's kernel: every block of its result is the logarithm of the sigmoid of the rows' products with the padded
  forget columns plus the padded bias.
-/
module

public import proofs.«01_k».proof.Proof.LogSigmoid
public import proofs.«01_k».proof.Proof.Gen.Kernel7Ideal.Value
public import Idealize.ShloMosaic.Lib.Pointwise

@[expose] public section

set_option maxRecDepth 16384

noncomputable section

namespace Cert.Kernel7Ideal.Logf

open Idealize.ShloMosaic Idealize.ShloMosaic.TcCoe Idealize.SL.Sem
open Cert.Kernel7Ideal Cert.Kernel7Ideal.Gen Cert.Kernel7Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block a point leaves is the body's payload of its input blocks. -/
theorem step (c : Dev nD) (t : Fin cfg0.N) : outsAt0 m c t = k0_pay1 (X0_0 m c t) (iblk m c 1 t) (iblk m c 2 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, (hs0_2 t).read_unread, View.ld_unit_zero (S := S1024x2048) hz,
    View.ld_unit_zero (S := S1x2048x128) hz3, View.ld_unit_zero (S := S1x128) hz]
end

/-- One entry of the payload. -/
theorem pay1_apply (u : Vec Ideal S1024x2048 .bf16) (w : Vec Ideal S1x2048x128 .bf16) (b : Vec Ideal S1x128 .f32) (r : Fin 1024) (d : Fin 128) :
    k0_pay1 (F := Ideal) u w b (ix2 r d) = logSigmoid (dot (fun k => u (ix2 r k)) (fun k => w (ix3 0 k d)) + b (ix2 0 d)) := by
  pointwise [k0_pay1]
  exact logSigmoid_sub _

/-- The padded columns, read at one entry. -/
theorem padded_w (x : Vec Ideal S4x2048x8200 .f32) (l : Fin 4) (k : Fin 2048) (j : Fin 128) :
    pad S4x2048x128 ![0, 0, 0] ![0, 0, 120] ![0, 0, 0] (extractStridedSlice S4x2048x8 ![0, 0, 3072] x slices_S4x2048x8200_S4x2048x8_0_0_3072)
      (sitofp (F := Ideal) .f32 (constantI S_ 32 0#32)) pads_S4x2048x8_S4x2048x128_000_000_01200 h_S_ (ix3 l k j)
      = lanes (fun j => x (ix3 l k ⟨3072 + j.val, by omega⟩)) j := by
  pointwise
  rfl

/-- The padded bias, read at one entry. -/
theorem padded_b (x : Vec Ideal S4x8 .f32) (j : Fin 128) :
    extractStridedSlice S1x128 ![0, 0] (pad S4x128 ![0, 0] ![0, 120] ![0, 0] x
      (sitofp (F := Ideal) .f32 (constantI S_ 32 0#32)) pads_S4x8_S4x128_000_01200 h_S_) slices_S4x128_S1x128_0_0 (ix2 0 j)
      = lanes (fun j => x (ix2 0 j)) j := by
  pointwise
  rfl

variable (m : (ℓ : Loc nD τ sig) → Buf (Elt Ideal) ℓ)

/-- The region finds the forget columns padded to 128 lanes. -/
theorem V_w (c : Dev nD) (l : Fin 4) (k : Fin 2048) (j : Fin 128) :
    (V m c main_v2 : Vec Ideal S4x2048x128 .bf16) (ix3 l k j) = lanes (fun j => (m ((c : Thread nD τ).loc main_arg1) : Vec Ideal S4x2048x8200 .f32) (ix3 l k ⟨3072 + j.val, by omega⟩)) j := by
  unfold_abbrev_sides
  exact padded_w _ l k j
/-- The region finds the bias padded to 128 lanes. -/
theorem V_b (c : Dev nD) (j : Fin 128) :
    (V m c main_v4 : Vec Ideal S1x128 .f32) (ix2 0 j) = lanes (fun j => (m ((c : Thread nD τ).loc main_arg2) : Vec Ideal S4x8 .f32) (ix2 0 j)) j := by
  unfold_abbrev_sides
  exact padded_b _ j

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- The input rows of the point's row block. -/
theorem blk_u (c : Dev nD) (t : Fin cfg0.N) (r : Fin 1024) (d : Fin 2048) (R : Fin 8256) (hR : R.val = 1024 * t.val + r.val) :
    (X0_0 m c t : Vec Ideal S1024x2048 .bf16) (ix2 r d) = (m ((c : Thread nD τ).loc main_arg0) : Vec Ideal S8256x2048 .bf16) (ix2 R d) := by
  unfold X0_0 Pipeline.Window.fill
  rw [dif_pos (moved0_0 t (ix2 r d))]
  unfold iblk
  rw [View.read_apply]
  show V m c main_arg0 _ = _
  rw [V_main_arg0]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The padded columns of layer 0. -/
theorem blk_w (c : Dev nD) (t : Fin cfg0.N) (k : Fin 2048) (j : Fin 128) :
    (iblk m c 1 t : Vec Ideal S1x2048x128 .bf16) (ix3 0 k j) = lanes (fun j => (m ((c : Thread nD τ).loc main_arg1) : Vec Ideal S4x2048x8200 .f32) (ix3 0 k ⟨3072 + j.val, by omega⟩)) j := by
  refine Eq.trans ?_ (V_w m c 0 k j)
  unfold iblk
  rw [View.read_apply]
  show V m c main_v2 _ = _
  congr 1; funext a; apply Fin.ext
  match a with
  | ⟨0, _⟩ => show win0_1.index t (0 : Fin 3) * 1 + 1 * 0 = 0; rw [(idx1 t).1]
  | ⟨1, _⟩ => show win0_1.index t (1 : Fin 3) * 2048 + 1 * k.val = k.val; rw [(idx1 t).2.1]; omega
  | ⟨2, _⟩ => show win0_1.index t (2 : Fin 3) * 128 + 1 * j.val = j.val; rw [(idx1 t).2.2]; omega

/-- The padded bias. -/
theorem blk_b (c : Dev nD) (t : Fin cfg0.N) (j : Fin 128) :
    (iblk m c 2 t : Vec Ideal S1x128 .f32) (ix2 0 j) = lanes (fun j => (m ((c : Thread nD τ).loc main_arg2) : Vec Ideal S4x8 .f32) (ix2 0 j)) j := by
  refine Eq.trans ?_ (V_b m c j)
  unfold iblk
  rw [View.read_apply]
  show V m c main_v4 _ = _
  congr 1; funext a; apply Fin.ext
  match a with
  | ⟨0, _⟩ => show win0_2.index t (0 : Fin 2) * 1 + 1 * 0 = 0; rw [(idx2 t).1]
  | ⟨1, _⟩ => show win0_2.index t (1 : Fin 2) * 128 + 1 * j.val = j.val; rw [(idx2 t).2]; omega

/-- One entry of the forget gates' logarithms. -/
abbrev logf (c : Dev nD) (R : Fin 8256) (d : Fin 128) : EReal :=
  logSigmoid (dot (fun k => (m ((c : Thread nD τ).loc main_arg0) : Vec Ideal S8256x2048 .bf16) (ix2 R k))
    (fun k => lanes (fun j => (m ((c : Thread nD τ).loc main_arg1) : Vec Ideal S4x2048x8200 .f32) (ix3 0 k ⟨3072 + j.val, by omega⟩)) d)
    + lanes (fun j => (m ((c : Thread nD τ).loc main_arg2) : Vec Ideal S4x8 .f32) (ix2 0 j)) d)

/-- Every point writes its block back. -/
theorem flush3 : ∀ t : Fin cfg0.N, (cfg0.win 3).flush t = true := (by decide +kernel : ∀ t : Fin grid0.N, _)

/-- The block a point leaves, at one entry. -/
theorem block (c : Dev nD) (t : Fin cfg0.N) (r : Fin 1024) (d : Fin 128) (R : Fin 8256) (hR : R.val = 1024 * t.val + r.val) :
    outsAt0 m c t (ix2 r d) = logf m c R d := by
  rw [step, pay1_apply]
  unfold logf
  simp only [blk_w, blk_b, blk_u m c t r _ R hR]

/-- The result array, entry by entry. -/
theorem out_apply (c : Dev nD) (R : Fin 8192) (d : Fin 128) :
    ((dats m 0 c).arrAt 3 cfg0.N : Vec Ideal S8192x128 .f32) (ix2 R d) = logf m c ⟨R.val, by omega⟩ d := by
  have hN : cfg0.N = 8 := N_0
  have ht : R.val / 1024 < cfg0.N := by omega
  generalize hp : (⟨R.val / 1024, ht⟩ : Fin cfg0.N) = t
  have hv : t.val = R.val / 1024 := by rw [← hp]
  have h := congrFun (blocks3 m c t (flush3 t)) (ix2 ⟨R.val % 1024, by omega⟩ d : S1024x128.Idx)
  rw [flushed3, View.read_apply] at h
  refine Eq.trans ?_ (h.trans (block m c t ⟨R.val % 1024, by omega⟩ d ⟨R.val, by omega⟩ (by dsimp only; omega)))
  congr 1; funext a; apply Fin.ext
  match a with
  | ⟨0, _⟩ => show R.val = win0_3.index t (0 : Fin 2) * 1024 + 1 * (R.val % 1024); rw [(idx3 t).1]; omega
  | ⟨1, _⟩ => show d.val = win0_3.index t (1 : Fin 2) * 128 + 1 * d.val; rw [(idx3 t).2]; omega

end Cert.Kernel7Ideal.Logf
-- ==== Proof.LogfClaim.lean ====
/-
  The plain forget-gate program's result, and that the kernel's is the same.
-/
module

public import proofs.«01_k».proof.Defs
public import proofs.«01_k».proof.Proof.Logf
public import proofs.«01_k».proof.Proof.Gen.Reference7Ideal.Run
public import proofs.«01_k».proof.Proof.Gen.Reference7Ideal.Read
public import Idealize.ShloMosaic.Lib.Quiescent

@[expose] public section

set_option maxRecDepth 16384

noncomputable section

namespace Cert.Logf

open Idealize.ShloMosaic Idealize.ShloMosaic.TcCoe Idealize.SL.Sem
open Cert.Reference7Ideal Cert.Reference7Ideal.Read Cert.Layer

variable (u : Vec Ideal S8256x2048 .bf16) (w : Vec Ideal S4x2048x8200 .f32) (b : Vec Ideal S4x8 .f32)

/-- The padded columns. -/
theorem w_apply (k : Fin 2048) (j : Fin 128) : val_main_v3 (F := Ideal) w (ix2 k j) = lanes (fun j => w (ix3 0 k ⟨3072 + j.val, by omega⟩)) j := by
  pointwise [val_main_v3, val_main_v2, val_main_v1, val_main_v0, val_main_call0_v0, val_main_c]
  rfl
/-- The padded bias. -/
theorem b_apply (R : Fin 8192) (j : Fin 128) : val_main_v11 (F := Ideal) b (ix2 R j) = lanes (fun j => b (ix2 0 j)) j := by
  pointwise [val_main_v11, val_main_v10, val_main_v6, val_main_v5, val_main_v4, val_main_call1_v0, val_main_c_0]
  rfl
/-- The biased products. -/
theorem z_apply (R : Fin 8192) (d : Fin 128) : val_main_v12 (F := Ideal) u w b (ix2 R d)
    = dot (fun k => u (ix2 ⟨R.val, by omega⟩ k)) (fun k => lanes (fun j => w (ix3 0 k ⟨3072 + j.val, by omega⟩)) d) + lanes (fun j => b (ix2 0 j)) d := by
  pointwise [val_main_v12, val_main_v9, val_main_v8, val_main_v7]
  simp only [w_apply, b_apply]
  rfl
/-- One entry of the plain program's result. -/
theorem ref_apply (R : Fin 8192) (d : Fin 128) : val_main_v13 (F := Ideal) u w b (ix2 R d) = logSigmoid (val_main_v12 (F := Ideal) u w b (ix2 R d)) := by
  pointwise [val_main_v13, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_v0, val_main_call2_call0_cst]
  rw [if_neg (fun h => h rfl)]
  exact logSigmoid_neg _

/-- The plain program's result is the kernel's, from the same arguments. -/
theorem out_eq (m : (ℓ : Loc Cert.Kernel7Ideal.nD Cert.Kernel7Ideal.τ Cert.Kernel7Ideal.sig) → Buf (Elt Ideal) ℓ) (c : Dev Cert.Kernel7Ideal.nD) :
    val_main_v13 (F := Ideal)
      (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1))
      (m ((c.tc : Thread Cert.Kernel7Ideal.nD Cert.Kernel7Ideal.τ).loc Cert.Kernel7Ideal.main_arg2))
      = (Cert.Kernel7Ideal.Gen.dats m 0 c).arrAt 3 Cert.Kernel7Ideal.cfg0.N := by
  funext i
  obtain ⟨R, d, rfl⟩ : ∃ (R : Fin 8192) (d : Fin 128), i = ix2 R d := ⟨i 0, i 1, eq_ix2 i⟩
  refine ((ref_apply _ _ _ R d).trans ?_).trans (Cert.Kernel7Ideal.Logf.out_apply m c R d).symm
  rw [z_apply]

/-- The value claim. -/
theorem algebraic : Cert.algebraic_Kernel7Ideal_Reference7Ideal
    (hKernel7Ideal := Cert.Kernel7Ideal.Gen.facts) (hReference7Ideal := Cert.Reference7Ideal.Gen.facts) := by
  intro m ρ m' ρ' _ hag
  refine ⟨fun c => (Cert.Kernel7Ideal.Gen.dats m 0 c).arrAt 3 Cert.Kernel7Ideal.cfg0.N, Cert.Kernel7Ideal.Value.run_blocks m ρ,
    (θ_run _ _ _).mono (fun r h c => ?_) (Cert.Reference7Ideal.Value.run m' ρ')⟩
  obtain ⟨a0, a1, a2⟩ := hag c
  obtain ⟨h1, hr⟩ := h c
  refine ⟨(h1.trans (val_main_v13_eq m' c)).trans ?_, hr⟩
  rw [a0, a1, a2]
  exact out_eq m c

/-- The plain program runs and leaves its arguments. -/
theorem frame_reference : Cert.quiescent_Reference7Ideal (hReference7Ideal := Cert.Reference7Ideal.Gen.facts) := by
  intro m ρ _
  exact (θ_run _ _ _).mono (fun r h => ⟨fun c => (h c).2, sem_eq_zero_of_no_sems rfl _⟩) (Cert.Reference7Ideal.Value.run m ρ)

end Cert.Logf
-- ==== Proof.MemK1.lean ====
/-
  The memory keys' kernel: layer 1 of its result holds the normed memory rows' products with the key weights, each head
  normed; the other layers what they held.
-/
module

public import proofs.«01_k».proof.Proof.Spec
public import proofs.«01_k».proof.Proof.Gen.Kernel8Ideal.Value
public import Idealize.ShloMosaic.Lib.Pointwise

@[expose] public section

set_option maxRecDepth 16384

noncomputable section

namespace Cert.Kernel8Ideal.MemK1

open Idealize.ShloMosaic Idealize.ShloMosaic.TcCoe Idealize.SL.Sem
open Cert.Kernel8Ideal Cert.Kernel8Ideal.Gen Cert.Kernel8Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

/-- The body's payload. -/
abbrev payload {F : FTy → Type} [FloatOps F] (x : Vec F S512x2048 .f32) (n : Vec F S1x2048 .f32) (w : Vec F S1x2048x512 .bf16) (g : Vec F S1x128 .f32) : FVec F S1x512x512 .f32 :=
  k0_pay1 (k0_pay2 x n w) (k0_pay3 g) (k0_pay4 x n w g) (k0_pay5 x n w) (k0_pay6 x n w) k0_pay7

section
variable {F : FTy → Type} [FloatOps F]
variable (m : (ℓ : Loc nD τ sig) → Buf (Elt F) ℓ)

/-- The block the point leaves is the body's payload of its input blocks. -/
theorem step (c : Dev nD) (t : Fin cfg0.N) : outsAt0 m c t = payload (iblk m c 0 t) (iblk m c 3 t) (iblk m c 1 t) (iblk m c 2 t) := by
  unfold outsAt0 out0_A_4
  refine (View.read_writes_eq_canon _ _ _ (fun y => cover0_A_4 _ _ _ _ _ _ _ _ _ _ _ _ _ _ _ _ y)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, View.ld_unit_zero (S := S512x2048) hz,
    View.ld_unit_zero (S := S1x2048x512) hz3, View.ld_unit_zero (S := S1x2048) hz, View.ld_unit_zero (S := S1x128) hz]
end

/-- One entry of a head's normed columns: the 128 columns from `o` on of a row of products, normed. -/
def headAt (z : Vec Ideal S512x512 .f32) (g : Vec Ideal S1x128 .f32) (r : Fin 512) (o : ℕ) (ho : o + 128 ≤ 512) (e : Fin 128) : EReal :=
  rms c128 (fun e : Fin 128 => z (ix2 r ⟨o + e.val, by omega⟩)) (fun e => g (ix2 0 e)) e

/-- One entry of the row's normed products: the column's head, at the column's place in it. -/
def normAt (z : Vec Ideal S512x512 .f32) (g : Vec Ideal S1x128 .f32) (r j : Fin 512) : EReal :=
  headAt z g r (j.val / 128 * 128) (by omega) ⟨j.val % 128, by omega⟩

theorem headAt_eq (z : Vec Ideal S512x512 .f32) (g : Vec Ideal S1x128 .f32) (r : Fin 512) (o : ℕ) (ho : o + 128 ≤ 512) (e : Fin 128) (j : Fin 512)
    (h : o = j.val / 128 * 128) (he : e.val = j.val % 128) : headAt z g r o ho e = normAt z g r j := by
  subst h
  rw [show e = ⟨j.val % 128, by omega⟩ from Fin.ext he]
  rfl

/-- The projected rows. -/
theorem pay2_apply (x : Vec Ideal S512x2048 .f32) (n : Vec Ideal S1x2048 .f32) (w : Vec Ideal S1x2048x512 .bf16) (r d : Fin 512) :
    k0_pay2 (F := Ideal) x n w (ix2 r d) = dot (rms c2048 (fun k => x (ix2 r k)) (fun k => n (ix2 0 k))) (fun k => w (ix3 0 k d)) := by
  pointwise [k0_pay2]
  rfl

section
variable (x : Vec Ideal S512x2048 .f32) (n : Vec Ideal S1x2048 .f32) (w : Vec Ideal S1x2048x512 .bf16) (g : Vec Ideal S1x128 .f32) (r : Fin 512) (e : Fin 128)

/-- The first head. -/
theorem pay4_apply : k0_pay4 (F := Ideal) x n w g (ix2 r e) = headAt (k0_pay2 x n w) g r 0 (by omega) e := by
  pointwise [k0_pay4, k0_pay3]
  have h : (fun e : Fin 128 => k0_pay2 x n w (ix2 r ⟨0 + e.val, by omega⟩)) = fun e : Fin 128 => k0_pay2 x n w (ix2 r ⟨e.val, by omega⟩) :=
    funext fun e => congrArg (fun q => k0_pay2 x n w (ix2 r q)) (Fin.ext (Nat.zero_add _))
  unfold headAt
  rw [h]
  rfl
/-- The second head's columns. -/
theorem pay5_apply : k0_pay5 (F := Ideal) x n w (ix2 r e) = k0_pay2 x n w (ix2 r ⟨128 + e.val, by omega⟩) := by
  pointwise [k0_pay5]
/-- The second head's sum of squares. -/
theorem pay6_apply : k0_pay6 (F := Ideal) x n w (ix2 r 0)
    = ∑ y : Fin 128, k0_pay2 x n w (ix2 r ⟨128 + y.val, by omega⟩) * k0_pay2 x n w (ix2 r ⟨128 + y.val, by omega⟩) := by
  pointwise [k0_pay6, k0_pay5]
/-- The count of a head's columns. -/
theorem pay7_apply : k0_pay7 (F := Ideal) (ix2 r 0) = c128 := by
  pointwise [k0_pay7]
end

/-- The heads side by side, given each head's columns. -/
theorem pay1_apply (z : Vec Ideal S512x512 .f32) (g : Vec Ideal S1x128 .f32) (a b : Vec Ideal S512x128 .f32) (s q : Vec Ideal S512x1 .f32) (r j : Fin 512)
    (ha : ∀ y, a (ix2 r y) = headAt z g r 0 (by omega) y)
    (hb : ∀ y : Fin 128, b (ix2 r y) = z (ix2 r ⟨128 + y.val, by omega⟩))
    (hs : s (ix2 r 0) = ∑ y : Fin 128, z (ix2 r ⟨128 + y.val, by omega⟩) * z (ix2 r ⟨128 + y.val, by omega⟩)) (hq : q (ix2 r 0) = c128) :
    k0_pay1 (F := Ideal) z g a b s q (ix3 0 r j) = normAt z g r j := by
  have hj := j.isLt
  pointwise [k0_pay1]
  by_cases h0 : j.val < 128
  · rw [dif_pos h0]
    exact (ha _).trans (headAt_eq _ _ _ _ _ _ _ (by omega) (by dsimp only; omega))
  rw [dif_neg h0]
  by_cases h1 : j.val - 128 < 128
  · rw [dif_pos h1, hb, hs, hq]
    exact headAt_eq z g r 128 (by omega) ⟨j.val - 128, by omega⟩ j (by omega) (by dsimp only; omega)
  rw [dif_neg h1]
  by_cases h2 : j.val - 128 - 128 < 128
  · rw [dif_pos h2]
    exact headAt_eq z g r 256 (by omega) ⟨j.val - 128 - 128, by omega⟩ j (by omega) (by dsimp only; omega)
  rw [dif_neg h2]
  exact headAt_eq z g r 384 (by omega) ⟨j.val - 128 - 128 - 128, by omega⟩ j (by omega) (by dsimp only; omega)

/-- The gain row is kept. -/
theorem pay3_eq (g : Vec Ideal S1x128 .f32) : k0_pay3 (F := Ideal) g = g := by
  funext i
  obtain ⟨a, e, rfl⟩ : ∃ (a : Fin 1) (e : Fin 128), i = ix2 a e := ⟨i 0, i 1, eq_ix2 i⟩
  pointwise [k0_pay3]

/-- One entry of the payload. -/
theorem payload_apply (x : Vec Ideal S512x2048 .f32) (n : Vec Ideal S1x2048 .f32) (w : Vec Ideal S1x2048x512 .bf16) (g : Vec Ideal S1x128 .f32) (r j : Fin 512) :
    payload (F := Ideal) x n w g (ix3 0 r j) = normAt (k0_pay2 x n w) g r j := by
  unfold payload
  rw [pay3_eq]
  exact pay1_apply _ _ _ _ _ _ r j (pay4_apply x n w g r) (pay5_apply x n w r) (pay6_apply x n w r) (pay7_apply r)

variable (m : (ℓ : Loc nD τ sig) → Buf (Elt Ideal) ℓ)

/-- The memory's rows one sequence after the other, read at one entry. -/
theorem joined_apply (x : Vec Ideal S2x256x2048 .f32) (r : Fin 512) (d : Fin 2048) :
    shapeCast S512x2048 x shapeCasts_S2x256x2048_S512x2048 (ix2 r d) = x (ix3 ⟨r.val / 256, by omega⟩ ⟨r.val % 256, by omega⟩ d) := by
  pointwise

/-- The region finds the memory's rows one sequence after the other. -/
theorem V_x (c : Dev nD) (r : Fin 512) (d : Fin 2048) :
    (V m c main_v0 : Vec Ideal S512x2048 .f32) (ix2 r d) = (m ((c : Thread nD τ).loc main_arg1) : Vec Ideal S2x256x2048 .f32) (ix3 ⟨r.val / 256, by omega⟩ ⟨r.val % 256, by omega⟩ d) := by
  unfold_abbrev_sides; after_results
  exact joined_apply _ r d
/-- The region finds the weights, converted. -/
theorem V_w (c : Dev nD) : V m c main_v1 = m ((c : Thread nD τ).loc main_arg3) := by
  unfold_abbrev_sides; after_results; rfl
/-- The region finds the result's buffer as the first argument. -/
theorem V_out (c : Dev nD) : V m c main_v8 = m ((c : Thread nD τ).loc main_arg0) := by
  unfold_abbrev_sides; after_results; rfl
/-- The region finds the row norm's gain as one row. -/
theorem V_gain (c : Dev nD) (d : Fin 2048) :
    (V m c main_v7 : Vec Ideal S1x2048 .f32) (ix2 0 d) = (m ((c : Thread nD τ).loc main_arg2) : Vec Ideal S4x2048 .f32) (ix2 1 d) := by
  unfold_abbrev_sides; after_results
  show shapeCast S1x2048 (shapeCast S2048 (extractStridedSlice S1x2048 ![1, 0] (m ((c : Thread nD τ).loc main_arg2) : Vec Ideal S4x2048 .f32) slices_S4x2048_S1x2048_1_0) shapeCasts_S1x2048_S2048) shapeCasts_S2048_S1x2048 (ix2 0 d) = _
  pointwise
/-- The region finds the head norm's gain as one row. -/
theorem V_hgain (c : Dev nD) (d : Fin 128) :
    (V m c main_v4 : Vec Ideal S1x128 .f32) (ix2 0 d) = (m ((c : Thread nD τ).loc main_arg4) : Vec Ideal S4x128 .f32) (ix2 1 d) := by
  unfold_abbrev_sides; after_results
  show shapeCast S1x128 (shapeCast S128 (extractStridedSlice S1x128 ![1, 0] (m ((c : Thread nD τ).loc main_arg4) : Vec Ideal S4x128 .f32) slices_S4x128_S1x128_1_0) shapeCasts_S1x128_S128) shapeCasts_S128_S1x128 (ix2 0 d) = _
  pointwise
theorem idx2 : ∀ t : Fin cfg0.N, win0_2.index t (0 : Fin 2) = 0 ∧ win0_2.index t (1 : Fin 2) = 0 :=
  (by decide +kernel : ∀ t : Fin grid0.N, _)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)

/-- The memory's rows. -/
theorem blk_x (c : Dev nD) (t : Fin cfg0.N) (r : Fin 512) (d : Fin 2048) :
    (iblk m c 0 t : Vec Ideal S512x2048 .f32) (ix2 r d) = (m ((c : Thread nD τ).loc main_arg1) : Vec Ideal S2x256x2048 .f32) (ix3 ⟨r.val / 256, by omega⟩ ⟨r.val % 256, by omega⟩ d) := by
  refine Eq.trans ?_ (V_x m c r d)
  unfold iblk
  rw [View.read_apply]
  show V m c main_v0 _ = _
  congr 1; funext a; apply Fin.ext
  match a with
  | ⟨0, _⟩ => show win0_0.index t (0 : Fin 2) * 512 + 1 * r.val = r.val; rw [(idx0 t).1]; omega
  | ⟨1, _⟩ => show win0_0.index t (1 : Fin 2) * 2048 + 1 * d.val = d.val; rw [(idx0 t).2]; omega

/-- The weights of layer 1. -/
theorem blk_w (c : Dev nD) (t : Fin cfg0.N) (k : Fin 2048) (j : Fin 512) :
    (iblk m c 1 t : Vec Ideal S1x2048x512 .bf16) (ix3 0 k j) = (m ((c : Thread nD τ).loc main_arg3) : Vec Ideal S4x2048x512 .f32) (ix3 1 k j) := by
  refine Eq.trans ?_ (congrFun (V_w m c) (ix3 1 k j))
  unfold iblk
  rw [View.read_apply]
  show V m c main_v1 _ = _
  congr 1; funext a; apply Fin.ext
  match a with
  | ⟨0, _⟩ => show win0_1.index t (0 : Fin 3) * 1 + 1 * 0 = 1; rw [(idx1 t).1]
  | ⟨1, _⟩ => show win0_1.index t (1 : Fin 3) * 2048 + 1 * k.val = k.val; rw [(idx1 t).2.1]; omega
  | ⟨2, _⟩ => show win0_1.index t (2 : Fin 3) * 512 + 1 * j.val = j.val; rw [(idx1 t).2.2]; omega

/-- The row norm's gain. -/
theorem blk_n (c : Dev nD) (t : Fin cfg0.N) (d : Fin 2048) :
    (iblk m c 3 t : Vec Ideal S1x2048 .f32) (ix2 0 d) = (m ((c : Thread nD τ).loc main_arg2) : Vec Ideal S4x2048 .f32) (ix2 1 d) := by
  refine Eq.trans ?_ (V_gain m c d)
  unfold iblk
  rw [View.read_apply]
  show V m c main_v7 _ = _
  congr 1; funext a; apply Fin.ext
  match a with
  | ⟨0, _⟩ => show win0_3.index t (0 : Fin 2) * 1 + 1 * 0 = 0; rw [(idx3 t).1]
  | ⟨1, _⟩ => show win0_3.index t (1 : Fin 2) * 2048 + 1 * d.val = d.val; rw [(idx3 t).2]; omega

/-- The head norm's gain. -/
theorem blk_g (c : Dev nD) (t : Fin cfg0.N) (d : Fin 128) :
    (iblk m c 2 t : Vec Ideal S1x128 .f32) (ix2 0 d) = (m ((c : Thread nD τ).loc main_arg4) : Vec Ideal S4x128 .f32) (ix2 1 d) := by
  refine Eq.trans ?_ (V_hgain m c d)
  unfold iblk
  rw [View.read_apply]
  show V m c main_v4 _ = _
  congr 1; funext a; apply Fin.ext
  match a with
  | ⟨0, _⟩ => show win0_2.index t (0 : Fin 2) * 1 + 1 * 0 = 0; rw [(idx2 t).1]
  | ⟨1, _⟩ => show win0_2.index t (1 : Fin 2) * 128 + 1 * d.val = d.val; rw [(idx2 t).2]; omega

/-- One entry of the memory keys: the column's head of the row's products, normed. -/
abbrev memAt (c : Dev nD) (R d : Fin 512) : EReal :=
  rms c128 (fun e : Fin 128 => dot (rms c2048 (fun k => (m ((c : Thread nD τ).loc main_arg1) : Vec Ideal S2x256x2048 .f32) (ix3 ⟨R.val / 256, by omega⟩ ⟨R.val % 256, by omega⟩ k)) (fun k => (m ((c : Thread nD τ).loc main_arg2) : Vec Ideal S4x2048 .f32) (ix2 1 k)))
      (fun k => (m ((c : Thread nD τ).loc main_arg3) : Vec Ideal S4x2048x512 .f32) (ix3 1 k ⟨d.val / 128 * 128 + e.val, by omega⟩)))
    (fun e => (m ((c : Thread nD τ).loc main_arg4) : Vec Ideal S4x128 .f32) (ix2 1 e)) ⟨d.val % 128, by omega⟩

/-- The block the point leaves, at one entry. -/
theorem block (c : Dev nD) (t : Fin cfg0.N) (r d : Fin 512) : outsAt0 m c t (ix3 0 r d) = memAt m c r d := by
  rw [step, payload_apply]
  unfold normAt headAt memAt
  simp only [pay2_apply, blk_x, blk_w, blk_n, blk_g]

/-- The point writes its block back. -/
theorem flush4 : ∀ t : Fin cfg0.N, (cfg0.win 4).flush t = true := (by decide +kernel : ∀ t : Fin grid0.N, _)

/-- The result array in layer 1. -/
theorem out_layer (c : Dev nD) (R d : Fin 512) :
    ((dats m 0 c).arrAt 4 cfg0.N : Vec Ideal S4x512x512 .f32) (ix3 1 R d) = memAt m c R d := by
  have ht : 0 < cfg0.N := lt_of_lt_of_eq Nat.zero_lt_one N_0.symm
  generalize (⟨0, ht⟩ : Fin cfg0.N) = t
  have h := congrFun (blocks4 m c t (flush4 t)) (ix3 0 R d : S1x512x512.Idx)
  rw [flushed4, View.read_apply] at h
  refine Eq.trans ?_ (h.trans (block m c t R d))
  congr 1; funext a; apply Fin.ext
  match a with
  | ⟨0, _⟩ => show 1 = win0_4.index t (0 : Fin 3) * 1 + 1 * 0; rw [(idx4 t).1]
  | ⟨1, _⟩ => show R.val = win0_4.index t (1 : Fin 3) * 512 + 1 * R.val; rw [(idx4 t).2.1]; omega
  | ⟨2, _⟩ => show d.val = win0_4.index t (2 : Fin 3) * 512 + 1 * d.val; rw [(idx4 t).2.2]; omega

/-- The result array in another layer holds what it held. -/
theorem out_rest (c : Dev nD) (l : Fin 4) (hl : l.val ≠ 1) (R d : Fin 512) :
    ((dats m 0 c).arrAt 4 cfg0.N : Vec Ideal S4x512x512 .f32) (ix3 l R d) = (m ((c : Thread nD τ).loc main_arg0) : Vec Ideal S4x512x512 .f32) (ix3 l R d) := by
  refine (entry4 m c (ix3 l R d) fun t _ hmem => ?_).trans (congrFun (V_out m c) _)
  obtain ⟨y, hy⟩ := View.exists_emb_of_mem_set _ hmem
  have h0 : win0_4.index t (0 : Fin 3) * 1 + 1 * (y (0 : Fin 3)).val = l.val := congrArg (fun i : S4x512x512.Idx => (i 0).val) hy
  have hy0 : (y (0 : Fin 3)).val < 1 := (y (0 : Fin 3)).isLt
  rw [(idx4 t).1] at h0
  omega

end Cert.Kernel8Ideal.MemK1
-- ==== Proof.MemK1Claim.lean ====
/-
  The plain memory keys, and that the kernel's are the same.
-/
module

public import proofs.«01_k».proof.Defs
public import proofs.«01_k».proof.Proof.MemK1
public import proofs.«01_k».proof.Proof.Gen.Reference8Ideal.Run
public import proofs.«01_k».proof.Proof.Gen.Reference8Ideal.Read
public import Idealize.ShloMosaic.Lib.Quiescent

@[expose] public section

set_option maxRecDepth 16384

noncomputable section

namespace Cert.MemK1

open Idealize.ShloMosaic Idealize.ShloMosaic.TcCoe Idealize.SL.Sem
open Cert.Reference8Ideal Cert.Reference8Ideal.Read Cert.Layer

variable (mk : Vec Ideal S4x512x512 .f32) (x : Vec Ideal S2x256x2048 .f32) (n : Vec Ideal S4x2048 .f32) (w : Vec Ideal S4x2048x512 .f32) (g : Vec Ideal S4x128 .f32)

/-- A normed memory row's products with the weights. -/
theorem dot_apply (b : Fin 2) (t : Fin 256) (d : Fin 512) : val_main_v17 (F := Ideal) x n w (ix3 b t d)
    = dot (rms c2048 (fun k => x (ix3 b t k)) (fun k => n (ix2 1 k))) (fun k => w (ix3 1 k d)) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- A head's normed products. -/
theorem norm_apply (b : Fin 2) (t : Fin 256) (h : Fin 4) (e : Fin 128) : val_main_v33 (F := Ideal) x n w g (ix4 b t h e)
    = rms c128 (fun e : Fin 128 => val_main_v17 (F := Ideal) x n w (ix3 b t ⟨h.val * 128 + e.val, by omega⟩)) (fun e => g (ix2 1 e)) e := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  rfl

/-- The plain program's result in layer 1. -/
theorem ref_layer (R d : Fin 512) : val_main_v37 (F := Ideal) mk x n w g (ix3 1 R d)
    = rms c128 (fun e : Fin 128 => dot (rms c2048 (fun k => x (ix3 ⟨R.val / 256, by omega⟩ ⟨R.val % 256, by omega⟩ k)) (fun k => n (ix2 1 k))) (fun k => w (ix3 1 k ⟨d.val / 128 * 128 + e.val, by omega⟩)))
        (fun e => g (ix2 1 e)) ⟨d.val % 128, by omega⟩ := by
  have f : val_main_v37 (F := Ideal) mk x n w g (ix3 1 R d)
      = val_main_v33 (F := Ideal) x n w g (ix4 ⟨R.val / 256, by omega⟩ ⟨R.val % 256, by omega⟩ ⟨d.val / 128, by omega⟩ ⟨d.val % 128, by omega⟩) := by
    pointwise [val_main_v37, val_main_v35]
  rw [f, norm_apply]
  simp only [dot_apply]

/-- The plain program's result in another layer. -/
theorem ref_rest (l : Fin 4) (hl : l.val ≠ 1) (R d : Fin 512) : val_main_v37 (F := Ideal) mk x n w g (ix3 l R d) = mk (ix3 l R d) := by
  pointwise [val_main_v37, val_main_v36, val_main_v34]
  match l, hl with
  | 0, _ => rfl
  | 2, _ => rfl
  | 3, _ => rfl

/-- The plain program's result is the kernel's, from the same arguments. -/
theorem out_eq (m : (ℓ : Loc Cert.Kernel8Ideal.nD Cert.Kernel8Ideal.τ Cert.Kernel8Ideal.sig) → Buf (Elt Ideal) ℓ) (c : Dev Cert.Kernel8Ideal.nD) :
    val_main_v37 (F := Ideal)
      (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1))
      (m ((c.tc : Thread Cert.Kernel8Ideal.nD Cert.Kernel8Ideal.τ).loc Cert.Kernel8Ideal.main_arg2))
      (m ((c.tc : Thread Cert.Kernel8Ideal.nD Cert.Kernel8Ideal.τ).loc Cert.Kernel8Ideal.main_arg3))
      (m ((c.tc : Thread Cert.Kernel8Ideal.nD Cert.Kernel8Ideal.τ).loc Cert.Kernel8Ideal.main_arg4))
      = (Cert.Kernel8Ideal.Gen.dats m 0 c).arrAt 4 Cert.Kernel8Ideal.cfg0.N := by
  funext i
  obtain ⟨l, R, d, rfl⟩ : ∃ (l : Fin 4) (R : Fin 512) (d : Fin 512), i = ix3 l R d := ⟨i 0, i 1, i 2, eq_ix3 i⟩
  by_cases hl : l.val = 1
  · obtain rfl : l = 1 := Fin.ext hl
    exact (ref_layer _ _ _ _ _ R d).trans (Cert.Kernel8Ideal.MemK1.out_layer m c R d).symm
  · exact (ref_rest _ _ _ _ _ l hl R d).trans (Cert.Kernel8Ideal.MemK1.out_rest m c l hl R d).symm

/-- The value claim. -/
theorem algebraic : Cert.algebraic_Kernel8Ideal_Reference8Ideal
    (hKernel8Ideal := Cert.Kernel8Ideal.Gen.facts) (hReference8Ideal := Cert.Reference8Ideal.Gen.facts) := by
  intro m ρ m' ρ' _ hag
  refine ⟨fun c => (Cert.Kernel8Ideal.Gen.dats m 0 c).arrAt 4 Cert.Kernel8Ideal.cfg0.N, Cert.Kernel8Ideal.Value.run_blocks m ρ,
    (θ_run _ _ _).mono (fun r h c => ?_) (Cert.Reference8Ideal.Value.run m' ρ')⟩
  obtain ⟨a0, a1, a2, a3, a4⟩ := hag c
  obtain ⟨h1, hr⟩ := h c
  refine ⟨(h1.trans (val_main_v37_eq m' c)).trans ?_, hr⟩
  rw [a0, a1, a2, a3, a4]
  exact out_eq m c

/-- The plain program runs and leaves its arguments. -/
theorem frame_reference : Cert.quiescent_Reference8Ideal (hReference8Ideal := Cert.Reference8Ideal.Gen.facts) := by
  intro m ρ _
  exact (θ_run _ _ _).mono (fun r h => ⟨fun c => (h c).2, sem_eq_zero_of_no_sems rfl _⟩) (Cert.Reference8Ideal.Value.run m ρ)

end Cert.MemK1
-- ==== Proof.MemV1.lean ====
/-
  The memory values' kernel: layer 1 of its result holds the normed memory rows' products with the value weights, the other
  layers what they held.
-/
module

public import proofs.«01_k».proof.Proof.Spec
public import proofs.«01_k».proof.Proof.Gen.Kernel9Ideal.Value
public import Idealize.ShloMosaic.Lib.Pointwise

@[expose] public section

set_option maxRecDepth 16384

noncomputable section

namespace Cert.Kernel9Ideal.MemV1

open Idealize.ShloMosaic Idealize.ShloMosaic.TcCoe Idealize.SL.Sem
open Cert.Kernel9Ideal Cert.Kernel9Ideal.Gen Cert.Kernel9Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block the point leaves is the body's payload of its input blocks. -/
theorem step (c : Dev nD) (t : Fin cfg0.N) : outsAt0 m c t = k0_pay1 (iblk m c 0 t) (iblk m c 3 t) (iblk m c 1 t) := by
  unfold outsAt0 out0_A_4
  refine (View.read_writes_eq_canon _ _ _ (fun y => cover0_A_4 _ _ _ _ _ _ _ _ _ _ _ _ _ _ _ _ y)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, View.ld_unit_zero (S := S512x2048) hz,
    View.ld_unit_zero (S := S1x2048x512) hz3, View.ld_unit_zero (S := S1x2048) hz]
end

/-- One entry of the payload. -/
theorem pay1_apply (x : Vec Ideal S512x2048 .f32) (g : Vec Ideal S1x2048 .f32) (w : Vec Ideal S1x2048x512 .bf16) (r d : Fin 512) :
    k0_pay1 (F := Ideal) x g w (ix3 0 r d) = dot (rms c2048 (fun k => x (ix2 r k)) (fun k => g (ix2 0 k))) (fun k => w (ix3 0 k d)) := by
  pointwise [k0_pay1]
  rfl

variable (m : (ℓ : Loc nD τ sig) → Buf (Elt Ideal) ℓ)

/-- The memory's rows one sequence after the other, read at one entry. -/
theorem joined_apply (x : Vec Ideal S2x256x2048 .f32) (r : Fin 512) (d : Fin 2048) :
    shapeCast S512x2048 x shapeCasts_S2x256x2048_S512x2048 (ix2 r d) = x (ix3 ⟨r.val / 256, by omega⟩ ⟨r.val % 256, by omega⟩ d) := by
  pointwise

/-- The region finds the memory's rows one sequence after the other. -/
theorem V_x (c : Dev nD) (r : Fin 512) (d : Fin 2048) :
    (V m c main_v0 : Vec Ideal S512x2048 .f32) (ix2 r d) = (m ((c : Thread nD τ).loc main_arg1) : Vec Ideal S2x256x2048 .f32) (ix3 ⟨r.val / 256, by omega⟩ ⟨r.val % 256, by omega⟩ d) := by
  unfold_abbrev_sides; after_results
  exact joined_apply _ r d
/-- The region finds the weights, converted. -/
theorem V_w (c : Dev nD) : V m c main_v1 = m ((c : Thread nD τ).loc main_arg3) := by
  unfold_abbrev_sides; after_results; rfl
/-- The region finds the result's buffer as the first argument. -/
theorem V_out (c : Dev nD) : V m c main_v6 = m ((c : Thread nD τ).loc main_arg0) := by
  unfold_abbrev_sides; after_results; rfl
/-- The region finds the row norm's gain as one row. -/
theorem V_gain (c : Dev nD) (d : Fin 2048) :
    (V m c main_v5 : Vec Ideal S1x2048 .f32) (ix2 0 d) = (m ((c : Thread nD τ).loc main_arg2) : Vec Ideal S4x2048 .f32) (ix2 1 d) := by
  unfold_abbrev_sides; after_results
  show shapeCast S1x2048 (shapeCast S2048 (extractStridedSlice S1x2048 ![1, 0] (m ((c : Thread nD τ).loc main_arg2) : Vec Ideal S4x2048 .f32) slices_S4x2048_S1x2048_1_0) shapeCasts_S1x2048_S2048) shapeCasts_S2048_S1x2048 (ix2 0 d) = _
  pointwise

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = 1 ∧ win0_4.index t (1 : Fin 3) = 0 ∧ win0_4.index t (2 : Fin 3) = 0 :=
  (by decide +kernel : ∀ t : Fin grid0.N, _)

/-- The memory's rows. -/
theorem blk_x (c : Dev nD) (t : Fin cfg0.N) (r : Fin 512) (d : Fin 2048) :
    (iblk m c 0 t : Vec Ideal S512x2048 .f32) (ix2 r d) = (m ((c : Thread nD τ).loc main_arg1) : Vec Ideal S2x256x2048 .f32) (ix3 ⟨r.val / 256, by omega⟩ ⟨r.val % 256, by omega⟩ d) := by
  refine Eq.trans ?_ (V_x m c r d)
  unfold iblk
  rw [View.read_apply]
  show V m c main_v0 _ = _
  congr 1; funext a; apply Fin.ext
  match a with
  | ⟨0, _⟩ => show win0_0.index t (0 : Fin 2) * 512 + 1 * r.val = r.val; rw [(idx0 t).1]; omega
  | ⟨1, _⟩ => show win0_0.index t (1 : Fin 2) * 2048 + 1 * d.val = d.val; rw [(idx0 t).2]; omega

/-- The weights of layer 1. -/
theorem blk_w (c : Dev nD) (t : Fin cfg0.N) (k : Fin 2048) (j : Fin 512) :
    (iblk m c 1 t : Vec Ideal S1x2048x512 .bf16) (ix3 0 k j) = (m ((c : Thread nD τ).loc main_arg3) : Vec Ideal S4x2048x512 .f32) (ix3 1 k j) := by
  refine Eq.trans ?_ (congrFun (V_w m c) (ix3 1 k j))
  unfold iblk
  rw [View.read_apply]
  show V m c main_v1 _ = _
  congr 1; funext a; apply Fin.ext
  match a with
  | ⟨0, _⟩ => show win0_1.index t (0 : Fin 3) * 1 + 1 * 0 = 1; rw [(idx1 t).1]
  | ⟨1, _⟩ => show win0_1.index t (1 : Fin 3) * 2048 + 1 * k.val = k.val; rw [(idx1 t).2.1]; omega
  | ⟨2, _⟩ => show win0_1.index t (2 : Fin 3) * 512 + 1 * j.val = j.val; rw [(idx1 t).2.2]; omega

/-- The row norm's gain. -/
theorem blk_n (c : Dev nD) (t : Fin cfg0.N) (d : Fin 2048) :
    (iblk m c 3 t : Vec Ideal S1x2048 .f32) (ix2 0 d) = (m ((c : Thread nD τ).loc main_arg2) : Vec Ideal S4x2048 .f32) (ix2 1 d) := by
  refine Eq.trans ?_ (V_gain m c d)
  unfold iblk
  rw [View.read_apply]
  show V m c main_v5 _ = _
  congr 1; funext a; apply Fin.ext
  match a with
  | ⟨0, _⟩ => show win0_3.index t (0 : Fin 2) * 1 + 1 * 0 = 0; rw [(idx3 t).1]
  | ⟨1, _⟩ => show win0_3.index t (1 : Fin 2) * 2048 + 1 * d.val = d.val; rw [(idx3 t).2]; omega

/-- One entry of the memory values. -/
abbrev memAt (c : Dev nD) (R d : Fin 512) : EReal :=
  dot (rms c2048 (fun k => (m ((c : Thread nD τ).loc main_arg1) : Vec Ideal S2x256x2048 .f32) (ix3 ⟨R.val / 256, by omega⟩ ⟨R.val % 256, by omega⟩ k)) (fun k => (m ((c : Thread nD τ).loc main_arg2) : Vec Ideal S4x2048 .f32) (ix2 1 k)))
    (fun k => (m ((c : Thread nD τ).loc main_arg3) : Vec Ideal S4x2048x512 .f32) (ix3 1 k d))

/-- The block the point leaves, at one entry. -/
theorem block (c : Dev nD) (t : Fin cfg0.N) (r d : Fin 512) : outsAt0 m c t (ix3 0 r d) = memAt m c r d := by
  rw [step, pay1_apply]
  simp only [blk_x, blk_w, blk_n]

/-- The point writes its block back. -/
theorem flush4 : ∀ t : Fin cfg0.N, (cfg0.win 4).flush t = true := (by decide +kernel : ∀ t : Fin grid0.N, _)

/-- The result array in layer 1. -/
theorem out_layer (c : Dev nD) (R d : Fin 512) :
    ((dats m 0 c).arrAt 4 cfg0.N : Vec Ideal S4x512x512 .f32) (ix3 1 R d) = memAt m c R d := by
  have ht : 0 < cfg0.N := lt_of_lt_of_eq Nat.zero_lt_one N_0.symm
  generalize (⟨0, ht⟩ : Fin cfg0.N) = t
  have h := congrFun (blocks4 m c t (flush4 t)) (ix3 0 R d : S1x512x512.Idx)
  rw [flushed4, View.read_apply] at h
  refine Eq.trans ?_ (h.trans (block m c t R d))
  congr 1; funext a; apply Fin.ext
  match a with
  | ⟨0, _⟩ => show 1 = win0_4.index t (0 : Fin 3) * 1 + 1 * 0; rw [(idx4 t).1]
  | ⟨1, _⟩ => show R.val = win0_4.index t (1 : Fin 3) * 512 + 1 * R.val; rw [(idx4 t).2.1]; omega
  | ⟨2, _⟩ => show d.val = win0_4.index t (2 : Fin 3) * 512 + 1 * d.val; rw [(idx4 t).2.2]; omega

/-- The result array in another layer holds what it held. -/
theorem out_rest (c : Dev nD) (l : Fin 4) (hl : l.val ≠ 1) (R d : Fin 512) :
    ((dats m 0 c).arrAt 4 cfg0.N : Vec Ideal S4x512x512 .f32) (ix3 l R d) = (m ((c : Thread nD τ).loc main_arg0) : Vec Ideal S4x512x512 .f32) (ix3 l R d) := by
  refine (entry4 m c (ix3 l R d) fun t _ hmem => ?_).trans (congrFun (V_out m c) _)
  obtain ⟨y, hy⟩ := View.exists_emb_of_mem_set _ hmem
  have h0 : win0_4.index t (0 : Fin 3) * 1 + 1 * (y (0 : Fin 3)).val = l.val := congrArg (fun i : S4x512x512.Idx => (i 0).val) hy
  have hy0 : (y (0 : Fin 3)).val < 1 := (y (0 : Fin 3)).isLt
  rw [(idx4 t).1] at h0
  omega

end Cert.Kernel9Ideal.MemV1
-- ==== Proof.MemV1Claim.lean ====
/-
  The plain memory values, and that the kernel's are the same.
-/
module

public import proofs.«01_k».proof.Defs
public import proofs.«01_k».proof.Proof.MemV1
public import proofs.«01_k».proof.Proof.Gen.Reference9Ideal.Run
public import proofs.«01_k».proof.Proof.Gen.Reference9Ideal.Read
public import Idealize.ShloMosaic.Lib.Quiescent

@[expose] public section

set_option maxRecDepth 16384

noncomputable section

namespace Cert.MemV1

open Idealize.ShloMosaic Idealize.ShloMosaic.TcCoe Idealize.SL.Sem
open Cert.Reference9Ideal Cert.Reference9Ideal.Read Cert.Layer

variable (mk : Vec Ideal S4x512x512 .f32) (x : Vec Ideal S2x256x2048 .f32) (n : Vec Ideal S4x2048 .f32) (w : Vec Ideal S4x2048x512 .f32)

/-- A normed memory row's products with the weights. -/
theorem dot_apply (b : Fin 2) (t : Fin 256) (d : Fin 512) : val_main_v17 (F := Ideal) x n w (ix3 b t d)
    = dot (rms c2048 (fun k => x (ix3 b t k)) (fun k => n (ix2 1 k))) (fun k => w (ix3 1 k d)) := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The plain program's result in layer 1. -/
theorem ref_layer (R d : Fin 512) : val_main_v21 (F := Ideal) mk x n w (ix3 1 R d)
    = dot (rms c2048 (fun k => x (ix3 ⟨R.val / 256, by omega⟩ ⟨R.val % 256, by omega⟩ k)) (fun k => n (ix2 1 k))) (fun k => w (ix3 1 k d)) := by
  have f : val_main_v21 (F := Ideal) mk x n w (ix3 1 R d)
      = val_main_v17 (F := Ideal) x n w (ix3 ⟨R.val / 256, by omega⟩ ⟨R.val % 256, by omega⟩ d) := by
    pointwise [val_main_v21, val_main_v19]
  rw [f, dot_apply]

/-- The plain program's result in another layer. -/
theorem ref_rest (l : Fin 4) (hl : l.val ≠ 1) (R d : Fin 512) : val_main_v21 (F := Ideal) mk x n w (ix3 l R d) = mk (ix3 l R d) := by
  pointwise [val_main_v21, val_main_v20, val_main_v18]
  match l, hl with
  | 0, _ => rfl
  | 2, _ => rfl
  | 3, _ => rfl

/-- The plain program's result is the kernel's, from the same arguments. -/
theorem out_eq (m : (ℓ : Loc Cert.Kernel9Ideal.nD Cert.Kernel9Ideal.τ Cert.Kernel9Ideal.sig) → Buf (Elt Ideal) ℓ) (c : Dev Cert.Kernel9Ideal.nD) :
    val_main_v21 (F := Ideal)
      (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3))
      = (Cert.Kernel9Ideal.Gen.dats m 0 c).arrAt 4 Cert.Kernel9Ideal.cfg0.N := by
  funext i
  obtain ⟨l, R, d, rfl⟩ : ∃ (l : Fin 4) (R : Fin 512) (d : Fin 512), i = ix3 l R d := ⟨i 0, i 1, i 2, eq_ix3 i⟩
  by_cases hl : l.val = 1
  · obtain rfl : l = 1 := Fin.ext hl
    exact (ref_layer _ _ _ _ R d).trans (Cert.Kernel9Ideal.MemV1.out_layer m c R d).symm
  · exact (ref_rest _ _ _ _ l hl R d).trans (Cert.Kernel9Ideal.MemV1.out_rest m c l hl R d).symm

/-- The value claim. -/
theorem algebraic : Cert.algebraic_Kernel9Ideal_Reference9Ideal
    (hKernel9Ideal := Cert.Kernel9Ideal.Gen.facts) (hReference9Ideal := Cert.Reference9Ideal.Gen.facts) := by
  intro m ρ m' ρ' _ hag
  refine ⟨fun c => (Cert.Kernel9Ideal.Gen.dats m 0 c).arrAt 4 Cert.Kernel9Ideal.cfg0.N, Cert.Kernel9Ideal.Value.run_blocks m ρ,
    (θ_run _ _ _).mono (fun r h c => ?_) (Cert.Reference9Ideal.Value.run m' ρ')⟩
  obtain ⟨a0, a1, a2, a3⟩ := hag c
  obtain ⟨h1, hr⟩ := h c
  refine ⟨(h1.trans (val_main_v21_eq _ _ _ _)).trans ?_, hr⟩
  rw [a0, a1, a2, a3]
  exact out_eq m c

/-- The plain program runs and leaves its arguments. -/
theorem frame_reference : Cert.quiescent_Reference9Ideal (hReference9Ideal := Cert.Reference9Ideal.Gen.facts) := by
  intro m ρ _
  exact (θ_run _ _ _).mono (fun r h => ⟨fun c => (h c).2, sem_eq_zero_of_no_sems rfl _⟩) (Cert.Reference9Ideal.Value.run m ρ)

end Cert.MemV1
-- ==== Proof.Mix.lean ====
/-
  The mix's kernel on the sample rows: the row block it writes holds the input rows plus the gated branches' projection, the
  other rows of the buffer what they held.
-/
module

public import proofs.«01_k».proof.Proof.Spec
public import proofs.«01_k».proof.Proof.Gen.Kernel10Ideal.Value
public import Idealize.ShloMosaic.Lib.Pointwise

@[expose] public section

set_option maxRecDepth 16384

noncomputable section

namespace Cert.Kernel10Ideal.Mix

open Idealize.ShloMosaic Idealize.ShloMosaic.TcCoe Idealize.SL.Sem
open Cert.Kernel10Ideal Cert.Kernel10Ideal.Gen Cert.Kernel10Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block the point leaves is the body's payload of its input blocks. -/
theorem step (c : Dev nD) (t : Fin cfg0.N) : outsAt0 m c t = k0_pay1 (iblk m c 1 t) (iblk m c 5 t) (iblk m c 2 t) (iblk m c 6 t)
    (iblk m c 7 t) (iblk m c 3 t) (iblk m c 4 t) (iblk m c 0 t) (iblk m c 8 t) := by
  unfold outsAt0 out0_A_9
  refine (View.read_writes_eq_canon _ _ _ (fun y => cover0_A_9 _ _ _ _ _ _ _ _ _ _ _ _ _ _ _ _ _ _ _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S64x1024) hz, View.ld_unit_zero (S := S64x2048) hz, View.ld_unit_zero (S := S1x1024x2048) hz3,
    View.ld_unit_zero (S := S1x2048x2048) hz3]
end

/-- One entry of the mixed branches: each gate times its branch's entry. -/
def mixed {n : Nat} (att z : Fin 1024 → EReal) (ga gb : EReal) (wp wa wb : Fin 1024 → Fin n → EReal) (d : Fin n) : EReal :=
  ga * dot att (fun k => wp k d) + gb * (dot z (fun k => wa k d) * Ideal.logistic (dot z (fun k => wb k d)))

/-- One entry of the mix's row: the input plus the mixed branches' row against the output weights. -/
def mixAt (h : EReal) (att z : Fin 1024 → EReal) (ga gb : Fin 2048 → EReal) (wp wa wb : Fin 1024 → Fin 2048 → EReal) (wo : Fin 2048 → EReal) : EReal :=
  h + dot (fun k => mixed att z (ga k) (gb k) wp wa wb k) wo

/-- One entry of the payload. -/
theorem pay1_apply (att : Vec Ideal S64x1024 .f32) (wp : Vec Ideal S1x1024x2048 .bf16) (z : Vec Ideal S64x1024 .f32) (wa wb : Vec Ideal S1x1024x2048 .bf16)
    (ga gb h : Vec Ideal S64x2048 .f32) (wo : Vec Ideal S1x2048x2048 .bf16) (r : Fin 64) (d : Fin 2048) :
    k0_pay1 (F := Ideal) att wp z wa wb ga gb h wo (ix2 r d)
      = mixAt (h (ix2 r d)) (fun k => att (ix2 r k)) (fun k => z (ix2 r k)) (fun k => ga (ix2 r k)) (fun k => gb (ix2 r k))
          (fun k j => wp (ix3 0 k j)) (fun k j => wa (ix3 0 k j)) (fun k j => wb (ix3 0 k j)) (fun k => wo (ix3 0 k d)) := by
  pointwise [k0_pay1]
  rfl

variable (m : (ℓ : Loc nD τ sig) → Buf (Elt Ideal) ℓ)

/-- The region finds the attention branch's weights converted, which changes nothing at the extended reals. -/
theorem V_w0 (c : Dev nD) : V m c main_v0 = m ((c : Thread nD τ).loc main_arg5) := by
  unfold_abbrev_sides; after_results; rfl
/-- The region finds the recurrent branch's weights converted, which changes nothing at the extended reals. -/
theorem V_w1 (c : Dev nD) : V m c main_v1 = m ((c : Thread nD τ).loc main_arg6) := by
  unfold_abbrev_sides; after_results; rfl
/-- The region finds the recurrent branch's inner gate's weights converted, which changes nothing at the extended reals. -/
theorem V_w2 (c : Dev nD) : V m c main_v2 = m ((c : Thread nD τ).loc main_arg7) := by
  unfold_abbrev_sides; after_results; rfl
/-- The region finds the output weights converted, which changes nothing at the extended reals. -/
theorem V_w3 (c : Dev nD) : V m c main_v3 = m ((c : Thread nD τ).loc main_arg8) := by
  unfold_abbrev_sides; after_results; rfl
/-- The region finds the result's buffer as the last argument. -/
theorem V_out (c : Dev nD) : V m c main_v4 = m ((c : Thread nD τ).loc main_arg9) := by
  unfold_abbrev_sides; after_results; rfl

theorem idx0 : ∀ t : Fin cfg0.N, win0_0.index t (0 : Fin 2) = 128 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 2) = 128 ∧ win0_9.index t (1 : Fin 2) = 0 :=
  (by decide +kernel : ∀ t : Fin grid0.N, _)

/-- The input rows, the sample rows of the array. -/
theorem blk0 (c : Dev nD) (t : Fin cfg0.N) (r : Fin 64) (d : Fin 2048) (R : Fin 8256) (hR : R.val = 8192 + r.val) :
    (iblk m c 0 t : Vec Ideal S64x2048 .f32) (ix2 r d) = (m ((c : Thread nD τ).loc main_arg0) : Vec Ideal S8256x2048 .f32) (ix2 R d) := by
  unfold iblk
  rw [View.read_apply]
  show V m c main_arg0 _ = _
  rw [V_main_arg0]
  congr 1; funext a; apply Fin.ext
  match a with
  | ⟨0, _⟩ => show win0_0.index t (0 : Fin 2) * 64 + 1 * r.val = R.val; rw [(idx0 t).1]; omega
  | ⟨1, _⟩ => show win0_0.index t (1 : Fin 2) * 2048 + 1 * d.val = d.val; rw [(idx0 t).2]; omega
/-- The attention branch's rows. -/
theorem blk1 (c : Dev nD) (t : Fin cfg0.N) (r : Fin 64) (d : Fin 1024) :
    (iblk m c 1 t : Vec Ideal S64x1024 .f32) (ix2 r d) = (m ((c : Thread nD τ).loc main_arg1) : Vec Ideal S64x1024 .f32) (ix2 r d) := by
  unfold iblk
  rw [View.read_apply]
  show V m c main_arg1 _ = _
  rw [V_main_arg1]
  congr 1; funext a; apply Fin.ext
  match a with
  | ⟨0, _⟩ => show win0_1.index t (0 : Fin 2) * 64 + 1 * r.val = r.val; rw [(idx1 t).1]; omega
  | ⟨1, _⟩ => show win0_1.index t (1 : Fin 2) * 1024 + 1 * d.val = d.val; rw [(idx1 t).2]; omega
/-- The recurrent branch's rows. -/
theorem blk2 (c : Dev nD) (t : Fin cfg0.N) (r : Fin 64) (d : Fin 1024) :
    (iblk m c 2 t : Vec Ideal S64x1024 .f32) (ix2 r d) = (m ((c : Thread nD τ).loc main_arg2) : Vec Ideal S64x1024 .f32) (ix2 r d) := by
  unfold iblk
  rw [View.read_apply]
  show V m c main_arg2 _ = _
  rw [V_main_arg2]
  congr 1; funext a; apply Fin.ext
  match a with
  | ⟨0, _⟩ => show win0_2.index t (0 : Fin 2) * 64 + 1 * r.val = r.val; rw [(idx2 t).1]; omega
  | ⟨1, _⟩ => show win0_2.index t (1 : Fin 2) * 1024 + 1 * d.val = d.val; rw [(idx2 t).2]; omega
/-- The attention branch's gate. -/
theorem blk3 (c : Dev nD) (t : Fin cfg0.N) (r : Fin 64) (d : Fin 2048) :
    (iblk m c 3 t : Vec Ideal S64x2048 .f32) (ix2 r d) = (m ((c : Thread nD τ).loc main_arg3) : Vec Ideal S64x2048 .f32) (ix2 r d) := by
  unfold iblk
  rw [View.read_apply]
  show V m c main_arg3 _ = _
  rw [V_main_arg3]
  congr 1; funext a; apply Fin.ext
  match a with
  | ⟨0, _⟩ => show win0_3.index t (0 : Fin 2) * 64 + 1 * r.val = r.val; rw [(idx3 t).1]; omega
  | ⟨1, _⟩ => show win0_3.index t (1 : Fin 2) * 2048 + 1 * d.val = d.val; rw [(idx3 t).2]; omega
/-- The recurrent branch's gate. -/
theorem blk4 (c : Dev nD) (t : Fin cfg0.N) (r : Fin 64) (d : Fin 2048) :
    (iblk m c 4 t : Vec Ideal S64x2048 .f32) (ix2 r d) = (m ((c : Thread nD τ).loc main_arg4) : Vec Ideal S64x2048 .f32) (ix2 r d) := by
  unfold iblk
  rw [View.read_apply]
  show V m c main_arg4 _ = _
  rw [V_main_arg4]
  congr 1; funext a; apply Fin.ext
  match a with
  | ⟨0, _⟩ => show win0_4.index t (0 : Fin 2) * 64 + 1 * r.val = r.val; rw [(idx4 t).1]; omega
  | ⟨1, _⟩ => show win0_4.index t (1 : Fin 2) * 2048 + 1 * d.val = d.val; rw [(idx4 t).2]; omega
/-- Layer 0 of the weights. -/
theorem blk5 (c : Dev nD) (t : Fin cfg0.N) (k : Fin 1024) (d : Fin 2048) :
    (iblk m c 5 t : Vec Ideal S1x1024x2048 .bf16) (ix3 0 k d) = (m ((c : Thread nD τ).loc main_arg5) : Vec Ideal S4x1024x2048 .f32) (ix3 0 k d) := by
  unfold iblk
  rw [View.read_apply]
  show V m c main_v0 _ = _
  rw [V_w0]
  congr 1; funext a; apply Fin.ext
  match a with
  | ⟨0, _⟩ => show win0_5.index t (0 : Fin 3) * 1 + 1 * 0 = 0; rw [(idx5 t).1]
  | ⟨1, _⟩ => show win0_5.index t (1 : Fin 3) * 1024 + 1 * k.val = k.val; rw [(idx5 t).2.1]; omega
  | ⟨2, _⟩ => show win0_5.index t (2 : Fin 3) * 2048 + 1 * d.val = d.val; rw [(idx5 t).2.2]; omega
/-- Layer 0 of the weights. -/
theorem blk6 (c : Dev nD) (t : Fin cfg0.N) (k : Fin 1024) (d : Fin 2048) :
    (iblk m c 6 t : Vec Ideal S1x1024x2048 .bf16) (ix3 0 k d) = (m ((c : Thread nD τ).loc main_arg6) : Vec Ideal S4x1024x2048 .f32) (ix3 0 k d) := by
  unfold iblk
  rw [View.read_apply]
  show V m c main_v1 _ = _
  rw [V_w1]
  congr 1; funext a; apply Fin.ext
  match a with
  | ⟨0, _⟩ => show win0_6.index t (0 : Fin 3) * 1 + 1 * 0 = 0; rw [(idx6 t).1]
  | ⟨1, _⟩ => show win0_6.index t (1 : Fin 3) * 1024 + 1 * k.val = k.val; rw [(idx6 t).2.1]; omega
  | ⟨2, _⟩ => show win0_6.index t (2 : Fin 3) * 2048 + 1 * d.val = d.val; rw [(idx6 t).2.2]; omega
/-- Layer 0 of the weights. -/
theorem blk7 (c : Dev nD) (t : Fin cfg0.N) (k : Fin 1024) (d : Fin 2048) :
    (iblk m c 7 t : Vec Ideal S1x1024x2048 .bf16) (ix3 0 k d) = (m ((c : Thread nD τ).loc main_arg7) : Vec Ideal S4x1024x2048 .f32) (ix3 0 k d) := by
  unfold iblk
  rw [View.read_apply]
  show V m c main_v2 _ = _
  rw [V_w2]
  congr 1; funext a; apply Fin.ext
  match a with
  | ⟨0, _⟩ => show win0_7.index t (0 : Fin 3) * 1 + 1 * 0 = 0; rw [(idx7 t).1]
  | ⟨1, _⟩ => show win0_7.index t (1 : Fin 3) * 1024 + 1 * k.val = k.val; rw [(idx7 t).2.1]; omega
  | ⟨2, _⟩ => show win0_7.index t (2 : Fin 3) * 2048 + 1 * d.val = d.val; rw [(idx7 t).2.2]; omega
/-- Layer 0 of the weights. -/
theorem blk8 (c : Dev nD) (t : Fin cfg0.N) (k : Fin 2048) (d : Fin 2048) :
    (iblk m c 8 t : Vec Ideal S1x2048x2048 .bf16) (ix3 0 k d) = (m ((c : Thread nD τ).loc main_arg8) : Vec Ideal S4x2048x2048 .f32) (ix3 0 k d) := by
  unfold iblk
  rw [View.read_apply]
  show V m c main_v3 _ = _
  rw [V_w3]
  congr 1; funext a; apply Fin.ext
  match a with
  | ⟨0, _⟩ => show win0_8.index t (0 : Fin 3) * 1 + 1 * 0 = 0; rw [(idx8 t).1]
  | ⟨1, _⟩ => show win0_8.index t (1 : Fin 3) * 2048 + 1 * k.val = k.val; rw [(idx8 t).2.1]; omega
  | ⟨2, _⟩ => show win0_8.index t (2 : Fin 3) * 2048 + 1 * d.val = d.val; rw [(idx8 t).2.2]; omega

/-- One entry of the mix, from the arguments. -/
abbrev entry (c : Dev nD) (R : Fin 8256) (r : Fin 64) (d : Fin 2048) : EReal :=
  mixAt ((m ((c : Thread nD τ).loc main_arg0) : Vec Ideal S8256x2048 .f32) (ix2 R d)) (fun k => (m ((c : Thread nD τ).loc main_arg1) : Vec Ideal S64x1024 .f32) (ix2 r k)) (fun k => (m ((c : Thread nD τ).loc main_arg2) : Vec Ideal S64x1024 .f32) (ix2 r k))
    (fun k => (m ((c : Thread nD τ).loc main_arg3) : Vec Ideal S64x2048 .f32) (ix2 r k)) (fun k => (m ((c : Thread nD τ).loc main_arg4) : Vec Ideal S64x2048 .f32) (ix2 r k))
    (fun k j => (m ((c : Thread nD τ).loc main_arg5) : Vec Ideal S4x1024x2048 .f32) (ix3 0 k j)) (fun k j => (m ((c : Thread nD τ).loc main_arg6) : Vec Ideal S4x1024x2048 .f32) (ix3 0 k j))
    (fun k j => (m ((c : Thread nD τ).loc main_arg7) : Vec Ideal S4x1024x2048 .f32) (ix3 0 k j)) (fun k => (m ((c : Thread nD τ).loc main_arg8) : Vec Ideal S4x2048x2048 .f32) (ix3 0 k d))

/-- The block the point leaves, at one entry. -/
theorem block (c : Dev nD) (t : Fin cfg0.N) (r : Fin 64) (d : Fin 2048) (R : Fin 8256) (hR : R.val = 8192 + r.val) :
    outsAt0 m c t (ix2 r d) = entry m c R r d := by
  rw [step, pay1_apply]
  simp only [blk0 m c t r d R hR, blk1, blk2, blk3, blk4, blk5, blk6, blk7, blk8]

/-- The point writes its block back. -/
theorem flush9 : ∀ t : Fin cfg0.N, (cfg0.win 9).flush t = true := (by decide +kernel : ∀ t : Fin grid0.N, _)

/-- The result array in the sample rows. -/
theorem out_rows (c : Dev nD) (R : Fin 8256) (r : Fin 64) (hR : R.val = 8192 + r.val) (d : Fin 2048) :
    ((dats m 0 c).arrAt 9 cfg0.N : Vec Ideal S8256x2048 .f32) (ix2 R d) = entry m c R r d := by
  have hN : cfg0.N = 1 := N_0
  generalize hp : (⟨0, by omega⟩ : Fin cfg0.N) = t
  have h := congrFun (blocks9 m c t (flush9 t)) (ix2 r d : S64x2048.Idx)
  rw [flushed9, View.read_apply] at h
  refine Eq.trans ?_ (h.trans (block m c t r d R hR))
  congr 1; funext a; apply Fin.ext
  match a with
  | ⟨0, _⟩ => show R.val = win0_9.index t (0 : Fin 2) * 64 + 1 * r.val; rw [(idx9 t).1]; omega
  | ⟨1, _⟩ => show d.val = win0_9.index t (1 : Fin 2) * 2048 + 1 * d.val; rw [(idx9 t).2]; omega

/-- The result array in the prompt rows holds what it held. -/
theorem out_rest (c : Dev nD) (R : Fin 8256) (hR : R.val < 8192) (d : Fin 2048) :
    ((dats m 0 c).arrAt 9 cfg0.N : Vec Ideal S8256x2048 .f32) (ix2 R d) = (m ((c : Thread nD τ).loc main_arg9) : Vec Ideal S8256x2048 .f32) (ix2 R d) := by
  refine (entry9 m c (ix2 R d) fun t _ hmem => ?_).trans (congrFun (V_out m c) _)
  obtain ⟨y, hy⟩ := View.exists_emb_of_mem_set _ hmem
  have h0 : win0_9.index t (0 : Fin 2) * 64 + 1 * (y (0 : Fin 2)).val = R.val := congrArg (fun i : S8256x2048.Idx => (i 0).val) hy
  rw [(idx9 t).1] at h0
  omega

end Cert.Kernel10Ideal.Mix
-- ==== Proof.MixClaim.lean ====
/-
  The plain mix, and that the kernel's result is the same.
-/
module

public import proofs.«01_k».proof.Defs
public import proofs.«01_k».proof.Proof.Mix
public import proofs.«01_k».proof.Proof.Gen.Reference10Ideal.Run
public import proofs.«01_k».proof.Proof.Gen.Reference10Ideal.Read
public import Idealize.ShloMosaic.Lib.Quiescent

@[expose] public section

set_option maxRecDepth 16384

noncomputable section

namespace Cert.Mix

open Idealize.ShloMosaic Idealize.ShloMosaic.TcCoe Idealize.SL.Sem
open Cert.Reference10Ideal Cert.Reference10Ideal.Read Cert.Layer Cert.Kernel10Ideal.Mix

variable (h : Vec Ideal S8256x2048 .f32) (att z : Vec Ideal S64x1024 .f32) (ga gb : Vec Ideal S64x2048 .f32)
  (wp wa wb : Vec Ideal S4x1024x2048 .f32) (wo : Vec Ideal S4x2048x2048 .f32) (buf : Vec Ideal S8256x2048 .f32)

/-- The plain program's result in the sample rows. -/
theorem ref_rows (R : Fin 8256) (r : Fin 64) (hR : R.val = 8192 + r.val) (d : Fin 2048) :
    val_main_v25 (F := Ideal) h att z ga gb wp wa wb wo buf (ix2 R d)
      = mixAt (h (ix2 R d)) (fun k => att (ix2 r k)) (fun k => z (ix2 r k)) (fun k => ga (ix2 r k)) (fun k => gb (ix2 r k))
          (fun k j => wp (ix3 0 k j)) (fun k j => wa (ix3 0 k j)) (fun k j => wb (ix3 0 k j)) (fun k => wo (ix3 0 k d)) := by
  have f : val_main_v25 (F := Ideal) h att z ga gb wp wa wb wo buf (ix2 R d) = val_main_v23 (F := Ideal) h att z ga gb wp wa wb wo (ix2 r d) := by
    pointwise [val_main_v25]
    rw [dif_neg (by omega)]
    exact congrArg (fun q => val_main_v23 (F := Ideal) h att z ga gb wp wa wb wo (ix2 q d)) (Fin.ext (by dsimp only; omega))
  rw [f, show R = ⟨8192 + r.val, by omega⟩ from Fin.ext hR]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

/-- The plain program's result in the prompt rows. -/
theorem ref_rest (R : Fin 8256) (hR : R.val < 8192) (d : Fin 2048) :
    val_main_v25 (F := Ideal) h att z ga gb wp wa wb wo buf (ix2 R d) = buf (ix2 R d) := by
  pointwise [val_main_v25, val_main_v24]
  rw [dif_pos hR]

/-- The plain program's result is the kernel's, from the same arguments. -/
theorem out_eq (m : (ℓ : Loc Cert.Kernel10Ideal.nD Cert.Kernel10Ideal.τ Cert.Kernel10Ideal.sig) → Buf (Elt Ideal) ℓ) (c : Dev Cert.Kernel10Ideal.nD) :
    val_main_v25 (F := Ideal)
      (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3))
      (m ((c.tc : Thread Cert.Kernel10Ideal.nD Cert.Kernel10Ideal.τ).loc Cert.Kernel10Ideal.main_arg4))
      (m ((c.tc : Thread Cert.Kernel10Ideal.nD Cert.Kernel10Ideal.τ).loc Cert.Kernel10Ideal.main_arg5))
      (m ((c.tc : Thread Cert.Kernel10Ideal.nD Cert.Kernel10Ideal.τ).loc Cert.Kernel10Ideal.main_arg6))
      (m ((c.tc : Thread Cert.Kernel10Ideal.nD Cert.Kernel10Ideal.τ).loc Cert.Kernel10Ideal.main_arg7))
      (m ((c.tc : Thread Cert.Kernel10Ideal.nD Cert.Kernel10Ideal.τ).loc Cert.Kernel10Ideal.main_arg8))
      (m ((c.tc : Thread Cert.Kernel10Ideal.nD Cert.Kernel10Ideal.τ).loc Cert.Kernel10Ideal.main_arg9))
      = (Cert.Kernel10Ideal.Gen.dats m 0 c).arrAt 9 Cert.Kernel10Ideal.cfg0.N := by
  funext i
  obtain ⟨R, d, rfl⟩ : ∃ (R : Fin 8256) (d : Fin 2048), i = ix2 R d := ⟨i 0, i 1, eq_ix2 i⟩
  by_cases hR : R.val < 8192
  · exact (ref_rest _ _ _ _ _ _ _ _ _ _ R hR d).trans (out_rest m c R hR d).symm
  · have e : R.val = 8192 + (⟨R.val - 8192, by omega⟩ : Fin 64).val := by dsimp only; omega
    exact (ref_rows _ _ _ _ _ _ _ _ _ _ R _ e d).trans (out_rows m c R _ e d).symm

/-- The value claim. -/
theorem algebraic : Cert.algebraic_Kernel10Ideal_Reference10Ideal
    (hKernel10Ideal := Cert.Kernel10Ideal.Gen.facts) (hReference10Ideal := Cert.Reference10Ideal.Gen.facts) := by
  intro m ρ m' ρ' _ hag
  refine ⟨fun c => (Cert.Kernel10Ideal.Gen.dats m 0 c).arrAt 9 Cert.Kernel10Ideal.cfg0.N, Cert.Kernel10Ideal.Value.run_blocks m ρ,
    (θ_run _ _ _).mono (fun r h c => ?_) (Cert.Reference10Ideal.Value.run m' ρ')⟩
  obtain ⟨a0, a1, a2, a3, a4, a5, a6, a7, a8, a9⟩ := hag c
  obtain ⟨h1, hr⟩ := h c
  refine ⟨(h1.trans (val_main_v25_eq _ _ _ _ _ _ _ _ _ _)).trans ?_, hr⟩
  rw [a0, a1, a2, a3, a4, a5, a6, a7, a8, a9]
  exact out_eq m c

/-- The plain program runs and leaves its arguments. -/
theorem frame_reference : Cert.quiescent_Reference10Ideal (hReference10Ideal := Cert.Reference10Ideal.Gen.facts) := by
  intro m ρ _
  exact (θ_run _ _ _).mono (fun r h => ⟨fun c => (h c).2, sem_eq_zero_of_no_sems rfl _⟩) (Cert.Reference10Ideal.Value.run m ρ)

end Cert.Mix
-- ==== Proof.Query.lean ====
/-
  The query projection's kernel: its result holds the input rows' products with the query columns of the combined input
  projection, each head normed. The heads are the key projection's, of other columns.
-/
module

public import proofs.«01_k».proof.Proof.Key1
public import proofs.«01_k».proof.Proof.Gen.Kernel11Ideal.Value
public import Idealize.ShloMosaic.Lib.Pointwise

@[expose] public section

set_option maxRecDepth 16384

noncomputable section

namespace Cert.Kernel11Ideal.Query

open Idealize.ShloMosaic Idealize.ShloMosaic.TcCoe Idealize.SL.Sem
open Cert.Kernel11Ideal Cert.Kernel11Ideal.Gen Cert.Kernel11Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

/-- The body's payload. -/
abbrev payload {F : FTy → Type} [FloatOps F] (u : Vec F S1024x2048 .bf16) (w : Vec F S1x2048x1024 .bf16) (g : Vec F S1x128 .f32) : FVec F S1024x1024 .bf16 :=
  k0_pay1 (k0_pay2 u w) (k0_pay3 g) (k0_pay4 u w g) (k0_pay5 u w g) (k0_pay8 (k0_pay3 g) (k0_pay6 u w) (k0_pay7 u w))
    (k0_pay9 (k0_pay2 u w) (k0_pay3 g)) (k0_pay10 (k0_pay2 u w) (k0_pay3 g)) (k0_pay11 (k0_pay2 u w) (k0_pay3 g))
    (k0_pay12 (k0_pay2 u w)) (k0_pay13 (k0_pay2 u w))

section
variable {F : FTy → Type} [FloatOps F]
variable (m : (ℓ : Loc nD τ sig) → Buf (Elt F) ℓ)

/-- The block a point leaves is the body's payload of its input blocks. -/
theorem step (c : Dev nD) (t : Fin cfg0.N) : outsAt0 m c t = payload (X0_0 m c t) (iblk m c 1 t) (iblk m c 2 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, (hs0_2 t).read_unread, View.ld_unit_zero (S := S1024x2048) hz,
    View.ld_unit_zero (S := S1x2048x1024) hz3, View.ld_unit_zero (S := S1x128) hz]
end

/-- The heads side by side are the key projection's. -/
theorem join_eq (z : Vec Ideal S1024x1024 .f32) (g : Vec Ideal S1x128 .f32) (a b c d e f v84 : Vec Ideal S1024x128 .f32) (v89 : Vec Ideal S1024x1 .f32) (r j : Fin 1024) :
    k0_pay1 (F := Ideal) z g a b c d e f v84 v89 (ix2 r j) = Cert.Kernel4Ideal.Gen.k0_pay1 (F := Ideal) z g a b c d e f v84 v89 (ix3 0 r j) := by
  pointwise [k0_pay1, Cert.Kernel4Ideal.Gen.k0_pay1]

/-- One entry of the payload. -/
theorem payload_apply (u : Vec Ideal S1024x2048 .bf16) (w : Vec Ideal S1x2048x1024 .bf16) (g : Vec Ideal S1x128 .f32) (r j : Fin 1024) :
    payload (F := Ideal) u w g (ix2 r j) = Cert.Kernel4Ideal.Key1.normAt (Cert.Kernel4Ideal.Gen.k0_pay2 u w) g r j :=
  (join_eq _ _ _ _ _ _ _ _ _ _ r j).trans (Cert.Kernel4Ideal.Key1.payload_apply u w g r j)

variable (m : (ℓ : Loc nD τ sig) → Buf (Elt Ideal) ℓ)

/-- The region finds the first 3072 columns of the weights, converted. -/
theorem V_w (c : Dev nD) (l : Fin 4) (k : Fin 2048) (j : Fin 3072) :
    (V m c main_v1 : Vec Ideal S4x2048x3072 .bf16) (ix3 l k j) = (m ((c : Thread nD τ).loc main_arg1) : Vec Ideal S4x2048x8200 .f32) (ix3 l k ⟨j.val, by omega⟩) := by
  unfold_abbrev_sides; after_results
  show extractStridedSlice S4x2048x3072 ![0, 0, 0] (m ((c : Thread nD τ).loc main_arg1) : Vec Ideal S4x2048x8200 .f32) slices_S4x2048x8200_S4x2048x3072_0_0_0 (ix3 l k j) = _
  pointwise

/-- The region finds the head norm's gain as one row. -/
theorem V_gain (c : Dev nD) (d : Fin 128) :
    (V m c main_v4 : Vec Ideal S1x128 .f32) (ix2 0 d) = (m ((c : Thread nD τ).loc main_arg2) : Vec Ideal S4x128 .f32) (ix2 0 d) := by
  unfold_abbrev_sides; after_results
  show shapeCast S1x128 (shapeCast S128 (extractStridedSlice S1x128 ![0, 0] (m ((c : Thread nD τ).loc main_arg2) : Vec Ideal S4x128 .f32) slices_S4x128_S1x128_0_0) shapeCasts_S1x128_S128) shapeCasts_S128_S1x128 (ix2 0 d) = _
  pointwise

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- The input rows of the point's row block. -/
theorem blk_u (c : Dev nD) (t : Fin cfg0.N) (r : Fin 1024) (d : Fin 2048) (R : Fin 8256) (hR : R.val = 1024 * t.val + r.val) :
    (X0_0 m c t : Vec Ideal S1024x2048 .bf16) (ix2 r d) = (m ((c : Thread nD τ).loc main_arg0) : Vec Ideal S8256x2048 .bf16) (ix2 R d) := by
  unfold X0_0 Pipeline.Window.fill
  rw [dif_pos (moved0_0 t (ix2 r d))]
  unfold iblk
  rw [View.read_apply]
  show V m c main_arg0 _ = _
  rw [V_main_arg0]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The query columns of layer 0. -/
theorem blk_w (c : Dev nD) (t : Fin cfg0.N) (k : Fin 2048) (j : Fin 1024) :
    (iblk m c 1 t : Vec Ideal S1x2048x1024 .bf16) (ix3 0 k j) = (m ((c : Thread nD τ).loc main_arg1) : Vec Ideal S4x2048x8200 .f32) (ix3 0 k ⟨j.val, by omega⟩) := by
  refine Eq.trans ?_ (V_w m c 0 k ⟨j.val, by omega⟩)
  unfold iblk
  rw [View.read_apply]
  show V m c main_v1 _ = _
  congr 1; funext a; apply Fin.ext
  match a with
  | ⟨0, _⟩ => show win0_1.index t (0 : Fin 3) * 1 + 1 * 0 = 0; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = j.val; rw [(idx1 t).2.2]; omega

/-- The head norm's gain. -/
theorem blk_g (c : Dev nD) (t : Fin cfg0.N) (d : Fin 128) :
    (iblk m c 2 t : Vec Ideal S1x128 .f32) (ix2 0 d) = (m ((c : Thread nD τ).loc main_arg2) : Vec Ideal S4x128 .f32) (ix2 0 d) := by
  refine Eq.trans ?_ (V_gain m c d)
  unfold iblk
  rw [View.read_apply]
  show V m c main_v4 _ = _
  congr 1; funext a; apply Fin.ext
  match a with
  | ⟨0, _⟩ => show win0_2.index t (0 : Fin 2) * 1 + 1 * 0 = 0; rw [(idx2 t).1]
  | ⟨1, _⟩ => show win0_2.index t (1 : Fin 2) * 128 + 1 * d.val = d.val; rw [(idx2 t).2]; omega

/-- One entry of the queries: the column's head of the row's products, normed. -/
abbrev queryAt (c : Dev nD) (R : Fin 8256) (d : Fin 1024) : EReal :=
  rms c128 (fun e : Fin 128 => dot (fun k => (m ((c : Thread nD τ).loc main_arg0) : Vec Ideal S8256x2048 .bf16) (ix2 R k))
      (fun k => (m ((c : Thread nD τ).loc main_arg1) : Vec Ideal S4x2048x8200 .f32) (ix3 0 k ⟨d.val / 128 * 128 + e.val, by omega⟩)))
    (fun e => (m ((c : Thread nD τ).loc main_arg2) : Vec Ideal S4x128 .f32) (ix2 0 e)) ⟨d.val % 128, by omega⟩

/-- The block a point leaves, at one entry. -/
theorem block (c : Dev nD) (t : Fin cfg0.N) (r : Fin 1024) (d : Fin 1024) (R : Fin 8256) (hR : R.val = 1024 * t.val + r.val) :
    outsAt0 m c t (ix2 r d) = queryAt m c R d := by
  rw [step, payload_apply]
  unfold Cert.Kernel4Ideal.Key1.normAt Cert.Kernel4Ideal.Key1.headAt queryAt
  simp only [Cert.Kernel4Ideal.Key1.pay2_apply, blk_w, blk_g, blk_u m c t r _ R hR]

/-- Every point writes its block back. -/
theorem flush3 : ∀ t : Fin cfg0.N, (cfg0.win 3).flush t = true := (by decide +kernel : ∀ t : Fin grid0.N, _)

/-- The result array. -/
theorem out_apply (c : Dev nD) (R : Fin 8192) (d : Fin 1024) :
    ((dats m 0 c).arrAt 3 cfg0.N : Vec Ideal S8192x1024 .bf16) (ix2 R d) = queryAt m c ⟨R.val, by omega⟩ d := by
  have hN : cfg0.N = 8 := N_0
  have ht : R.val / 1024 < cfg0.N := by omega
  generalize hp : (⟨R.val / 1024, ht⟩ : Fin cfg0.N) = t
  have hv : t.val = R.val / 1024 := by rw [← hp]
  have h := congrFun (blocks3 m c t (flush3 t)) (ix2 ⟨R.val % 1024, by omega⟩ d : S1024x1024.Idx)
  rw [flushed3, View.read_apply] at h
  refine Eq.trans ?_ (h.trans (block m c t ⟨R.val % 1024, by omega⟩ d ⟨R.val, by omega⟩ (by dsimp only; omega)))
  congr 1; funext a; apply Fin.ext
  match a with
  | ⟨0, _⟩ => show R.val = win0_3.index t (0 : Fin 2) * 1024 + 1 * (R.val % 1024); rw [(idx3 t).1]; omega
  | ⟨1, _⟩ => show d.val = win0_3.index t (1 : Fin 2) * 1024 + 1 * d.val; rw [(idx3 t).2]; omega

end Cert.Kernel11Ideal.Query
-- ==== Proof.QueryClaim.lean ====
/-
  The plain query projection's result, and that the kernel's is the same.
-/
module

public import proofs.«01_k».proof.Defs
public import proofs.«01_k».proof.Proof.Query
public import proofs.«01_k».proof.Proof.Gen.Reference11Ideal.Run
public import proofs.«01_k».proof.Proof.Gen.Reference11Ideal.Read
public import Idealize.ShloMosaic.Lib.Quiescent

@[expose] public section

set_option maxRecDepth 16384

noncomputable section

namespace Cert.Query

open Idealize.ShloMosaic Idealize.ShloMosaic.TcCoe Idealize.SL.Sem
open Cert.Reference11Ideal Cert.Reference11Ideal.Read Cert.Layer

variable (u : Vec Ideal S8256x2048 .bf16) (w : Vec Ideal S4x2048x8200 .f32) (g : Vec Ideal S4x128 .f32)

/-- A row's products with the query columns. -/
theorem dot_apply (R : Fin 8192) (d : Fin 1024) : val_main_v5 (F := Ideal) u w (ix2 R d)
    = dot (fun k => u (ix2 ⟨R.val, by omega⟩ k)) (fun k => w (ix3 0 k ⟨d.val, by omega⟩)) := by
  pointwise [val_main_v5, val_main_v4, val_main_v3, val_main_v2, val_main_v1, val_main_v0]
  rfl

/-- A head's normed products. -/
theorem norm_apply (b : Fin 2) (t : Fin 4096) (h : Fin 8) (e : Fin 128) : val_main_v21 (F := Ideal) u w g (ix4 b t h e)
    = rms c128 (fun e : Fin 128 => val_main_v5 (F := Ideal) u w (ix2 ⟨b.val * 4096 + t.val, by omega⟩ ⟨h.val * 128 + e.val, by omega⟩)) (fun e => g (ix2 0 e)) e := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1]
  rfl

/-- The plain program's result. -/
theorem ref_apply (R : Fin 8192) (d : Fin 1024) : val_main_v23 (F := Ideal) u w g (ix2 R d)
    = rms c128 (fun e : Fin 128 => dot (fun k => u (ix2 ⟨R.val, by omega⟩ k)) (fun k => w (ix3 0 k ⟨d.val / 128 * 128 + e.val, by omega⟩)))
        (fun e => g (ix2 0 e)) ⟨d.val % 128, by omega⟩ := by
  have f : val_main_v23 (F := Ideal) u w g (ix2 R d)
      = val_main_v21 (F := Ideal) u w g (ix4 ⟨R.val / 4096, by omega⟩ ⟨R.val % 4096, by omega⟩ ⟨d.val / 128, by omega⟩ ⟨d.val % 128, by omega⟩) := by
    pointwise [val_main_v23, val_main_v22]
  rw [f, norm_apply]
  have hR : (⟨R.val / 4096 * 4096 + R.val % 4096, by omega⟩ : Fin 8192) = R := Fin.ext (by dsimp only; omega)
  simp only [dot_apply, hR]

/-- The plain program's result is the kernel's, from the same arguments. -/
theorem out_eq (m : (ℓ : Loc Cert.Kernel11Ideal.nD Cert.Kernel11Ideal.τ Cert.Kernel11Ideal.sig) → Buf (Elt Ideal) ℓ) (c : Dev Cert.Kernel11Ideal.nD) :
    val_main_v23 (F := Ideal)
      (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2))
      = (Cert.Kernel11Ideal.Gen.dats m 0 c).arrAt 3 Cert.Kernel11Ideal.cfg0.N := by
  funext i
  obtain ⟨R, d, rfl⟩ : ∃ (R : Fin 8192) (d : Fin 1024), i = ix2 R d := ⟨i 0, i 1, eq_ix2 i⟩
  exact (ref_apply _ _ _ R d).trans (Cert.Kernel11Ideal.Query.out_apply m c R d).symm

/-- The value claim. -/
theorem algebraic : Cert.algebraic_Kernel11Ideal_Reference11Ideal
    (hKernel11Ideal := Cert.Kernel11Ideal.Gen.facts) (hReference11Ideal := Cert.Reference11Ideal.Gen.facts) := by
  intro m ρ m' ρ' _ hag
  refine ⟨fun c => (Cert.Kernel11Ideal.Gen.dats m 0 c).arrAt 3 Cert.Kernel11Ideal.cfg0.N, Cert.Kernel11Ideal.Value.run_blocks m ρ,
    (θ_run _ _ _).mono (fun r h c => ?_) (Cert.Reference11Ideal.Value.run m' ρ')⟩
  obtain ⟨a0, a1, a2⟩ := hag c
  obtain ⟨h1, hr⟩ := h c
  refine ⟨(h1.trans (val_main_v23_eq _ _ _)).trans ?_, hr⟩
  rw [a0, a1, a2]
  exact out_eq m c

/-- The plain program runs and leaves its arguments. -/
theorem frame_reference : Cert.quiescent_Reference11Ideal (hReference11Ideal := Cert.Reference11Ideal.Gen.facts) := by
  intro m ρ _
  exact (θ_run _ _ _).mono (fun r h => ⟨fun c => (h c).2, sem_eq_zero_of_no_sems rfl _⟩) (Cert.Reference11Ideal.Value.run m ρ)

end Cert.Query
-- ==== Proof.Drive.lean ====
/-
  The recurrence's input projection: every block of its result holds the rows' products with the recurrence's columns of
  the combined input projection.
-/
module

public import proofs.«01_k».proof.Proof.Spec
public import proofs.«01_k».proof.Proof.Gen.Kernel12Ideal.Value
public import Idealize.ShloMosaic.Lib.Pointwise

@[expose] public section

set_option maxRecDepth 16384

noncomputable section

namespace Cert.Kernel12Ideal.Drive

open Idealize.ShloMosaic Idealize.ShloMosaic.TcCoe Idealize.SL.Sem
open Cert.Kernel12Ideal Cert.Kernel12Ideal.Gen Cert.Kernel12Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block a point leaves is the body's payload of its two input blocks. -/
theorem step (c : Dev nD) (t : Fin cfg0.N) : outsAt0 m c t = k0_pay1 (X0_0 m c t) (iblk m c 1 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, View.ld_unit_zero (S := S1024x2048) hz,
    View.ld_unit_zero (S := S1x2048x1024) hz3]
end

/-- One entry of the payload. -/
theorem pay1_apply (u : Vec Ideal S1024x2048 .bf16) (w : Vec Ideal S1x2048x1024 .bf16) (r d : Fin 1024) :
    k0_pay1 (F := Ideal) u w (ix2 r d) = dot (fun k => u (ix2 r k)) (fun k => w (ix3 0 k d)) := by
  pointwise [k0_pay1]
  rfl

variable (m : (ℓ : Loc nD τ sig) → Buf (Elt Ideal) ℓ)

/-- The region finds the columns past the forget gate's, converted. -/
theorem V_w (c : Dev nD) (l : Fin 4) (k : Fin 2048) (j : Fin 5120) (J : Fin 8200) (hJ : J.val = 3080 + j.val) :
    (V m c main_v1 : Vec Ideal S4x2048x5120 .bf16) (ix3 l k j) = (m ((c : Thread nD τ).loc main_arg1) : Vec Ideal S4x2048x8200 .f32) (ix3 l k J) := by
  unfold_abbrev_sides; after_results
  show extractStridedSlice S4x2048x5120 ![0, 0, 3080] (m ((c : Thread nD τ).loc main_arg1) : Vec Ideal S4x2048x8200 .f32) slices_S4x2048x8200_S4x2048x5120_0_0_3080 (ix3 l k j) = _
  pointwise
  congr 2; exact Fin.ext hJ.symm

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)

/-- The input rows of the point's row block. -/
theorem blk_u (c : Dev nD) (t : Fin cfg0.N) (r : Fin 1024) (d : Fin 2048) (R : Fin 8256) (hR : R.val = 1024 * (t.val % 8) + r.val) :
    (X0_0 m c t : Vec Ideal S1024x2048 .bf16) (ix2 r d) = (m ((c : Thread nD τ).loc main_arg0) : Vec Ideal S8256x2048 .bf16) (ix2 R d) := by
  unfold X0_0 Pipeline.Window.fill
  rw [dif_pos (moved0_0 t (ix2 r d))]
  unfold iblk
  rw [View.read_apply]
  show V m c main_arg0 _ = _
  rw [V_main_arg0]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The weights of the point's column block. -/
theorem blk_w (c : Dev nD) (t : Fin cfg0.N) (k : Fin 2048) (j : Fin 1024) (J : Fin 8200) (hJ : J.val = 3080 + 1024 * (t.val / 8) + j.val) :
    (iblk m c 1 t : Vec Ideal S1x2048x1024 .bf16) (ix3 0 k j) = (m ((c : Thread nD τ).loc main_arg1) : Vec Ideal S4x2048x8200 .f32) (ix3 0 k J) := by
  have hN : t.val < 8 := lt_of_lt_of_eq t.isLt N_0
  refine Eq.trans ?_ (V_w m c 0 k ⟨1024 * (t.val / 8) + j.val, by omega⟩ J (by dsimp only; omega))
  unfold iblk
  rw [View.read_apply]
  show V m c main_v1 _ = _
  congr 1; funext a; apply Fin.ext
  match a with
  | ⟨0, _⟩ => show win0_1.index t (0 : Fin 3) * 1 + 1 * 0 = 0; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 1024 * (t.val / 8) + j.val; rw [(idx1 t).2.2]; omega

/-- One entry of the recurrence's input: an input row against a column. -/
abbrev drive (c : Dev nD) (R : Fin 8256) (J : Fin 8200) : EReal :=
  dot (fun k => (m ((c : Thread nD τ).loc main_arg0) : Vec Ideal S8256x2048 .bf16) (ix2 R k))
    (fun k => (m ((c : Thread nD τ).loc main_arg1) : Vec Ideal S4x2048x8200 .f32) (ix3 0 k J))

/-- Every point writes its block back. -/
theorem flush3 : ∀ t : Fin cfg0.N, (cfg0.win 3).flush t = true := (by decide +kernel : ∀ t : Fin grid0.N, _)

/-- The result array, entry by entry. -/
theorem out_apply (c : Dev nD) (R : Fin 8192) (d : Fin 1024) :
    ((dats m 0 c).arrAt 3 cfg0.N : Vec Ideal S8192x1024 .f32) (ix2 R d)
      = drive m c ⟨R.val, by omega⟩ ⟨3080 + d.val, by omega⟩ := by
  have hN : cfg0.N = 8 := N_0
  have ht : 8 * (d.val / 1024) + R.val / 1024 < cfg0.N := by omega
  generalize hp : (⟨8 * (d.val / 1024) + R.val / 1024, ht⟩ : Fin cfg0.N) = t
  have hv : t.val = 8 * (d.val / 1024) + R.val / 1024 := by rw [← hp]
  have h := congrFun (blocks3 m c t (flush3 t)) (ix2 ⟨R.val % 1024, by omega⟩ ⟨d.val % 1024, by omega⟩ : S1024x1024.Idx)
  rw [flushed3, View.read_apply] at h
  have hb : outsAt0 m c t (ix2 ⟨R.val % 1024, by omega⟩ ⟨d.val % 1024, by omega⟩ : S1024x1024.Idx)
      = drive m c ⟨R.val, by omega⟩ ⟨3080 + d.val, by omega⟩ := by
    rw [step, pay1_apply]
    exact Finset.sum_congr rfl fun k _ => congrArg₂ (· * ·)
      (blk_u m c t _ k ⟨R.val, by omega⟩ (by dsimp only; omega)) (blk_w m c t k _ ⟨3080 + d.val, by omega⟩ (by dsimp only; omega))
  refine Eq.trans ?_ (h.trans hb)
  congr 1; funext a; apply Fin.ext
  match a with
  | ⟨0, _⟩ => show R.val = win0_3.index t (0 : Fin 2) * 1024 + 1 * (R.val % 1024); rw [(idx3 t).1]; omega
  | ⟨1, _⟩ => show d.val = win0_3.index t (1 : Fin 2) * 1024 + 1 * (d.val % 1024); rw [(idx3 t).2]; omega

end Cert.Kernel12Ideal.Drive
-- ==== Proof.DriveClaim.lean ====
/-
  The plain program of the recurrence's input's result, and that the projection kernel's is the same.
-/
module

public import proofs.«01_k».proof.Defs
public import proofs.«01_k».proof.Proof.Drive
public import proofs.«01_k».proof.Proof.Gen.Reference12Ideal.Run
public import proofs.«01_k».proof.Proof.Gen.Reference12Ideal.Read
public import Idealize.ShloMosaic.Lib.Quiescent

@[expose] public section

set_option maxRecDepth 16384

noncomputable section

namespace Cert.Drive

open Idealize.ShloMosaic Idealize.ShloMosaic.TcCoe Idealize.SL.Sem
open Cert.Layer

/-- One entry of the plain program's result. -/
theorem ref_apply (u : Vec Ideal Cert.Reference12Ideal.S8256x2048 .bf16) (w : Vec Ideal Cert.Reference12Ideal.S4x2048x8200 .f32) (R : Fin 8192) (d : Fin 1024) :
    Cert.Reference12Ideal.Read.val_main_v5 (F := Ideal) u w (ix2 R d)
      = dot (fun k => u (ix2 ⟨R.val, by omega⟩ k)) (fun k => w (ix3 0 k ⟨3080 + d.val, by omega⟩)) := by
  pointwise [Cert.Reference12Ideal.Read.val_main_v5, Cert.Reference12Ideal.Read.val_main_v4, Cert.Reference12Ideal.Read.val_main_v3, Cert.Reference12Ideal.Read.val_main_v2, Cert.Reference12Ideal.Read.val_main_v1, Cert.Reference12Ideal.Read.val_main_v0]
  rfl

/-- The plain program's result is the kernel's, from the same arguments. -/
theorem out_eq (m : (ℓ : Loc Cert.Kernel12Ideal.nD Cert.Kernel12Ideal.τ Cert.Kernel12Ideal.sig) → Buf (Elt Ideal) ℓ) (c : Dev Cert.Kernel12Ideal.nD) :
    Cert.Reference12Ideal.Read.val_main_v5 (F := Ideal)
      (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      = (Cert.Kernel12Ideal.Gen.dats m 0 c).arrAt 3 Cert.Kernel12Ideal.cfg0.N := by
  funext i
  obtain ⟨R, d, rfl⟩ : ∃ (R : Fin 8192) (d : Fin 1024), i = ix2 R d := ⟨i 0, i 1, eq_ix2 i⟩
  exact (ref_apply _ _ R d).trans (Cert.Kernel12Ideal.Drive.out_apply m c R d).symm

/-- The value claim. -/
theorem algebraic : Cert.algebraic_Kernel12Ideal_Reference12Ideal
    (hKernel12Ideal := Cert.Kernel12Ideal.Gen.facts) (hReference12Ideal := Cert.Reference12Ideal.Gen.facts) := by
  intro m ρ m' ρ' _ hag
  refine ⟨fun c => (Cert.Kernel12Ideal.Gen.dats m 0 c).arrAt 3 Cert.Kernel12Ideal.cfg0.N, Cert.Kernel12Ideal.Value.run_blocks m ρ,
    (θ_run _ _ _).mono (fun r h c => ?_) (Cert.Reference12Ideal.Value.run m' ρ')⟩
  obtain ⟨a0, a1⟩ := hag c
  obtain ⟨h1, hr⟩ := h c
  refine ⟨(h1.trans (Cert.Reference12Ideal.Read.val_main_v5_eq _ _)).trans ?_, hr⟩
  rw [a0, a1]
  exact out_eq m c

/-- The plain program runs and leaves its arguments. -/
theorem frame_reference : Cert.quiescent_Reference12Ideal (hReference12Ideal := Cert.Reference12Ideal.Gen.facts) := by
  intro m ρ _
  exact (θ_run _ _ _).mono (fun r h => ⟨fun c => (h c).2, sem_eq_zero_of_no_sems rfl _⟩) (Cert.Reference12Ideal.Value.run m ρ)

end Cert.Drive
-- ==== Proof.Gate2.lean ====
/-
  The second gate's projection: every block of its result is the logistic of the rows' products with the second gate's columns of
  the combined input projection.
-/
module

public import proofs.«01_k».proof.Proof.Spec
public import proofs.«01_k».proof.Proof.Gen.Kernel13Ideal.Value
public import Idealize.ShloMosaic.Lib.Pointwise

@[expose] public section

set_option maxRecDepth 16384

noncomputable section

namespace Cert.Kernel13Ideal.Gate2

open Idealize.ShloMosaic Idealize.ShloMosaic.TcCoe Idealize.SL.Sem
open Cert.Kernel13Ideal Cert.Kernel13Ideal.Gen Cert.Kernel13Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block a point leaves is the body's payload of its two input blocks. -/
theorem step (c : Dev nD) (t : Fin cfg0.N) : outsAt0 m c t = k0_pay1 (X0_0 m c t) (iblk m c 1 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz]
  simp only [View.readAt_eq_ld, (hs0_0 t).read_unread, (hs0_1 t).read_unread, View.ld_unit_zero (S := S1024x2048) hz,
    View.ld_unit_zero (S := S1x2048x1024) hz3]
end

/-- One entry of the payload. -/
theorem pay1_apply (u : Vec Ideal S1024x2048 .bf16) (w : Vec Ideal S1x2048x1024 .bf16) (r d : Fin 1024) :
    k0_pay1 (F := Ideal) u w (ix2 r d) = Ideal.logistic (dot (fun k => u (ix2 r k)) (fun k => w (ix3 0 k d))) := by
  pointwise [k0_pay1]
  rfl

variable (m : (ℓ : Loc nD τ sig) → Buf (Elt Ideal) ℓ)

/-- The region finds the columns past the forget gate's, converted. -/
theorem V_w (c : Dev nD) (l : Fin 4) (k : Fin 2048) (j : Fin 5120) (J : Fin 8200) (hJ : J.val = 3080 + j.val) :
    (V m c main_v1 : Vec Ideal S4x2048x5120 .bf16) (ix3 l k j) = (m ((c : Thread nD τ).loc main_arg1) : Vec Ideal S4x2048x8200 .f32) (ix3 l k J) := by
  unfold_abbrev_sides; after_results
  show extractStridedSlice S4x2048x5120 ![0, 0, 3080] (m ((c : Thread nD τ).loc main_arg1) : Vec Ideal S4x2048x8200 .f32) slices_S4x2048x8200_S4x2048x5120_0_0_3080 (ix3 l k j) = _
  pointwise
  congr 2; exact Fin.ext hJ.symm

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 3 + t.val / 8 :=
  (by decide +kernel : ∀ t : Fin grid0.N, _)
theorem idx3 : ∀ t : Fin cfg0.N, win0_3.index t (0 : Fin 2) = t.val % 8 ∧ win0_3.index t (1 : Fin 2) = t.val / 8 :=
  (by decide +kernel : ∀ t : Fin grid0.N, _)

/-- The input rows of the point's row block. -/
theorem blk_u (c : Dev nD) (t : Fin cfg0.N) (r : Fin 1024) (d : Fin 2048) (R : Fin 8256) (hR : R.val = 1024 * (t.val % 8) + r.val) :
    (X0_0 m c t : Vec Ideal S1024x2048 .bf16) (ix2 r d) = (m ((c : Thread nD τ).loc main_arg0) : Vec Ideal S8256x2048 .bf16) (ix2 R d) := by
  unfold X0_0 Pipeline.Window.fill
  rw [dif_pos (moved0_0 t (ix2 r d))]
  unfold iblk
  rw [View.read_apply]
  show V m c main_arg0 _ = _
  rw [V_main_arg0]
  congr 1; funext a; apply Fin.ext
  match a with
  | ⟨0, _⟩ => show win0_0.index t (0 : Fin 2) * 1024 + 1 * r.val = R.val; rw [(idx0 t).1]; omega
  | ⟨1, _⟩ => show win0_0.index t (1 : Fin 2) * 2048 + 1 * d.val = d.val; rw [(idx0 t).2]; omega

/-- The weights of the point's column block. -/
theorem blk_w (c : Dev nD) (t : Fin cfg0.N) (k : Fin 2048) (j : Fin 1024) (J : Fin 8200) (hJ : J.val = 6152 + 1024 * (t.val / 8) + j.val) :
    (iblk m c 1 t : Vec Ideal S1x2048x1024 .bf16) (ix3 0 k j) = (m ((c : Thread nD τ).loc main_arg1) : Vec Ideal S4x2048x8200 .f32) (ix3 0 k J) := by
  have hN : t.val < 16 := lt_of_lt_of_eq t.isLt N_0
  refine Eq.trans ?_ (V_w m c 0 k ⟨1024 * (3 + t.val / 8) + j.val, by omega⟩ J (by dsimp only; omega))
  unfold iblk
  rw [View.read_apply]
  show V m c main_v1 _ = _
  congr 1; funext a; apply Fin.ext
  match a with
  | ⟨0, _⟩ => show win0_1.index t (0 : Fin 3) * 1 + 1 * 0 = 0; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 1024 * (3 + t.val / 8) + j.val; rw [(idx1 t).2.2]; omega

/-- One entry of the gate: the logistic of an input row against a column. -/
abbrev gate (c : Dev nD) (R : Fin 8256) (J : Fin 8200) : EReal :=
  Ideal.logistic (dot (fun k => (m ((c : Thread nD τ).loc main_arg0) : Vec Ideal S8256x2048 .bf16) (ix2 R k))
    (fun k => (m ((c : Thread nD τ).loc main_arg1) : Vec Ideal S4x2048x8200 .f32) (ix3 0 k J)))

/-- Every point writes its block back. -/
theorem flush3 : ∀ t : Fin cfg0.N, (cfg0.win 3).flush t = true := (by decide +kernel : ∀ t : Fin grid0.N, _)

/-- The result array, entry by entry. -/
theorem out_apply (c : Dev nD) (R : Fin 8192) (d : Fin 2048) :
    ((dats m 0 c).arrAt 3 cfg0.N : Vec Ideal S8192x2048 .f32) (ix2 R d)
      = gate m c ⟨R.val, by omega⟩ ⟨6152 + d.val, by omega⟩ := by
  have hN : cfg0.N = 16 := N_0
  have ht : 8 * (d.val / 1024) + R.val / 1024 < cfg0.N := by omega
  generalize hp : (⟨8 * (d.val / 1024) + R.val / 1024, ht⟩ : Fin cfg0.N) = t
  have hv : t.val = 8 * (d.val / 1024) + R.val / 1024 := by rw [← hp]
  have h := congrFun (blocks3 m c t (flush3 t)) (ix2 ⟨R.val % 1024, by omega⟩ ⟨d.val % 1024, by omega⟩ : S1024x1024.Idx)
  rw [flushed3, View.read_apply] at h
  have hb : outsAt0 m c t (ix2 ⟨R.val % 1024, by omega⟩ ⟨d.val % 1024, by omega⟩ : S1024x1024.Idx)
      = gate m c ⟨R.val, by omega⟩ ⟨6152 + d.val, by omega⟩ := by
    rw [step, pay1_apply]
    exact congrArg Ideal.logistic (Finset.sum_congr rfl fun k _ => congrArg₂ (· * ·)
      (blk_u m c t _ k ⟨R.val, by omega⟩ (by dsimp only; omega)) (blk_w m c t k _ ⟨6152 + d.val, by omega⟩ (by dsimp only; omega)))
  refine Eq.trans ?_ (h.trans hb)
  congr 1; funext a; apply Fin.ext
  match a with
  | ⟨0, _⟩ => show R.val = win0_3.index t (0 : Fin 2) * 1024 + 1 * (R.val % 1024); rw [(idx3 t).1]; omega
  | ⟨1, _⟩ => show d.val = win0_3.index t (1 : Fin 2) * 1024 + 1 * (d.val % 1024); rw [(idx3 t).2]; omega

end Cert.Kernel13Ideal.Gate2
-- ==== Proof.Gate2Claim.lean ====
/-
  The plain second gate program's result, and that the second gate kernel's is the same.
-/
module

public import proofs.«01_k».proof.Defs
public import proofs.«01_k».proof.Proof.Gate2
public import proofs.«01_k».proof.Proof.Gen.Reference13Ideal.Run
public import proofs.«01_k».proof.Proof.Gen.Reference13Ideal.Read
public import Idealize.ShloMosaic.Lib.Quiescent

@[expose] public section

set_option maxRecDepth 16384

noncomputable section

namespace Cert.Gate2

open Idealize.ShloMosaic Idealize.ShloMosaic.TcCoe Idealize.SL.Sem
open Cert.Layer

/-- One entry of the plain program's result. -/
theorem ref_apply (u : Vec Ideal Cert.Reference13Ideal.S8256x2048 .bf16) (w : Vec Ideal Cert.Reference13Ideal.S4x2048x8200 .f32) (R : Fin 8192) (d : Fin 2048) :
    Cert.Reference13Ideal.Read.val_main_v11 (F := Ideal) u w (ix2 R d)
      = Ideal.logistic (dot (fun k => u (ix2 ⟨R.val, by omega⟩ k)) (fun k => w (ix3 0 k ⟨6152 + d.val, by omega⟩))) := by
  pointwise [Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_v5, Cert.Reference13Ideal.Read.val_main_v4, Cert.Reference13Ideal.Read.val_main_v3, Cert.Reference13Ideal.Read.val_main_v2, Cert.Reference13Ideal.Read.val_main_v1, Cert.Reference13Ideal.Read.val_main_v0, Cert.Reference13Ideal.Read.val_main_cst, Cert.Reference13Ideal.Read.val_main_cst_0]
  rfl

/-- The plain program's result is the kernel's, from the same arguments. -/
theorem out_eq (m : (ℓ : Loc Cert.Kernel13Ideal.nD Cert.Kernel13Ideal.τ Cert.Kernel13Ideal.sig) → Buf (Elt Ideal) ℓ) (c : Dev Cert.Kernel13Ideal.nD) :
    Cert.Reference13Ideal.Read.val_main_v11 (F := Ideal)
      (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      = (Cert.Kernel13Ideal.Gen.dats m 0 c).arrAt 3 Cert.Kernel13Ideal.cfg0.N := by
  funext i
  obtain ⟨R, d, rfl⟩ : ∃ (R : Fin 8192) (d : Fin 2048), i = ix2 R d := ⟨i 0, i 1, eq_ix2 i⟩
  exact (ref_apply _ _ R d).trans (Cert.Kernel13Ideal.Gate2.out_apply m c R d).symm

/-- The value claim. -/
theorem algebraic : Cert.algebraic_Kernel13Ideal_Reference13Ideal
    (hKernel13Ideal := Cert.Kernel13Ideal.Gen.facts) (hReference13Ideal := Cert.Reference13Ideal.Gen.facts) := by
  intro m ρ m' ρ' _ hag
  refine ⟨fun c => (Cert.Kernel13Ideal.Gen.dats m 0 c).arrAt 3 Cert.Kernel13Ideal.cfg0.N, Cert.Kernel13Ideal.Value.run_blocks m ρ,
    (θ_run _ _ _).mono (fun r h c => ?_) (Cert.Reference13Ideal.Value.run m' ρ')⟩
  obtain ⟨a0, a1⟩ := hag c
  obtain ⟨h1, hr⟩ := h c
  refine ⟨(h1.trans (Cert.Reference13Ideal.Read.val_main_v11_eq _ _)).trans ?_, hr⟩
  rw [a0, a1]
  exact out_eq m c

/-- The plain program runs and leaves its arguments. -/
theorem frame_reference : Cert.quiescent_Reference13Ideal (hReference13Ideal := Cert.Reference13Ideal.Gen.facts) := by
  intro m ρ _
  exact (θ_run _ _ _).mono (fun r h => ⟨fun c => (h c).2, sem_eq_zero_of_no_sems rfl _⟩) (Cert.Reference13Ideal.Value.run m ρ)

end Cert.Gate2
-- ==== Proof.SampleKey1.lean ====
/-
  The key projection's kernel on the sample rows: layer 1 of its result holds the sample rows' products with the key columns of the combined
  input projection, each head normed; the other layers what they held.
-/
module

public import proofs.«01_k».proof.Proof.Spec
public import proofs.«01_k».proof.Proof.Gen.Kernel14Ideal.Value
public import Idealize.ShloMosaic.Lib.Pointwise

@[expose] public section

set_option maxRecDepth 16384

noncomputable section

namespace Cert.Kernel14Ideal.SampleKey1

open Idealize.ShloMosaic Idealize.ShloMosaic.TcCoe Idealize.SL.Sem
open Cert.Kernel14Ideal Cert.Kernel14Ideal.Gen Cert.Kernel14Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

/-- The body's payload. -/
abbrev payload {F : FTy → Type} [FloatOps F] (u : Vec F S64x2048 .bf16) (w : Vec F S1x2048x1024 .bf16) (g : Vec F S1x128 .f32) : FVec F S1x64x1024 .f32 :=
  k0_pay1 (k0_pay2 u w) (k0_pay3 g) (k0_pay4 u w g) (k0_pay5 u w g) (k0_pay8 (k0_pay3 g) (k0_pay6 u w) (k0_pay7 u w))
    (k0_pay9 (k0_pay2 u w) (k0_pay3 g)) (k0_pay10 (k0_pay2 u w) (k0_pay3 g)) (k0_pay11 (k0_pay2 u w) (k0_pay3 g))
    (k0_pay12 (k0_pay2 u w)) (k0_pay13 (k0_pay2 u w))

section
variable {F : FTy → Type} [FloatOps F]
variable (m : (ℓ : Loc nD τ sig) → Buf (Elt F) ℓ)

/-- The block a point leaves is the body's payload of its input blocks. -/
theorem step (c : Dev nD) (t : Fin cfg0.N) : outsAt0 m c t = payload (iblk m c 0 t) (iblk m c 1 t) (iblk m c 2 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz3]
  simp only [View.readAt_eq_ld, (hs0_0 t).read_unread, (hs0_1 t).read_unread, (hs0_2 t).read_unread, View.ld_unit_zero (S := S64x2048) hz,
    View.ld_unit_zero (S := S1x2048x1024) hz3, View.ld_unit_zero (S := S1x128) hz]
end

/-- One entry of a head's normed columns: the 128 columns from `o` on of a row of products, normed. -/
def headAt (z : Vec Ideal S64x1024 .f32) (g : Vec Ideal S1x128 .f32) (r : Fin 64) (o : ℕ) (ho : o + 128 ≤ 1024) (e : Fin 128) : EReal :=
  rms c128 (fun e : Fin 128 => z (ix2 r ⟨o + e.val, by omega⟩)) (fun e => g (ix2 0 e)) e

/-- One entry of the row's normed products: the column's head, at the column's place in it. -/
def normAt (z : Vec Ideal S64x1024 .f32) (g : Vec Ideal S1x128 .f32) (r : Fin 64) (j : Fin 1024) : EReal :=
  headAt z g r (j.val / 128 * 128) (by omega) ⟨j.val % 128, by omega⟩

theorem headAt_eq (z : Vec Ideal S64x1024 .f32) (g : Vec Ideal S1x128 .f32) (r : Fin 64) (o : ℕ) (ho : o + 128 ≤ 1024) (e : Fin 128) (j : Fin 1024)
    (h : o = j.val / 128 * 128) (he : e.val = j.val % 128) : headAt z g r o ho e = normAt z g r j := by
  subst h
  rw [show e = ⟨j.val % 128, by omega⟩ from Fin.ext he]
  rfl

/-- The projected rows. -/
theorem pay2_apply (u : Vec Ideal S64x2048 .bf16) (w : Vec Ideal S1x2048x1024 .bf16) (r : Fin 64) (d : Fin 1024) :
    k0_pay2 (F := Ideal) u w (ix2 r d) = dot (fun k => u (ix2 r k)) (fun k => w (ix3 0 k d)) := by
  pointwise [k0_pay2]
  rfl

section
variable (u : Vec Ideal S64x2048 .bf16) (w : Vec Ideal S1x2048x1024 .bf16) (z : Vec Ideal S64x1024 .f32) (g : Vec Ideal S1x128 .f32) (r : Fin 64) (e : Fin 128)

/-- The first head. -/
theorem pay4_apply : k0_pay4 (F := Ideal) u w g (ix2 r e) = headAt (k0_pay2 u w) g r 0 (by omega) e := by
  pointwise [k0_pay4, k0_pay3]
  have h : (fun e : Fin 128 => k0_pay2 u w (ix2 r ⟨0 + e.val, by omega⟩)) = fun e : Fin 128 => k0_pay2 u w (ix2 r ⟨e.val, by omega⟩) :=
    funext fun e => congrArg (fun q => k0_pay2 u w (ix2 r q)) (Fin.ext (Nat.zero_add _))
  unfold headAt
  rw [h]
  rfl
/-- The second head. -/
theorem pay5_apply : k0_pay5 (F := Ideal) u w g (ix2 r e) = headAt (k0_pay2 u w) g r 128 (by omega) e := by
  pointwise [k0_pay5, k0_pay3]
  rfl
/-- The third head. -/
theorem pay8_apply : k0_pay8 (F := Ideal) (k0_pay3 g) (k0_pay6 u w) (k0_pay7 u w) (ix2 r e) = headAt (k0_pay2 u w) g r 256 (by omega) e := by
  pointwise [k0_pay8, k0_pay7, k0_pay6, k0_pay3]
  rfl
/-- The fourth head. -/
theorem pay9_apply : k0_pay9 (F := Ideal) z (k0_pay3 g) (ix2 r e) = headAt z g r 384 (by omega) e := by
  pointwise [k0_pay9, k0_pay3]
  rfl
/-- The fifth head. -/
theorem pay10_apply : k0_pay10 (F := Ideal) z (k0_pay3 g) (ix2 r e) = headAt z g r 512 (by omega) e := by
  pointwise [k0_pay10, k0_pay3]
  rfl
/-- The sixth head. -/
theorem pay11_apply : k0_pay11 (F := Ideal) z (k0_pay3 g) (ix2 r e) = headAt z g r 640 (by omega) e := by
  pointwise [k0_pay11, k0_pay3]
  rfl
/-- The seventh head's columns. -/
theorem pay12_apply : k0_pay12 (F := Ideal) z (ix2 r e) = z (ix2 r ⟨768 + e.val, by omega⟩) := by
  pointwise [k0_pay12]
/-- The seventh head's mean square. -/
theorem pay13_apply : k0_pay13 (F := Ideal) z (ix2 r 0)
    = Ideal.div (∑ y : Fin 128, z (ix2 r ⟨768 + y.val, by omega⟩) * z (ix2 r ⟨768 + y.val, by omega⟩)) c128 := by
  pointwise [k0_pay13, k0_pay12]
end

/-- The heads side by side, given each head's columns. -/
theorem pay1_apply (z : Vec Ideal S64x1024 .f32) (g : Vec Ideal S1x128 .f32) (a b c d e f v84 : Vec Ideal S64x128 .f32) (v89 : Vec Ideal S64x1 .f32) (r : Fin 64) (j : Fin 1024)
    (ha : ∀ y, a (ix2 r y) = headAt z g r 0 (by omega) y) (hb : ∀ y, b (ix2 r y) = headAt z g r 128 (by omega) y)
    (hc : ∀ y, c (ix2 r y) = headAt z g r 256 (by omega) y) (hd : ∀ y, d (ix2 r y) = headAt z g r 384 (by omega) y)
    (he : ∀ y, e (ix2 r y) = headAt z g r 512 (by omega) y) (hf : ∀ y, f (ix2 r y) = headAt z g r 640 (by omega) y)
    (hg : ∀ y : Fin 128, v84 (ix2 r y) = z (ix2 r ⟨768 + y.val, by omega⟩))
    (hm : v89 (ix2 r 0) = Ideal.div (∑ y : Fin 128, z (ix2 r ⟨768 + y.val, by omega⟩) * z (ix2 r ⟨768 + y.val, by omega⟩)) c128) :
    k0_pay1 (F := Ideal) z g a b c d e f v84 v89 (ix3 0 r j) = normAt z g r j := by
  have hj := j.isLt
  pointwise [k0_pay1]
  by_cases h0 : j.val < 128
  · rw [dif_pos h0]
    exact (ha _).trans (headAt_eq _ _ _ _ _ _ _ (by omega) (by dsimp only; omega))
  rw [dif_neg h0]
  by_cases h1 : j.val - 128 < 128
  · rw [dif_pos h1]
    exact (hb _).trans (headAt_eq _ _ _ _ _ _ _ (by omega) (by dsimp only; omega))
  rw [dif_neg h1]
  by_cases h2 : j.val - 128 - 128 < 128
  · rw [dif_pos h2]
    exact (hc _).trans (headAt_eq _ _ _ _ _ _ _ (by omega) (by dsimp only; omega))
  rw [dif_neg h2]
  by_cases h3 : j.val - 128 - 128 - 128 < 128
  · rw [dif_pos h3]
    exact (hd _).trans (headAt_eq _ _ _ _ _ _ _ (by omega) (by dsimp only; omega))
  rw [dif_neg h3]
  by_cases h4 : j.val - 128 - 128 - 128 - 128 < 128
  · rw [dif_pos h4]
    exact (he _).trans (headAt_eq _ _ _ _ _ _ _ (by omega) (by dsimp only; omega))
  rw [dif_neg h4]
  by_cases h5 : j.val - 128 - 128 - 128 - 128 - 128 < 128
  · rw [dif_pos h5]
    exact (hf _).trans (headAt_eq _ _ _ _ _ _ _ (by omega) (by dsimp only; omega))
  rw [dif_neg h5]
  by_cases h6 : j.val - 128 - 128 - 128 - 128 - 128 - 128 < 128
  · rw [dif_pos h6, hg, hm]
    exact headAt_eq z g r 768 (by omega) ⟨j.val - 128 - 128 - 128 - 128 - 128 - 128, by omega⟩ j (by omega) (by dsimp only; omega)
  rw [dif_neg h6]
  exact headAt_eq z g r 896 (by omega) ⟨j.val - 128 - 128 - 128 - 128 - 128 - 128 - 128, by omega⟩ j (by omega) (by dsimp only; omega)

/-- The gain row is kept. -/
theorem pay3_eq (g : Vec Ideal S1x128 .f32) : k0_pay3 (F := Ideal) g = g := by
  funext i
  obtain ⟨a, e, rfl⟩ : ∃ (a : Fin 1) (e : Fin 128), i = ix2 a e := ⟨i 0, i 1, eq_ix2 i⟩
  pointwise [k0_pay3]

/-- One entry of the payload. -/
theorem payload_apply (u : Vec Ideal S64x2048 .bf16) (w : Vec Ideal S1x2048x1024 .bf16) (g : Vec Ideal S1x128 .f32) (r : Fin 64) (j : Fin 1024) :
    payload (F := Ideal) u w g (ix3 0 r j) = normAt (k0_pay2 u w) g r j := by
  have h1 := fun y => pay8_apply u w g r y
  have h2 := fun y => pay9_apply (k0_pay2 u w) g r y
  have h3 := fun y => pay10_apply (k0_pay2 u w) g r y
  have h4 := fun y => pay11_apply (k0_pay2 u w) g r y
  unfold payload
  simp only [pay3_eq] at h1 h2 h3 h4 ⊢
  exact pay1_apply _ _ _ _ _ _ _ _ _ _ r j (pay4_apply u w g r) (pay5_apply u w g r) h1 h2 h3 h4 (pay12_apply _ r) (pay13_apply _ r)

variable (m : (ℓ : Loc nD τ sig) → Buf (Elt Ideal) ℓ)

/-- The region finds the first 3072 columns of the weights, converted. -/
theorem V_w (c : Dev nD) (l : Fin 4) (k : Fin 2048) (j : Fin 3072) :
    (V m c main_v1 : Vec Ideal S4x2048x3072 .bf16) (ix3 l k j) = (m ((c : Thread nD τ).loc main_arg2) : Vec Ideal S4x2048x8200 .f32) (ix3 l k ⟨j.val, by omega⟩) := by
  unfold_abbrev_sides; after_results
  show extractStridedSlice S4x2048x3072 ![0, 0, 0] (m ((c : Thread nD τ).loc main_arg2) : Vec Ideal S4x2048x8200 .f32) slices_S4x2048x8200_S4x2048x3072_0_0_0 (ix3 l k j) = _
  pointwise

/-- The region finds the result's buffer as the first argument. -/
theorem V_out (c : Dev nD) : V m c main_v5 = m ((c : Thread nD τ).loc main_arg0) := by
  unfold_abbrev_sides; after_results; rfl

/-- The region finds the head norm's gain as one row. -/
theorem V_gain (c : Dev nD) (d : Fin 128) :
    (V m c main_v4 : Vec Ideal S1x128 .f32) (ix2 0 d) = (m ((c : Thread nD τ).loc main_arg3) : Vec Ideal S4x128 .f32) (ix2 1 d) := by
  unfold_abbrev_sides; after_results
  show shapeCast S1x128 (shapeCast S128 (extractStridedSlice S1x128 ![1, 0] (m ((c : Thread nD τ).loc main_arg3) : Vec Ideal S4x128 .f32) slices_S4x128_S1x128_1_0) shapeCasts_S1x128_S128) shapeCasts_S128_S1x128 (ix2 0 d) = _
  pointwise
theorem idx2 : ∀ t : Fin cfg0.N, win0_2.index t (0 : Fin 2) = 0 ∧ win0_2.index t (1 : Fin 2) = 0 :=
  (by decide +kernel : ∀ t : Fin grid0.N, _)

theorem idx0 : ∀ t : Fin cfg0.N, win0_0.index t (0 : Fin 2) = 128 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 1 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)

/-- The sample rows. -/
theorem blk_u (c : Dev nD) (t : Fin cfg0.N) (r : Fin 64) (d : Fin 2048) (R : Fin 8256) (hR : R.val = 8192 + r.val) :
    (iblk m c 0 t : Vec Ideal S64x2048 .bf16) (ix2 r d) = (m ((c : Thread nD τ).loc main_arg1) : Vec Ideal S8256x2048 .bf16) (ix2 R d) := by
  unfold iblk
  rw [View.read_apply]
  show V m c main_arg1 _ = _
  rw [V_main_arg1]
  congr 1; funext a; apply Fin.ext
  match a with
  | ⟨0, _⟩ => show win0_0.index t (0 : Fin 2) * 64 + 1 * r.val = R.val; rw [(idx0 t).1]; omega
  | ⟨1, _⟩ => show win0_0.index t (1 : Fin 2) * 2048 + 1 * d.val = d.val; rw [(idx0 t).2]; omega

/-- The weights of layer 1. -/
theorem blk_w (c : Dev nD) (t : Fin cfg0.N) (k : Fin 2048) (j : Fin 1024) :
    (iblk m c 1 t : Vec Ideal S1x2048x1024 .bf16) (ix3 0 k j) = (m ((c : Thread nD τ).loc main_arg2) : Vec Ideal S4x2048x8200 .f32) (ix3 1 k ⟨1024 + j.val, by omega⟩) := by
  refine Eq.trans ?_ (V_w m c 1 k ⟨1024 + j.val, by omega⟩)
  unfold iblk
  rw [View.read_apply]
  show V m c main_v1 _ = _
  congr 1; funext a; apply Fin.ext
  match a with
  | ⟨0, _⟩ => show win0_1.index t (0 : Fin 3) * 1 + 1 * 0 = 1; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 1024 + j.val; rw [(idx1 t).2.2]; omega

/-- The head norm's gain. -/
theorem blk_g (c : Dev nD) (t : Fin cfg0.N) (d : Fin 128) :
    (iblk m c 2 t : Vec Ideal S1x128 .f32) (ix2 0 d) = (m ((c : Thread nD τ).loc main_arg3) : Vec Ideal S4x128 .f32) (ix2 1 d) := by
  refine Eq.trans ?_ (V_gain m c d)
  unfold iblk
  rw [View.read_apply]
  show V m c main_v4 _ = _
  congr 1; funext a; apply Fin.ext
  match a with
  | ⟨0, _⟩ => show win0_2.index t (0 : Fin 2) * 1 + 1 * 0 = 0; rw [(idx2 t).1]
  | ⟨1, _⟩ => show win0_2.index t (1 : Fin 2) * 128 + 1 * d.val = d.val; rw [(idx2 t).2]; omega

/-- One entry of the keys: the column's head of the row's products, normed. -/
abbrev keyAt (c : Dev nD) (R : Fin 8256) (d : Fin 1024) : EReal :=
  rms c128 (fun e : Fin 128 => dot (fun k => (m ((c : Thread nD τ).loc main_arg1) : Vec Ideal S8256x2048 .bf16) (ix2 R k))
      (fun k => (m ((c : Thread nD τ).loc main_arg2) : Vec Ideal S4x2048x8200 .f32) (ix3 1 k ⟨1024 + (d.val / 128 * 128 + e.val), by omega⟩)))
    (fun e => (m ((c : Thread nD τ).loc main_arg3) : Vec Ideal S4x128 .f32) (ix2 1 e)) ⟨d.val % 128, by omega⟩

/-- The block a point leaves, at one entry. -/
theorem block (c : Dev nD) (t : Fin cfg0.N) (r : Fin 64) (d : Fin 1024) (R : Fin 8256) (hR : R.val = 8192 + r.val) :
    outsAt0 m c t (ix3 0 r d) = keyAt m c R d := by
  rw [step, payload_apply]
  unfold normAt headAt keyAt
  simp only [pay2_apply, blk_w, blk_g, blk_u m c t r _ R hR]

/-- Every point writes its block back. -/
theorem flush3 : ∀ t : Fin cfg0.N, (cfg0.win 3).flush t = true := (by decide +kernel : ∀ t : Fin grid0.N, _)

/-- The result array in layer 1. -/
theorem out_layer (c : Dev nD) (R : Fin 64) (d : Fin 1024) :
    ((dats m 0 c).arrAt 3 cfg0.N : Vec Ideal S4x64x1024 .f32) (ix3 1 R d) = keyAt m c ⟨8192 + R.val, by omega⟩ d := by
  have h1 : cfg0.N = 1 := N_0
  have hN : 0 < cfg0.N := by omega
  generalize (⟨0, hN⟩ : Fin cfg0.N) = t
  have h := congrFun (blocks3 m c t (flush3 t)) (ix3 0 R d : S1x64x1024.Idx)
  rw [flushed3, View.read_apply] at h
  refine Eq.trans ?_ (h.trans (block m c t R d ⟨8192 + R.val, by omega⟩ rfl))
  congr 1; funext a; apply Fin.ext
  match a with
  | ⟨0, _⟩ => show 1 = win0_3.index t (0 : Fin 3) * 1 + 1 * 0; rw [(idx3 t).1]
  | ⟨1, _⟩ => show R.val = win0_3.index t (1 : Fin 3) * 64 + 1 * R.val; rw [(idx3 t).2.1]; omega
  | ⟨2, _⟩ => show d.val = win0_3.index t (2 : Fin 3) * 1024 + 1 * d.val; rw [(idx3 t).2.2]; omega

/-- The result array in another layer holds what it held. -/
theorem out_rest (c : Dev nD) (l : Fin 4) (hl : l.val ≠ 1) (R : Fin 64) (d : Fin 1024) :
    ((dats m 0 c).arrAt 3 cfg0.N : Vec Ideal S4x64x1024 .f32) (ix3 l R d) = (m ((c : Thread nD τ).loc main_arg0) : Vec Ideal S4x64x1024 .f32) (ix3 l R d) := by
  refine (entry3 m c (ix3 l R d) fun t _ hmem => ?_).trans (congrFun (V_out m c) _)
  obtain ⟨y, hy⟩ := View.exists_emb_of_mem_set _ hmem
  have h0 : win0_3.index t (0 : Fin 3) * 1 + 1 * (y (0 : Fin 3)).val = l.val := congrArg (fun i : S4x64x1024.Idx => (i 0).val) hy
  have hy0 : (y (0 : Fin 3)).val < 1 := (y (0 : Fin 3)).isLt
  rw [(idx3 t).1] at h0
  omega

end Cert.Kernel14Ideal.SampleKey1
-- ==== Proof.SampleKey1Claim.lean ====
/-
  The plain sample key projection's result, and that the kernel's is the same.
-/
module

public import proofs.«01_k».proof.Defs
public import proofs.«01_k».proof.Proof.SampleKey1
public import proofs.«01_k».proof.Proof.Gen.Reference14Ideal.Run
public import proofs.«01_k».proof.Proof.Gen.Reference14Ideal.Read
public import Idealize.ShloMosaic.Lib.Quiescent

@[expose] public section

set_option maxRecDepth 16384

noncomputable section

namespace Cert.SampleKey1

open Idealize.ShloMosaic Idealize.ShloMosaic.TcCoe Idealize.SL.Sem
open Cert.Reference14Ideal Cert.Reference14Ideal.Read Cert.Layer

variable (kp : Vec Ideal S4x64x1024 .f32) (u : Vec Ideal S8256x2048 .bf16) (w : Vec Ideal S4x2048x8200 .f32) (g : Vec Ideal S4x128 .f32)

/-- A row's products with the key columns. -/
theorem dot_apply (R : Fin 64) (d : Fin 1024) : val_main_v5 (F := Ideal) u w (ix2 R d)
    = dot (fun k => u (ix2 ⟨8192 + R.val, by omega⟩ k)) (fun k => w (ix3 1 k ⟨1024 + d.val, by omega⟩)) := by
  pointwise [val_main_v5, val_main_v4, val_main_v3, val_main_v2, val_main_v1, val_main_v0]
  rfl

/-- A head's normed products. -/
theorem norm_apply (b : Fin 8) (t : Fin 8) (h : Fin 8) (e : Fin 128) : val_main_v21 (F := Ideal) u w g (ix4 b t h e)
    = rms c128 (fun e : Fin 128 => val_main_v5 (F := Ideal) u w (ix2 ⟨b.val * 8 + t.val, by omega⟩ ⟨h.val * 128 + e.val, by omega⟩)) (fun e => g (ix2 1 e)) e := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_cst, val_main_cst_0, val_main_cst_1]
  rfl

/-- The plain program's result in layer 1. -/
theorem ref_layer (R : Fin 64) (d : Fin 1024) : val_main_v25 (F := Ideal) kp u w g (ix3 1 R d)
    = rms c128 (fun e : Fin 128 => dot (fun k => u (ix2 ⟨8192 + R.val, by omega⟩ k)) (fun k => w (ix3 1 k ⟨1024 + (d.val / 128 * 128 + e.val), by omega⟩)))
        (fun e => g (ix2 1 e)) ⟨d.val % 128, by omega⟩ := by
  have f : val_main_v25 (F := Ideal) kp u w g (ix3 1 R d)
      = val_main_v21 (F := Ideal) u w g (ix4 ⟨R.val / 8, by omega⟩ ⟨R.val % 8, by omega⟩ ⟨d.val / 128, by omega⟩ ⟨d.val % 128, by omega⟩) := by
    pointwise [val_main_v25, val_main_v23]
  rw [f, norm_apply]
  have hR : (⟨R.val / 8 * 8 + R.val % 8, by omega⟩ : Fin 64) = R := Fin.ext (by dsimp only; omega)
  simp only [dot_apply, hR]

/-- The plain program's result in another layer. -/
theorem ref_rest (l : Fin 4) (hl : l.val ≠ 1) (R : Fin 64) (d : Fin 1024) : val_main_v25 (F := Ideal) kp u w g (ix3 l R d) = kp (ix3 l R d) := by
  pointwise [val_main_v25, val_main_v24, val_main_v22]
  match l, hl with
  | 0, _ => rfl
  | 2, _ => rfl
  | 3, _ => rfl

/-- The plain program's result is the kernel's, from the same arguments. -/
theorem out_eq (m : (ℓ : Loc Cert.Kernel14Ideal.nD Cert.Kernel14Ideal.τ Cert.Kernel14Ideal.sig) → Buf (Elt Ideal) ℓ) (c : Dev Cert.Kernel14Ideal.nD) :
    val_main_v25 (F := Ideal)
      (m ((c.tc : Thread Cert.Kernel14Ideal.nD Cert.Kernel14Ideal.τ).loc Cert.Kernel14Ideal.main_arg0))
      (m ((c.tc : Thread Cert.Kernel14Ideal.nD Cert.Kernel14Ideal.τ).loc Cert.Kernel14Ideal.main_arg1))
      (m ((c.tc : Thread Cert.Kernel14Ideal.nD Cert.Kernel14Ideal.τ).loc Cert.Kernel14Ideal.main_arg2))
      (m ((c.tc : Thread Cert.Kernel14Ideal.nD Cert.Kernel14Ideal.τ).loc Cert.Kernel14Ideal.main_arg3))
      = (Cert.Kernel14Ideal.Gen.dats m 0 c).arrAt 3 Cert.Kernel14Ideal.cfg0.N := by
  funext i
  obtain ⟨l, R, d, rfl⟩ : ∃ (l : Fin 4) (R : Fin 64) (d : Fin 1024), i = ix3 l R d := ⟨i 0, i 1, i 2, eq_ix3 i⟩
  by_cases hl : l.val = 1
  · obtain rfl : l = 1 := Fin.ext hl
    exact (ref_layer _ _ _ _ R d).trans (Cert.Kernel14Ideal.SampleKey1.out_layer m c R d).symm
  · exact (ref_rest _ _ _ _ l hl R d).trans (Cert.Kernel14Ideal.SampleKey1.out_rest m c l hl R d).symm

/-- The value claim. -/
theorem algebraic : Cert.algebraic_Kernel14Ideal_Reference14Ideal
    (hKernel14Ideal := Cert.Kernel14Ideal.Gen.facts) (hReference14Ideal := Cert.Reference14Ideal.Gen.facts) := by
  intro m ρ m' ρ' _ hag
  refine ⟨fun c => (Cert.Kernel14Ideal.Gen.dats m 0 c).arrAt 3 Cert.Kernel14Ideal.cfg0.N, Cert.Kernel14Ideal.Value.run_blocks m ρ,
    (θ_run _ _ _).mono (fun r h c => ?_) (Cert.Reference14Ideal.Value.run m' ρ')⟩
  obtain ⟨a0, a1, a2, a3⟩ := hag c
  obtain ⟨h1, hr⟩ := h c
  refine ⟨(h1.trans (val_main_v25_eq _ _ _ _)).trans ?_, hr⟩
  rw [a0, a1, a2, a3]
  exact out_eq m c

/-- The plain program runs and leaves its arguments. -/
theorem frame_reference : Cert.quiescent_Reference14Ideal (hReference14Ideal := Cert.Reference14Ideal.Gen.facts) := by
  intro m ρ _
  exact (θ_run _ _ _).mono (fun r h => ⟨fun c => (h c).2, sem_eq_zero_of_no_sems rfl _⟩) (Cert.Reference14Ideal.Value.run m ρ)

end Cert.SampleKey1
-- ==== Proof.SampleValue1.lean ====
/-
  The value projection's kernel on the sample rows: layer 1 of its result holds the sample rows' products with the value columns of the combined
  input projection, the other layers what they held.
-/
module

public import proofs.«01_k».proof.Proof.Spec
public import proofs.«01_k».proof.Proof.Gen.Kernel15Ideal.Value
public import Idealize.ShloMosaic.Lib.Pointwise

@[expose] public section

set_option maxRecDepth 16384

noncomputable section

namespace Cert.Kernel15Ideal.SampleValue1

open Idealize.ShloMosaic Idealize.ShloMosaic.TcCoe Idealize.SL.Sem
open Cert.Kernel15Ideal Cert.Kernel15Ideal.Gen Cert.Kernel15Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

section
variable {F : FTy → Type} [FloatOps F]
variable (m : (ℓ : Loc nD τ sig) → Buf (Elt F) ℓ)

/-- The block a point leaves is the body's payload of its input blocks. -/
theorem step (c : Dev nD) (t : Fin cfg0.N) : outsAt0 m c t = k0_pay1 (iblk m c 0 t) (iblk m c 1 t) := by
  unfold outsAt0 out0_A_3
  refine (View.read_writes_eq_canon _ _ _ (fun y => cover0_A_3 _ _ _ _ _ _ _ _ _ _ _ _ _ y)).trans ?_
  unfold kernelRun0_A
  dsimp only
  sl_unfold_words
  rw [View.canon_unit_zero hz3]
  simp only [View.readAt_eq_ld, (hs0_0 t).read_unread, (hs0_1 t).read_unread, (hs0_2 t).read_unread, View.ld_unit_zero (S := S64x2048) hz,
    View.ld_unit_zero (S := S1x2048x1024) hz3]
end

/-- One entry of the payload. -/
theorem pay1_apply (u : Vec Ideal S64x2048 .bf16) (w : Vec Ideal S1x2048x1024 .bf16) (r : Fin 64) (d : Fin 1024) :
    k0_pay1 (F := Ideal) u w (ix3 0 r d) = dot (fun k => u (ix2 r k)) (fun k => w (ix3 0 k d)) := by
  pointwise [k0_pay1]
  rfl

variable (m : (ℓ : Loc nD τ sig) → Buf (Elt Ideal) ℓ)

/-- The region finds the first 3072 columns of the weights, converted. -/
theorem V_w (c : Dev nD) (l : Fin 4) (k : Fin 2048) (j : Fin 3072) :
    (V m c main_v1 : Vec Ideal S4x2048x3072 .bf16) (ix3 l k j) = (m ((c : Thread nD τ).loc main_arg2) : Vec Ideal S4x2048x8200 .f32) (ix3 l k ⟨j.val, by omega⟩) := by
  unfold_abbrev_sides; after_results
  show extractStridedSlice S4x2048x3072 ![0, 0, 0] (m ((c : Thread nD τ).loc main_arg2) : Vec Ideal S4x2048x8200 .f32) slices_S4x2048x8200_S4x2048x3072_0_0_0 (ix3 l k j) = _
  pointwise

/-- The region finds the result's buffer as the first argument. -/
theorem V_out (c : Dev nD) : V m c main_v3 = m ((c : Thread nD τ).loc main_arg0) := by
  unfold_abbrev_sides; after_results; rfl

theorem idx0 : ∀ t : Fin cfg0.N, win0_0.index t (0 : Fin 2) = 128 ∧ win0_0.index t (1 : Fin 2) = 0 :=
  (by decide +kernel : ∀ t : Fin grid0.N, _)
theorem idx1 : ∀ t : Fin cfg0.N, win0_1.index t (0 : Fin 3) = 1 ∧ win0_1.index t (1 : Fin 3) = 0 ∧ win0_1.index t (2 : Fin 3) = 2 :=
  (by decide +kernel : ∀ t : Fin grid0.N, _)
theorem idx3 : ∀ t : Fin cfg0.N, win0_3.index t (0 : Fin 3) = 1 ∧ win0_3.index t (1 : Fin 3) = 0 ∧ win0_3.index t (2 : Fin 3) = 0 :=
  (by decide +kernel : ∀ t : Fin grid0.N, _)

/-- The sample rows. -/
theorem blk_u (c : Dev nD) (t : Fin cfg0.N) (r : Fin 64) (d : Fin 2048) (R : Fin 8256) (hR : R.val = 8192 + r.val) :
    (iblk m c 0 t : Vec Ideal S64x2048 .bf16) (ix2 r d) = (m ((c : Thread nD τ).loc main_arg1) : Vec Ideal S8256x2048 .bf16) (ix2 R d) := by
  unfold iblk
  rw [View.read_apply]
  show V m c main_arg1 _ = _
  rw [V_main_arg1]
  congr 1; funext a; apply Fin.ext
  match a with
  | ⟨0, _⟩ => show win0_0.index t (0 : Fin 2) * 64 + 1 * r.val = R.val; rw [(idx0 t).1]; omega
  | ⟨1, _⟩ => show win0_0.index t (1 : Fin 2) * 2048 + 1 * d.val = d.val; rw [(idx0 t).2]; omega

/-- The weights of layer 1. -/
theorem blk_w (c : Dev nD) (t : Fin cfg0.N) (k : Fin 2048) (j : Fin 1024) :
    (iblk m c 1 t : Vec Ideal S1x2048x1024 .bf16) (ix3 0 k j) = (m ((c : Thread nD τ).loc main_arg2) : Vec Ideal S4x2048x8200 .f32) (ix3 1 k ⟨2048 + j.val, by omega⟩) := by
  refine Eq.trans ?_ (V_w m c 1 k ⟨2048 + j.val, by omega⟩)
  unfold iblk
  rw [View.read_apply]
  show V m c main_v1 _ = _
  congr 1; funext a; apply Fin.ext
  match a with
  | ⟨0, _⟩ => show win0_1.index t (0 : Fin 3) * 1 + 1 * 0 = 1; rw [(idx1 t).1]
  | ⟨1, _⟩ => show win0_1.index t (1 : Fin 3) * 2048 + 1 * k.val = k.val; rw [(idx1 t).2.1]; omega
  | ⟨2, _⟩ => show win0_1.index t (2 : Fin 3) * 1024 + 1 * j.val = 2048 + j.val; rw [(idx1 t).2.2]; omega

/-- One entry of the values. -/
abbrev val (c : Dev nD) (R : Fin 8256) (d : Fin 1024) : EReal :=
  dot (fun k => (m ((c : Thread nD τ).loc main_arg1) : Vec Ideal S8256x2048 .bf16) (ix2 R k)) (fun k => (m ((c : Thread nD τ).loc main_arg2) : Vec Ideal S4x2048x8200 .f32) (ix3 1 k ⟨2048 + d.val, by omega⟩))

/-- The block a point leaves, at one entry. -/
theorem block (c : Dev nD) (t : Fin cfg0.N) (r : Fin 64) (d : Fin 1024) (R : Fin 8256) (hR : R.val = 8192 + r.val) :
    outsAt0 m c t (ix3 0 r d) = val m c R d := by
  rw [step, pay1_apply]
  exact Finset.sum_congr rfl fun k _ => congrArg₂ (· * ·) (blk_u m c t r k R hR) (blk_w m c t k d)

/-- Every point writes its block back. -/
theorem flush3 : ∀ t : Fin cfg0.N, (cfg0.win 3).flush t = true := (by decide +kernel : ∀ t : Fin grid0.N, _)

/-- The result array in layer 1. -/
theorem out_layer (c : Dev nD) (R : Fin 64) (d : Fin 1024) :
    ((dats m 0 c).arrAt 3 cfg0.N : Vec Ideal S4x64x1024 .f32) (ix3 1 R d) = val m c ⟨8192 + R.val, by omega⟩ d := by
  have h1 : cfg0.N = 1 := N_0
  have hN : 0 < cfg0.N := by omega
  generalize (⟨0, hN⟩ : Fin cfg0.N) = t
  have h := congrFun (blocks3 m c t (flush3 t)) (ix3 0 R d : S1x64x1024.Idx)
  rw [flushed3, View.read_apply] at h
  refine Eq.trans ?_ (h.trans (block m c t R d ⟨8192 + R.val, by omega⟩ rfl))
  congr 1; funext a; apply Fin.ext
  match a with
  | ⟨0, _⟩ => show 1 = win0_3.index t (0 : Fin 3) * 1 + 1 * 0; rw [(idx3 t).1]
  | ⟨1, _⟩ => show R.val = win0_3.index t (1 : Fin 3) * 64 + 1 * R.val; rw [(idx3 t).2.1]; omega
  | ⟨2, _⟩ => show d.val = win0_3.index t (2 : Fin 3) * 1024 + 1 * d.val; rw [(idx3 t).2.2]; omega

/-- The result array in another layer holds what it held. -/
theorem out_rest (c : Dev nD) (l : Fin 4) (hl : l.val ≠ 1) (R : Fin 64) (d : Fin 1024) :
    ((dats m 0 c).arrAt 3 cfg0.N : Vec Ideal S4x64x1024 .f32) (ix3 l R d) = (m ((c : Thread nD τ).loc main_arg0) : Vec Ideal S4x64x1024 .f32) (ix3 l R d) := by
  refine (entry3 m c (ix3 l R d) fun t _ hmem => ?_).trans (congrFun (V_out m c) _)
  obtain ⟨y, hy⟩ := View.exists_emb_of_mem_set _ hmem
  have h0 : win0_3.index t (0 : Fin 3) * 1 + 1 * (y (0 : Fin 3)).val = l.val := congrArg (fun i : S4x64x1024.Idx => (i 0).val) hy
  have hy0 : (y (0 : Fin 3)).val < 1 := (y (0 : Fin 3)).isLt
  rw [(idx3 t).1] at h0
  omega

end Cert.Kernel15Ideal.SampleValue1
-- ==== Proof.SampleValue1Claim.lean ====
/-
  The plain sample value projection's result, and that the kernel's is the same.
-/
module

public import proofs.«01_k».proof.Defs
public import proofs.«01_k».proof.Proof.SampleValue1
public import proofs.«01_k».proof.Proof.Gen.Reference15Ideal.Run
public import proofs.«01_k».proof.Proof.Gen.Reference15Ideal.Read
public import Idealize.ShloMosaic.Lib.Quiescent

@[expose] public section

set_option maxRecDepth 16384

noncomputable section

namespace Cert.SampleValue1

open Idealize.ShloMosaic Idealize.ShloMosaic.TcCoe Idealize.SL.Sem
open Cert.Reference15Ideal Cert.Reference15Ideal.Read Cert.Layer

variable (vp : Vec Ideal S4x64x1024 .f32) (u : Vec Ideal S8256x2048 .bf16) (w : Vec Ideal S4x2048x8200 .f32)

/-- The plain program's result in layer 1. -/
theorem ref_layer (R : Fin 64) (d : Fin 1024) : val_main_v9 (F := Ideal) vp u w (ix3 1 R d)
    = dot (fun k => u (ix2 ⟨8192 + R.val, by omega⟩ k)) (fun k => w (ix3 1 k ⟨2048 + d.val, by omega⟩)) := by
  pointwise [val_main_v9, val_main_v8, val_main_v7, val_main_v6, val_main_v5, val_main_v4, val_main_v3, val_main_v2, val_main_v1, val_main_v0]
  rfl

/-- The plain program's result in another layer. -/
theorem ref_rest (l : Fin 4) (hl : l.val ≠ 1) (R : Fin 64) (d : Fin 1024) : val_main_v9 (F := Ideal) vp u w (ix3 l R d) = vp (ix3 l R d) := by
  pointwise [val_main_v9, val_main_v8, val_main_v6]
  match l, hl with
  | 0, _ => rfl
  | 2, _ => rfl
  | 3, _ => rfl

/-- The plain program's result is the kernel's, from the same arguments. -/
theorem out_eq (m : (ℓ : Loc Cert.Kernel15Ideal.nD Cert.Kernel15Ideal.τ Cert.Kernel15Ideal.sig) → Buf (Elt Ideal) ℓ) (c : Dev Cert.Kernel15Ideal.nD) :
    val_main_v9 (F := Ideal)
      (m ((c.tc : Thread Cert.Kernel15Ideal.nD Cert.Kernel15Ideal.τ).loc Cert.Kernel15Ideal.main_arg0))
      (m ((c.tc : Thread Cert.Kernel15Ideal.nD Cert.Kernel15Ideal.τ).loc Cert.Kernel15Ideal.main_arg1))
      (m ((c.tc : Thread Cert.Kernel15Ideal.nD Cert.Kernel15Ideal.τ).loc Cert.Kernel15Ideal.main_arg2))
      = (Cert.Kernel15Ideal.Gen.dats m 0 c).arrAt 3 Cert.Kernel15Ideal.cfg0.N := by
  funext i
  obtain ⟨l, R, d, rfl⟩ : ∃ (l : Fin 4) (R : Fin 64) (d : Fin 1024), i = ix3 l R d := ⟨i 0, i 1, i 2, eq_ix3 i⟩
  by_cases hl : l.val = 1
  · obtain rfl : l = 1 := Fin.ext hl
    exact (ref_layer _ _ _ R d).trans (Cert.Kernel15Ideal.SampleValue1.out_layer m c R d).symm
  · exact (ref_rest _ _ _ l hl R d).trans (Cert.Kernel15Ideal.SampleValue1.out_rest m c l hl R d).symm

/-- The value claim. -/
theorem algebraic : Cert.algebraic_Kernel15Ideal_Reference15Ideal
    (hKernel15Ideal := Cert.Kernel15Ideal.Gen.facts) (hReference15Ideal := Cert.Reference15Ideal.Gen.facts) := by
  intro m ρ m' ρ' _ hag
  refine ⟨fun c => (Cert.Kernel15Ideal.Gen.dats m 0 c).arrAt 3 Cert.Kernel15Ideal.cfg0.N, Cert.Kernel15Ideal.Value.run_blocks m ρ,
    (θ_run _ _ _).mono (fun r h c => ?_) (Cert.Reference15Ideal.Value.run m' ρ')⟩
  obtain ⟨a0, a1, a2⟩ := hag c
  obtain ⟨h1, hr⟩ := h c
  refine ⟨(h1.trans (val_main_v9_eq _ _ _)).trans ?_, hr⟩
  rw [a0, a1, a2]
  exact out_eq m c

/-- The plain program runs and leaves its arguments. -/
theorem frame_reference : Cert.quiescent_Reference15Ideal (hReference15Ideal := Cert.Reference15Ideal.Gen.facts) := by
  intro m ρ _
  exact (θ_run _ _ _).mono (fun r h => ⟨fun c => (h c).2, sem_eq_zero_of_no_sems rfl _⟩) (Cert.Reference15Ideal.Value.run m ρ)

end Cert.SampleValue1
-- ==== Proof.SampleLogf.lean ====
/-
  The forget gate's kernel on the sample rows: its result is the logarithm of the sigmoid of the rows' products with the padded
  forget columns plus the padded bias.
-/
module

public import proofs.«01_k».proof.Proof.LogSigmoid
public import proofs.«01_k».proof.Proof.Gen.Kernel16Ideal.Value
public import Idealize.ShloMosaic.Lib.Pointwise

@[expose] public section

set_option maxRecDepth 16384

noncomputable section

namespace Cert.Kernel16Ideal.SampleLogf

open Idealize.ShloMosaic Idealize.ShloMosaic.TcCoe Idealize.SL.Sem
open Cert.Kernel16Ideal Cert.Kernel16Ideal.Gen Cert.Kernel16Ideal.Value Cert.Layer

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

/-- The block a point leaves is the body's payload of its input blocks. -/
theorem step {F : FTy → Type} [FloatOps F] (u : Vec F S64x2048 .bf16) (w : Vec F S1x2048x128 .bf16) (b : Vec F S1x128 .f32) :
    out0_3 u w b = k0_pay1 u w b := by
  unfold out0_3
  rw [View.canon_unit_zero hz]
  simp only [View.ld_unit_zero (S := S64x2048) hz, View.ld_unit_zero (S := S1x2048x128) hz3, View.ld_unit_zero (S := S1x128) hz]

/-- One entry of the payload. -/
theorem pay1_apply (u : Vec Ideal S64x2048 .bf16) (w : Vec Ideal S1x2048x128 .bf16) (b : Vec Ideal S1x128 .f32) (r : Fin 64) (d : Fin 128) :
    k0_pay1 (F := Ideal) u w b (ix2 r d) = logSigmoid (dot (fun k => u (ix2 r k)) (fun k => w (ix3 0 k d)) + b (ix2 0 d)) := by
  pointwise [k0_pay1]
  exact logSigmoid_sub _

/-- The padded columns, read at one entry. -/
theorem padded_w (x : Vec Ideal S4x2048x8200 .f32) (l : Fin 4) (k : Fin 2048) (j : Fin 128) :
    pad S4x2048x128 ![0, 0, 0] ![0, 0, 120] ![0, 0, 0] (extractStridedSlice S4x2048x8 ![0, 0, 3072] x slices_S4x2048x8200_S4x2048x8_0_0_3072)
      (sitofp (F := Ideal) .f32 (constantI S_ 32 0#32)) pads_S4x2048x8_S4x2048x128_000_000_01200 h_S_ (ix3 l k j)
      = lanes (fun j => x (ix3 l k ⟨3072 + j.val, by omega⟩)) j := by
  pointwise
  rfl

/-- The padded bias, read at one entry. -/
theorem padded_b (x : Vec Ideal S4x8 .f32) (j : Fin 128) :
    extractStridedSlice S1x128 ![0, 0] (pad S4x128 ![0, 0] ![0, 120] ![0, 0] x
      (sitofp (F := Ideal) .f32 (constantI S_ 32 0#32)) pads_S4x8_S4x128_000_01200 h_S_) slices_S4x128_S1x128_0_0 (ix2 0 j)
      = lanes (fun j => x (ix2 0 j)) j := by
  pointwise
  rfl

variable (m : (ℓ : Loc nD τ sig) → Buf (Elt Ideal) ℓ)

/-- The region finds the forget columns padded to 128 lanes. -/
theorem V_w (c : Dev nD) (l : Fin 4) (k : Fin 2048) (j : Fin 128) :
    (V m c main_v2 : Vec Ideal S4x2048x128 .bf16) (ix3 l k j) = lanes (fun j => (m ((c : Thread nD τ).loc main_arg1) : Vec Ideal S4x2048x8200 .f32) (ix3 l k ⟨3072 + j.val, by omega⟩)) j := by
  unfold_abbrev_sides
  exact padded_w _ l k j
/-- The region finds the bias padded to 128 lanes. -/
theorem V_b (c : Dev nD) (j : Fin 128) :
    (V m c main_v4 : Vec Ideal S1x128 .f32) (ix2 0 j) = lanes (fun j => (m ((c : Thread nD τ).loc main_arg2) : Vec Ideal S4x8 .f32) (ix2 0 j)) j := by
  unfold_abbrev_sides
  exact padded_b _ j

theorem idx0 : ∀ t : Fin cfg0.N, win0_0.index t (0 : Fin 2) = 128 ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The sample rows. -/
theorem blk_u (c : Dev nD) (t : Fin cfg0.N) (r : Fin 64) (d : Fin 2048) (R : Fin 8256) (hR : R.val = 8192 + r.val) :
    (iblk m c 0 t : Vec Ideal S64x2048 .bf16) (ix2 r d) = (m ((c : Thread nD τ).loc main_arg0) : Vec Ideal S8256x2048 .bf16) (ix2 R d) := by
  unfold iblk
  rw [View.read_apply]
  show V m c main_arg0 _ = _
  rw [V_main_arg0]
  congr 1; funext a; apply Fin.ext
  match a with
  | ⟨0, _⟩ => show win0_0.index t (0 : Fin 2) * 64 + 1 * r.val = R.val; rw [(idx0 t).1]; omega
  | ⟨1, _⟩ => show win0_0.index t (1 : Fin 2) * 2048 + 1 * d.val = d.val; rw [(idx0 t).2]; omega

/-- The padded columns of layer 0. -/
theorem blk_w (c : Dev nD) (t : Fin cfg0.N) (k : Fin 2048) (j : Fin 128) :
    (iblk m c 1 t : Vec Ideal S1x2048x128 .bf16) (ix3 0 k j) = lanes (fun j => (m ((c : Thread nD τ).loc main_arg1) : Vec Ideal S4x2048x8200 .f32) (ix3 0 k ⟨3072 + j.val, by omega⟩)) j := by
  refine Eq.trans ?_ (V_w m c 0 k j)
  unfold iblk
  rw [View.read_apply]
  show V m c main_v2 _ = _
  congr 1; funext a; apply Fin.ext
  match a with
  | ⟨0, _⟩ => show win0_1.index t (0 : Fin 3) * 1 + 1 * 0 = 0; rw [(idx1 t).1]
  | ⟨1, _⟩ => show win0_1.index t (1 : Fin 3) * 2048 + 1 * k.val = k.val; rw [(idx1 t).2.1]; omega
  | ⟨2, _⟩ => show win0_1.index t (2 : Fin 3) * 128 + 1 * j.val = j.val; rw [(idx1 t).2.2]; omega

/-- The padded bias. -/
theorem blk_b (c : Dev nD) (t : Fin cfg0.N) (j : Fin 128) :
    (iblk m c 2 t : Vec Ideal S1x128 .f32) (ix2 0 j) = lanes (fun j => (m ((c : Thread nD τ).loc main_arg2) : Vec Ideal S4x8 .f32) (ix2 0 j)) j := by
  refine Eq.trans ?_ (V_b m c j)
  unfold iblk
  rw [View.read_apply]
  show V m c main_v4 _ = _
  congr 1; funext a; apply Fin.ext
  match a with
  | ⟨0, _⟩ => show win0_2.index t (0 : Fin 2) * 1 + 1 * 0 = 0; rw [(idx2 t).1]
  | ⟨1, _⟩ => show win0_2.index t (1 : Fin 2) * 128 + 1 * j.val = j.val; rw [(idx2 t).2]; omega

/-- One entry of the forget gates' logarithms. -/
abbrev logf (c : Dev nD) (R : Fin 8256) (d : Fin 128) : EReal :=
  logSigmoid (dot (fun k => (m ((c : Thread nD τ).loc main_arg0) : Vec Ideal S8256x2048 .bf16) (ix2 R k))
    (fun k => lanes (fun j => (m ((c : Thread nD τ).loc main_arg1) : Vec Ideal S4x2048x8200 .f32) (ix3 0 k ⟨3072 + j.val, by omega⟩)) d)
    + lanes (fun j => (m ((c : Thread nD τ).loc main_arg2) : Vec Ideal S4x8 .f32) (ix2 0 j)) d)

/-- Every point writes its block back. -/
theorem flush3 : ∀ t : Fin cfg0.N, (cfg0.win 3).flush t = true := (by decide +kernel : ∀ t : Fin grid0.N, _)

/-- The block a point leaves, at one entry. -/
theorem block (c : Dev nD) (t : Fin cfg0.N) (r : Fin 64) (d : Fin 128) (R : Fin 8256) (hR : R.val = 8192 + r.val) :
    out0_3 (iblk m c 0 t) (iblk m c 1 t) (iblk m c 2 t) (ix2 r d) = logf m c R d := by
  rw [step, pay1_apply]
  unfold logf
  simp only [blk_w, blk_b, blk_u m c t r _ R hR]

/-- The result array, entry by entry. -/
theorem out_apply (c : Dev nD) (R : Fin 64) (d : Fin 128) :
    ((dats m 0 c).arrAt 3 cfg0.N : Vec Ideal S64x128 .f32) (ix2 R d) = logf m c ⟨8192 + R.val, by omega⟩ d := by
  have h1 : cfg0.N = 1 := N_0
  have hN : 0 < cfg0.N := by omega
  generalize (⟨0, hN⟩ : Fin cfg0.N) = t
  have h := congrFun (blocks3 m c t (flush3 t)) (ix2 R d : S64x128.Idx)
  rw [flushed3, View.read_apply] at h
  refine Eq.trans ?_ (h.trans (block m c t R d ⟨8192 + R.val, by omega⟩ rfl))
  congr 1; funext a; apply Fin.ext
  match a with
  | ⟨0, _⟩ => show R.val = win0_3.index t (0 : Fin 2) * 64 + 1 * R.val; rw [(idx3 t).1]; omega
  | ⟨1, _⟩ => show d.val = win0_3.index t (1 : Fin 2) * 128 + 1 * d.val; rw [(idx3 t).2]; omega

end Cert.Kernel16Ideal.SampleLogf
-- ==== Proof.SampleLogfClaim.lean ====
/-
  The plain sample forget-gate program's result, and that the kernel's is the same.
-/
module

public import proofs.«01_k».proof.Defs
public import proofs.«01_k».proof.Proof.SampleLogf
public import proofs.«01_k».proof.Proof.Gen.Reference16Ideal.Run
public import proofs.«01_k».proof.Proof.Gen.Reference16Ideal.Read
public import Idealize.ShloMosaic.Lib.Quiescent

@[expose] public section

set_option maxRecDepth 16384

noncomputable section

namespace Cert.SampleLogf

open Idealize.ShloMosaic Idealize.ShloMosaic.TcCoe Idealize.SL.Sem
open Cert.Reference16Ideal Cert.Reference16Ideal.Read Cert.Layer

variable (u : Vec Ideal S8256x2048 .bf16) (w : Vec Ideal S4x2048x8200 .f32) (b : Vec Ideal S4x8 .f32)

/-- The padded columns. -/
theorem w_apply (k : Fin 2048) (j : Fin 128) : val_main_v3 (F := Ideal) w (ix2 k j) = lanes (fun j => w (ix3 0 k ⟨3072 + j.val, by omega⟩)) j := by
  pointwise [val_main_v3, val_main_v2, val_main_v1, val_main_v0, val_main_call0_v0, val_main_c]
  rfl
/-- The padded bias. -/
theorem b_apply (R : Fin 64) (j : Fin 128) : val_main_v11 (F := Ideal) b (ix2 R j) = lanes (fun j => b (ix2 0 j)) j := by
  pointwise [val_main_v11, val_main_v10, val_main_v6, val_main_v5, val_main_v4, val_main_call1_v0, val_main_c_0]
  rfl
/-- The biased products. -/
theorem z_apply (R : Fin 64) (d : Fin 128) : val_main_v12 (F := Ideal) u w b (ix2 R d)
    = dot (fun k => u (ix2 ⟨8192 + R.val, by omega⟩ k)) (fun k => lanes (fun j => w (ix3 0 k ⟨3072 + j.val, by omega⟩)) d) + lanes (fun j => b (ix2 0 j)) d := by
  pointwise [val_main_v12, val_main_v9, val_main_v8, val_main_v7]
  simp only [w_apply, b_apply]
  rfl
/-- One entry of the plain program's result. -/
theorem ref_apply (R : Fin 64) (d : Fin 128) : val_main_v13 (F := Ideal) u w b (ix2 R d) = logSigmoid (val_main_v12 (F := Ideal) u w b (ix2 R d)) := by
  pointwise [val_main_v13, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_v0, val_main_call2_call0_cst]
  rw [if_neg (fun h => h rfl)]
  exact logSigmoid_neg _

/-- The plain program's result is the kernel's, from the same arguments. -/
theorem out_eq (m : (ℓ : Loc Cert.Kernel16Ideal.nD Cert.Kernel16Ideal.τ Cert.Kernel16Ideal.sig) → Buf (Elt Ideal) ℓ) (c : Dev Cert.Kernel16Ideal.nD) :
    val_main_v13 (F := Ideal)
      (m ((c.tc : Thread Cert.Kernel16Ideal.nD Cert.Kernel16Ideal.τ).loc Cert.Kernel16Ideal.main_arg0))
      (m ((c.tc : Thread Cert.Kernel16Ideal.nD Cert.Kernel16Ideal.τ).loc Cert.Kernel16Ideal.main_arg1))
      (m ((c.tc : Thread Cert.Kernel16Ideal.nD Cert.Kernel16Ideal.τ).loc Cert.Kernel16Ideal.main_arg2))
      = (Cert.Kernel16Ideal.Gen.dats m 0 c).arrAt 3 Cert.Kernel16Ideal.cfg0.N := by
  funext i
  obtain ⟨R, d, rfl⟩ : ∃ (R : Fin 64) (d : Fin 128), i = ix2 R d := ⟨i 0, i 1, eq_ix2 i⟩
  refine ((ref_apply _ _ _ R d).trans ?_).trans (Cert.Kernel16Ideal.SampleLogf.out_apply m c R d).symm
  rw [z_apply]

/-- The value claim. -/
theorem algebraic : Cert.algebraic_Kernel16Ideal_Reference16Ideal
    (hKernel16Ideal := Cert.Kernel16Ideal.Gen.facts) (hReference16Ideal := Cert.Reference16Ideal.Gen.facts) := by
  intro m ρ m' ρ' _ hag
  refine ⟨fun c => (Cert.Kernel16Ideal.Gen.dats m 0 c).arrAt 3 Cert.Kernel16Ideal.cfg0.N, Cert.Kernel16Ideal.Value.run_blocks m ρ,
    (θ_run _ _ _).mono (fun r h c => ?_) (Cert.Reference16Ideal.Value.run m' ρ')⟩
  obtain ⟨a0, a1, a2⟩ := hag c
  obtain ⟨h1, hr⟩ := h c
  refine ⟨(h1.trans (val_main_v13_eq m' c)).trans ?_, hr⟩
  rw [a0, a1, a2]
  exact out_eq m c

/-- The plain program runs and leaves its arguments. -/
theorem frame_reference : Cert.quiescent_Reference16Ideal (hReference16Ideal := Cert.Reference16Ideal.Gen.facts) := by
  intro m ρ _
  exact (θ_run _ _ _).mono (fun r h => ⟨fun c => (h c).2, sem_eq_zero_of_no_sems rfl _⟩) (Cert.Reference16Ideal.Value.run m ρ)

end Cert.SampleLogf
-- ==== Proof.State.lean ====
/-
  The S5 kernel on the sample rows, from its folded parameters. The state it leaves for each group is the group's state taken
  eight steps on (the decay's eighth power times the state, complex) plus the group's rows times the input-to-state weights. Its
  other result is the gelu of the rows times the kernel matrix, plus the state times the state-to-output weights, plus the
  rows times the skip weights.
-/
module

public import proofs.«01_k».proof.Proof.Spec
public import proofs.«01_k».proof.Proof.Gen.Kernel17Ideal.Value
public import Idealize.ShloMosaic.Lib.Pointwise
public import Idealize.ShloMosaic.Lib.Pipeline.ValueKit.Tiles
public import Idealize.ShloMosaic.Lib.StableHlo.RunRead

@[expose] public section

set_option maxRecDepth 16384

noncomputable section

namespace Cert.Kernel17Ideal.State

open Idealize.ShloMosaic Idealize.ShloMosaic.TcCoe Idealize.SL.Sem
open Cert.Kernel17Ideal Cert.Kernel17Ideal.Gen Cert.Kernel17Ideal.Value Cert.Layer

/-- The lane that holds the other part of a lane's complex state. -/
def other (n : Fin 128) : Fin 128 := ⟨(n.val + 64) % 128, Nat.mod_lt _ (by omega)⟩

/-- One entry of a group's new state. -/
theorem pay5_apply (u : Vec Ideal S1x8x128 .f32) (a : Vec Ideal S1x1x8x128 .f32) (h : Vec Ideal S1x8x128 .f32) (w : Vec Ideal S1x1x128x128 .bf16)
    (b : Fin 8) (n : Fin 128) :
    k0_pay5 (F := Ideal) u a h w (ix3 0 b n)
      = a (ix4 0 0 0 n) * h (ix3 0 b n) + a (ix4 0 0 1 n) * h (ix3 0 b (other n)) + dot (fun p => u (ix3 0 b p)) (fun p => w (ix4 0 0 p n)) := by
  pointwise [k0_pay5, k0_pay4, k0_pay3, k0_pay2]
  rfl

/-- One entry of the new states of the eight groups of a point. -/
def entry (u : Vec Ideal S8x8x128 .f32) (w : Vec Ideal S1x8x128x128 .bf16) (a : Vec Ideal S1x8x8x128 .f32) (h : Vec Ideal S8x8x128 .f32)
    (g : Fin 8) (b : Fin 8) (n : Fin 128) : EReal :=
  a (ix4 0 g 0 n) * h (ix3 g b n) + a (ix4 0 g 1 n) * h (ix3 g b (other n)) + dot (fun p => u (ix3 g b p)) (fun p => w (ix4 0 g p n))

/-- The gelu by its hyperbolic tangent. -/
def gelu (y : EReal) : EReal :=
  Ideal.ofBits .f32 0x3F000000#32 * y
    * (1 + Ideal.tanh (Ideal.ofBits .f32 0x3F4C422A#32 * (y + Ideal.ofBits .f32 0x3D372713#32 * (y * y * y))))

/-- A group's outputs, from its parts of the blocks. -/
def outputs (u : Vec Ideal S1x8x128 .f32) (o t : Vec Ideal S1x1x128x128 .bf16) (d : Vec Ideal S1x1x1x128 .f32) (h : Vec Ideal S1x8x128 .f32) :
    FVec Ideal S1x8x128 .f32 :=
  k0_pay8 (k0_pay2 u) (k0_pay6 u t) (k0_pay7 h o) d

/-- One entry of a group's outputs. -/
theorem outputs_apply (u : Vec Ideal S1x8x128 .f32) (o t : Vec Ideal S1x1x128x128 .bf16) (d : Vec Ideal S1x1x1x128 .f32) (h : Vec Ideal S1x8x128 .f32)
    (b : Fin 8) (n : Fin 128) :
    outputs u o t d h (ix3 0 b n)
      = gelu (dot (fun p => u (ix3 0 b p)) (fun p => t (ix4 0 0 p n)) + dot (fun p => h (ix3 0 b p)) (fun p => o (ix4 0 0 p n))
          + u (ix3 0 b n) * d (ix4 0 0 0 n)) := by
  pointwise [outputs, k0_pay8, k0_pay7, k0_pay6, k0_pay4, k0_pay3, k0_pay2]
  rfl

/-- One entry of the outputs of the eight groups of a point. -/
def yentry (u : Vec Ideal S8x8x128 .f32) (o t : Vec Ideal S1x8x128x128 .bf16) (d : Vec Ideal S1x8x1x128 .f32) (h : Vec Ideal S8x8x128 .f32)
    (g : Fin 8) (b : Fin 8) (n : Fin 128) : EReal :=
  gelu (dot (fun p => u (ix3 g b p)) (fun p => t (ix4 0 g p n)) + dot (fun p => h (ix3 g b p)) (fun p => o (ix4 0 g p n))
    + u (ix3 g b n) * d (ix4 0 g 0 n))

/-- A group's matrix of the rows or of the state, in the block. -/
theorem rows_idx (g b : Fin 8) (q : Fin 128) (i : ∀ x, (![g.val, 0, 0] : Fin 3 → Nat) x + S1x8x128.size x ≤ S8x8x128.size x) :
    (Rect.unit (s := S8x8x128) ![g.val, 0, 0] S1x8x128.size i).idx (ix3 0 b q) = ix3 g b q := by
  funext x; apply Fin.ext
  match x with
  | ⟨0, _⟩ => show g.val + 1 * 0 = g.val; omega
  | ⟨1, _⟩ => show 0 + 1 * b.val = b.val; omega
  | ⟨2, _⟩ => show 0 + 1 * q.val = q.val; omega
/-- A group's decay, in the block. -/
theorem decay_idx (g r : Fin 8) (q : Fin 128) (i : ∀ x, (![0, g.val, 0, 0] : Fin 4 → Nat) x + S1x1x8x128.size x ≤ S1x8x8x128.size x) :
    (Rect.unit (s := S1x8x8x128) ![0, g.val, 0, 0] S1x1x8x128.size i).idx (ix4 0 0 r q) = ix4 0 g r q := by
  funext x; apply Fin.ext
  match x with
  | ⟨0, _⟩ => rfl
  | ⟨1, _⟩ => show g.val + 1 * 0 = g.val; omega
  | ⟨2, _⟩ => show 0 + 1 * r.val = r.val; omega
  | ⟨3, _⟩ => show 0 + 1 * q.val = q.val; omega
/-- A group's weights, in the block. -/
theorem weights_idx (g : Fin 8) (r q : Fin 128) (i : ∀ x, (![0, g.val, 0, 0] : Fin 4 → Nat) x + S1x1x128x128.size x ≤ S1x8x128x128.size x) :
    (Rect.unit (s := S1x8x128x128) ![0, g.val, 0, 0] S1x1x128x128.size i).idx (ix4 0 0 r q) = ix4 0 g r q := by
  funext x; apply Fin.ext
  match x with
  | ⟨0, _⟩ => rfl
  | ⟨1, _⟩ => show g.val + 1 * 0 = g.val; omega
  | ⟨2, _⟩ => show 0 + 1 * r.val = r.val; omega
  | ⟨3, _⟩ => show 0 + 1 * q.val = q.val; omega
/-- A group's skip weights, in the block. -/
theorem skip_idx (g : Fin 8) (q : Fin 128) (i : ∀ x, (![0, g.val, 0, 0] : Fin 4 → Nat) x + S1x1x1x128.size x ≤ S1x8x1x128.size x) :
    (Rect.unit (s := S1x8x1x128) ![0, g.val, 0, 0] S1x1x1x128.size i).idx (ix4 0 0 0 q) = ix4 0 g 0 q := by
  funext x; apply Fin.ext
  match x with
  | ⟨0, _⟩ => rfl
  | ⟨1, _⟩ => show g.val + 1 * 0 = g.val; omega
  | ⟨2, _⟩ => rfl
  | ⟨3, _⟩ => show 0 + 1 * q.val = q.val; omega

/-- The place in a group's stored matrix that holds a place of the block. -/
theorem place (g b : Fin 8) (n : Fin 128) (k : Nat) (x : S1x8x128.Idx) (hx : ∀ a, ((ix3 g b n : S8x8x128.Idx) a : Nat) = (![k, 0, 0] : Fin 3 → Nat) a + x a) :
    g.val = k ∧ x = ix3 0 b n := by
  obtain ⟨z, b', n', rfl⟩ : ∃ (z : Fin 1) (b' : Fin 8) (n' : Fin 128), x = ix3 z b' n' := ⟨x 0, x 1, x 2, eq_ix3 x⟩
  have hg : g.val = k := by have := hx 0; change g.val = k + z.val at this; omega
  have hb : b' = b := by have := hx 1; change b.val = 0 + b'.val at this; exact Fin.ext (by omega)
  have hn : n' = n := by have := hx 2; change n.val = 0 + n'.val at this; exact Fin.ext (by omega)
  have hz : z = 0 := Subsingleton.elim _ _
  subst hb hn hz
  exact ⟨hg, rfl⟩

/-- A group's new state, from the group's parts of the blocks, at the place where it is stored. -/
theorem tile (u : Vec Ideal S8x8x128 .f32) (w : Vec Ideal S1x8x128x128 .bf16) (a : Vec Ideal S1x8x8x128 .f32) (h : Vec Ideal S8x8x128 .f32)
    (g b : Fin 8) (n : Fin 128) (k : Nat)
    (iu : ∀ x, (![k, 0, 0] : Fin 3 → Nat) x + S1x8x128.size x ≤ S8x8x128.size x)
    (ia : ∀ x, (![0, k, 0, 0] : Fin 4 → Nat) x + S1x1x8x128.size x ≤ S1x8x8x128.size x)
    (iw : ∀ x, (![0, k, 0, 0] : Fin 4 → Nat) x + S1x1x128x128.size x ≤ S1x8x128x128.size x) :
    View.TileAt (Val := Elt Ideal) (S := S8x8x128) (e := .f32) (ix3 g b n) ![k, 0, 0] S1x8x128.size
      (k0_pay5 (F := Ideal) (View.ld u (Rect.unit (s := S8x8x128) ![k, 0, 0] S1x8x128.size iu)) (View.ld a (Rect.unit (s := S1x8x8x128) ![0, k, 0, 0] S1x1x8x128.size ia))
        (View.ld h (Rect.unit (s := S8x8x128) ![k, 0, 0] S1x8x128.size iu)) (View.ld w (Rect.unit (s := S1x8x128x128) ![0, k, 0, 0] S1x1x128x128.size iw)))
      (entry u w a h g b n) := by
  intro x hx
  obtain ⟨hg, rfl⟩ := place g b n k x hx
  subst hg
  rw [pay5_apply]
  unfold entry View.ld
  have e := fun q => rows_idx g b q iu
  have ea := fun r q => decay_idx g r q ia
  have ew := fun r q => weights_idx g r q iw
  simp only [e, ea, ew]

/-- A group's outputs, from the group's parts of the blocks, at the place where they are stored. -/
theorem ytile (u : Vec Ideal S8x8x128 .f32) (o t : Vec Ideal S1x8x128x128 .bf16) (d : Vec Ideal S1x8x1x128 .f32) (h : Vec Ideal S8x8x128 .f32)
    (g b : Fin 8) (n : Fin 128) (k : Nat)
    (iu : ∀ x, (![k, 0, 0] : Fin 3 → Nat) x + S1x8x128.size x ≤ S8x8x128.size x)
    (id : ∀ x, (![0, k, 0, 0] : Fin 4 → Nat) x + S1x1x1x128.size x ≤ S1x8x1x128.size x)
    (iw : ∀ x, (![0, k, 0, 0] : Fin 4 → Nat) x + S1x1x128x128.size x ≤ S1x8x128x128.size x) :
    View.TileAt (Val := Elt Ideal) (S := S8x8x128) (e := .f32) (ix3 g b n) ![k, 0, 0] S1x8x128.size
      (outputs (View.ld u (Rect.unit (s := S8x8x128) ![k, 0, 0] S1x8x128.size iu)) (View.ld o (Rect.unit (s := S1x8x128x128) ![0, k, 0, 0] S1x1x128x128.size iw))
        (View.ld t (Rect.unit (s := S1x8x128x128) ![0, k, 0, 0] S1x1x128x128.size iw)) (View.ld d (Rect.unit (s := S1x8x1x128) ![0, k, 0, 0] S1x1x1x128.size id))
        (View.ld h (Rect.unit (s := S8x8x128) ![k, 0, 0] S1x8x128.size iu)))
      (yentry u o t d h g b n) := by
  intro x hx
  obtain ⟨hg, rfl⟩ := place g b n k x hx
  subst hg
  rw [outputs_apply]
  unfold yentry View.ld
  have e := fun q => rows_idx g b q iu
  have ed := fun q => skip_idx g q id
  have ew := fun r q => weights_idx g r q iw
  simp only [e, ed, ew]

/-- The block of new states a point leaves, entry by entry. -/
theorem step (u : Vec Ideal S8x8x128 .f32) (w o t : Vec Ideal S1x8x128x128 .bf16) (d : Vec Ideal S1x8x1x128 .f32) (a : Vec Ideal S1x8x8x128 .f32)
    (h : Vec Ideal S8x8x128 .f32) (g b : Fin 8) (n : Fin 128) :
    out0_8 u w o t d a h (ix3 g b n) = entry u w a h g b n := by
  unfold_out out0_8
  refine View.canon_eq_of_allAt _ _ _ (cover0_8 _ _ _ _ _ _ _ _ _) ?_
  refine View.allAt_cons_unit _ _ _ _ _ (tile u w a h g b n 7 _ _ _) ?_
  refine View.allAt_cons_unit _ _ _ _ _ (tile u w a h g b n 6 _ _ _) ?_
  refine View.allAt_cons_unit _ _ _ _ _ (tile u w a h g b n 5 _ _ _) ?_
  refine View.allAt_cons_unit _ _ _ _ _ (tile u w a h g b n 4 _ _ _) ?_
  refine View.allAt_cons_unit _ _ _ _ _ (tile u w a h g b n 3 _ _ _) ?_
  refine View.allAt_cons_unit _ _ _ _ _ (tile u w a h g b n 2 _ _ _) ?_
  refine View.allAt_cons_unit _ _ _ _ _ (tile u w a h g b n 1 _ _ _) ?_
  refine View.allAt_cons_unit _ _ _ _ _ (tile u w a h g b n 0 _ _ _) ?_
  exact View.allAt_nil _ _

/-- The block of outputs a point leaves, entry by entry. -/
theorem ystep (u : Vec Ideal S8x8x128 .f32) (w o t : Vec Ideal S1x8x128x128 .bf16) (d : Vec Ideal S1x8x1x128 .f32) (a : Vec Ideal S1x8x8x128 .f32)
    (h : Vec Ideal S8x8x128 .f32) (g b : Fin 8) (n : Fin 128) :
    out0_7 u w o t d a h (ix3 g b n) = yentry u o t d h g b n := by
  unfold_out out0_7
  refine View.canon_eq_of_allAt _ _ _ (cover0_7 _ _ _ _ _ _ _ _ _) ?_
  refine View.allAt_cons_unit _ _ _ _ _ (ytile u o t d h g b n 7 _ _ _) ?_
  refine View.allAt_cons_unit _ _ _ _ _ (ytile u o t d h g b n 6 _ _ _) ?_
  refine View.allAt_cons_unit _ _ _ _ _ (ytile u o t d h g b n 5 _ _ _) ?_
  refine View.allAt_cons_unit _ _ _ _ _ (ytile u o t d h g b n 4 _ _ _) ?_
  refine View.allAt_cons_unit _ _ _ _ _ (ytile u o t d h g b n 3 _ _ _) ?_
  refine View.allAt_cons_unit _ _ _ _ _ (ytile u o t d h g b n 2 _ _ _) ?_
  refine View.allAt_cons_unit _ _ _ _ _ (ytile u o t d h g b n 1 _ _ _) ?_
  refine View.allAt_cons_unit _ _ _ _ _ (ytile u o t d h g b n 0 _ _ _) ?_
  exact View.allAt_nil _ _

variable (m : (ℓ : Loc nD τ sig) → Buf (Elt Ideal) ℓ)

/-- The sample rows. -/
abbrev rows (c : Dev nD) : Vec Ideal S64x1024 .f32 := m ((c : Thread nD τ).loc main_arg0)
/-- The states' real part. -/
abbrev stateRe (c : Dev nD) : Vec Ideal S4x8x64x64 .f32 := m ((c : Thread nD τ).loc main_arg1)
/-- The states' imaginary part. -/
abbrev stateIm (c : Dev nD) : Vec Ideal S4x8x64x64 .f32 := m ((c : Thread nD τ).loc main_arg2)
/-- The eighth power of the decay, real part. -/
abbrev qRe (c : Dev nD) : Vec Ideal S4x64x64 .f32 := m ((c : Thread nD τ).loc main_arg3)
/-- The eighth power of the decay, imaginary part. -/
abbrev qIm (c : Dev nD) : Vec Ideal S4x64x64 .f32 := m ((c : Thread nD τ).loc main_arg4)
/-- The input-to-state weights, real part. -/
abbrev wsRe (c : Dev nD) : Vec Ideal S4x64x8x16x64 .f32 := m ((c : Thread nD τ).loc main_arg5)
/-- The input-to-state weights, imaginary part. -/
abbrev wsIm (c : Dev nD) : Vec Ideal S4x64x8x16x64 .f32 := m ((c : Thread nD τ).loc main_arg6)
/-- The state-to-output weights. -/
abbrev wOut (c : Dev nD) : Vec Ideal S4x64x128x8x16 .f32 := m ((c : Thread nD τ).loc main_arg7)
/-- The input-to-output weights. -/
abbrev toep (c : Dev nD) : Vec Ideal S4x64x8x16x8x16 .f32 := m ((c : Thread nD τ).loc main_arg8)
/-- The skip weights. -/
abbrev skip (c : Dev nD) : Vec Ideal S4x64x16 .f32 := m ((c : Thread nD τ).loc main_arg9)

/-- The two halves of 128 lanes. -/
def both (f g : Fin 64 → EReal) (n : Fin 128) : EReal := if h : n.val < 64 then f ⟨n.val, h⟩ else g ⟨n.val - 64, by omega⟩

/-- The step and the channel of a lane. -/
abbrev hi (p : Fin 128) : Fin 8 := ⟨p.val / 16, by omega⟩
abbrev lo (p : Fin 128) : Fin 16 := ⟨p.val % 16, by omega⟩

/-- The region finds the states, real part before imaginary part. -/
theorem V_h (c : Dev nD) (g : Fin 64) (b : Fin 8) (n : Fin 128) :
    (V m c main_v28 : Vec Ideal S64x8x128 .f32) (ix3 g b n)
      = both (fun n => stateRe m c (ix4 0 b g n)) (fun n => stateIm m c (ix4 0 b g n)) n := by
  unfold_abbrev_sides
  after_reads_simp
  pointwise
  unfold both
  split
  · after_reads_simp
    pointwise
  · after_reads_simp
    pointwise
/-- It finds the decay's real part, twice. -/
theorem V_a0 (c : Dev nD) (l : Fin 4) (g : Fin 64) (n : Fin 128) :
    (V m c main_v7 : Vec Ideal S4x64x8x128 .f32) (ix4 l g 0 n) = both (fun n => qRe m c (ix3 l g n)) (fun n => qRe m c (ix3 l g n)) n := by
  unfold_abbrev_sides
  after_reads_simp
  pointwise
  after_reads_simp
  pointwise
  rfl
/-- It finds the decay's imaginary part, first negated. -/
theorem V_a1 (c : Dev nD) (l : Fin 4) (g : Fin 64) (n : Fin 128) :
    (V m c main_v7 : Vec Ideal S4x64x8x128 .f32) (ix4 l g 1 n) = both (fun n => -qIm m c (ix3 l g n)) (fun n => qIm m c (ix3 l g n)) n := by
  unfold_abbrev_sides
  after_reads_simp
  pointwise
  after_reads_simp
  pointwise
  rfl
/-- It finds the rows, by group. -/
theorem V_u (c : Dev nD) (g : Fin 64) (b : Fin 8) (p : Fin 128) :
    (V m c main_v22 : Vec Ideal S64x8x128 .f32) (ix3 g b p) = rows m c (ix2 ⟨b.val * 8 + (hi p).val, by have := (hi p).isLt; omega⟩ ⟨g.val * 16 + (lo p).val, by have := (lo p).isLt; omega⟩) := by
  unfold_abbrev_sides
  after_reads_simp
  pointwise
/-- It finds the input-to-state weights, real part before imaginary part. -/
theorem V_w (c : Dev nD) (l : Fin 4) (g : Fin 64) (p : Fin 128) (n : Fin 128) :
    (V m c main_v15 : Vec Ideal S4x64x128x128 .bf16) (ix4 l g p n)
      = both (fun n => wsRe m c (ix5 l g (hi p) (lo p) n)) (fun n => wsIm m c (ix5 l g (hi p) (lo p) n)) n := by
  unfold_abbrev_sides
  after_reads_simp
  pointwise
  rfl
/-- It finds the state-to-output weights. -/
theorem V_o (c : Dev nD) (l : Fin 4) (g : Fin 64) (n p : Fin 128) :
    (V m c main_v17 : Vec Ideal S4x64x128x128 .bf16) (ix4 l g n p) = wOut m c (ix5 l g n (hi p) (lo p)) := by
  unfold_abbrev_sides
  after_reads_simp
  pointwise
/-- It finds the input-to-output weights. -/
theorem V_t (c : Dev nD) (l : Fin 4) (g : Fin 64) (p q : Fin 128) :
    (V m c main_v19 : Vec Ideal S4x64x128x128 .bf16) (ix4 l g p q) = toep m c (ix6 l g (hi p) (lo p) (hi q) (lo q)) := by
  unfold_abbrev_sides
  after_reads_simp
  pointwise
/-- It finds the skip weights, repeated for the eight steps. -/
theorem V_d (c : Dev nD) (l : Fin 4) (g : Fin 64) (q : Fin 128) :
    (V m c main_v13 : Vec Ideal S4x64x1x128 .f32) (ix4 l g 0 q) = skip m c (ix3 l g (lo q)) := by
  unfold_abbrev_sides
  after_reads_simp
  pointwise

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 4) = 0 ∧ win0_1.index t (1 : Fin 4) = t.val ∧ win0_1.index t (2 : Fin 4) = 0 ∧ win0_1.index t (3 : Fin 4) = 0 :=
  (by decide +kernel : ∀ t : Fin grid0.N, _)
theorem idx2 : ∀ t : Fin cfg0.N, win0_2.index t (0 : Fin 4) = 0 ∧ win0_2.index t (1 : Fin 4) = t.val ∧ win0_2.index t (2 : Fin 4) = 0 ∧ win0_2.index t (3 : Fin 4) = 0 :=
  (by decide +kernel : ∀ t : Fin grid0.N, _)
theorem idx3 : ∀ t : Fin cfg0.N, win0_3.index t (0 : Fin 4) = 0 ∧ win0_3.index t (1 : Fin 4) = t.val ∧ win0_3.index t (2 : Fin 4) = 0 ∧ win0_3.index t (3 : Fin 4) = 0 :=
  (by decide +kernel : ∀ t : Fin grid0.N, _)
theorem idx4 : ∀ t : Fin cfg0.N, win0_4.index t (0 : Fin 4) = 0 ∧ win0_4.index t (1 : Fin 4) = t.val ∧ win0_4.index t (2 : Fin 4) = 0 ∧ win0_4.index t (3 : Fin 4) = 0 :=
  (by decide +kernel : ∀ t : Fin grid0.N, _)
theorem idx5 : ∀ t : Fin cfg0.N, win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)

/-- A group of a point's eight, among all the groups. -/
abbrev grp (t : Fin cfg0.N) (g : Fin 8) : Fin 64 := ⟨t.val * 8 + g.val, by have h : t.val < cfg0.N := t.isLt; have h1 : cfg0.N = 8 := N_0; omega⟩

/-! The blocks of a point are its eight groups' parts of what the region finds. -/

theorem blk_u (c : Dev nD) (t : Fin cfg0.N) (g b : Fin 8) (p : Fin 128) :
    (iblk m c 0 t : Vec Ideal S8x8x128 .f32) (ix3 g b p) = (V m c main_v22 : Vec Ideal S64x8x128 .f32) (ix3 (grp t g) b p) := by
  unfold iblk
  rw [View.read_apply]
  show V m c main_v22 _ = _
  congr 1; funext a; apply Fin.ext
  match a with
  | ⟨0, _⟩ => show win0_0.index t (0 : Fin 3) * 8 + 1 * g.val = t.val * 8 + g.val; rw [(idx0 t).1]; omega
  | ⟨1, _⟩ => show win0_0.index t (1 : Fin 3) * 8 + 1 * b.val = b.val; rw [(idx0 t).2.1]; omega
  | ⟨2, _⟩ => show win0_0.index t (2 : Fin 3) * 128 + 1 * p.val = p.val; rw [(idx0 t).2.2]; omega
theorem blk_w (c : Dev nD) (t : Fin cfg0.N) (g : Fin 8) (p : Fin 128) (q : Fin 128) :
    (iblk m c 1 t : Vec Ideal S1x8x128x128 .bf16) (ix4 0 g p q) = (V m c main_v15 : Vec Ideal S4x64x128x128 .bf16) (ix4 0 (grp t g) p q) := by
  unfold iblk
  rw [View.read_apply]
  show V m c main_v15 _ = _
  congr 1; funext a; apply Fin.ext
  match a with
  | ⟨0, _⟩ => show win0_1.index t (0 : Fin 4) * 1 + 1 * 0 = 0; rw [(idx1 t).1]
  | ⟨1, _⟩ => show win0_1.index t (1 : Fin 4) * 8 + 1 * g.val = t.val * 8 + g.val; rw [(idx1 t).2.1]; omega
  | ⟨2, _⟩ => show win0_1.index t (2 : Fin 4) * 128 + 1 * p.val = p.val; rw [(idx1 t).2.2.1]; omega
  | ⟨3, _⟩ => show win0_1.index t (3 : Fin 4) * 128 + 1 * q.val = q.val; rw [(idx1 t).2.2.2]; omega
theorem blk_o (c : Dev nD) (t : Fin cfg0.N) (g : Fin 8) (p : Fin 128) (q : Fin 128) :
    (iblk m c 2 t : Vec Ideal S1x8x128x128 .bf16) (ix4 0 g p q) = (V m c main_v17 : Vec Ideal S4x64x128x128 .bf16) (ix4 0 (grp t g) p q) := by
  unfold iblk
  rw [View.read_apply]
  show V m c main_v17 _ = _
  congr 1; funext a; apply Fin.ext
  match a with
  | ⟨0, _⟩ => show win0_2.index t (0 : Fin 4) * 1 + 1 * 0 = 0; rw [(idx2 t).1]
  | ⟨1, _⟩ => show win0_2.index t (1 : Fin 4) * 8 + 1 * g.val = t.val * 8 + g.val; rw [(idx2 t).2.1]; omega
  | ⟨2, _⟩ => show win0_2.index t (2 : Fin 4) * 128 + 1 * p.val = p.val; rw [(idx2 t).2.2.1]; omega
  | ⟨3, _⟩ => show win0_2.index t (3 : Fin 4) * 128 + 1 * q.val = q.val; rw [(idx2 t).2.2.2]; omega
theorem blk_t (c : Dev nD) (t : Fin cfg0.N) (g : Fin 8) (p : Fin 128) (q : Fin 128) :
    (iblk m c 3 t : Vec Ideal S1x8x128x128 .bf16) (ix4 0 g p q) = (V m c main_v19 : Vec Ideal S4x64x128x128 .bf16) (ix4 0 (grp t g) p q) := by
  unfold iblk
  rw [View.read_apply]
  show V m c main_v19 _ = _
  congr 1; funext a; apply Fin.ext
  match a with
  | ⟨0, _⟩ => show win0_3.index t (0 : Fin 4) * 1 + 1 * 0 = 0; rw [(idx3 t).1]
  | ⟨1, _⟩ => show win0_3.index t (1 : Fin 4) * 8 + 1 * g.val = t.val * 8 + g.val; rw [(idx3 t).2.1]; omega
  | ⟨2, _⟩ => show win0_3.index t (2 : Fin 4) * 128 + 1 * p.val = p.val; rw [(idx3 t).2.2.1]; omega
  | ⟨3, _⟩ => show win0_3.index t (3 : Fin 4) * 128 + 1 * q.val = q.val; rw [(idx3 t).2.2.2]; omega
theorem blk_d (c : Dev nD) (t : Fin cfg0.N) (g : Fin 8) (p : Fin 1) (q : Fin 128) :
    (iblk m c 4 t : Vec Ideal S1x8x1x128 .f32) (ix4 0 g p q) = (V m c main_v13 : Vec Ideal S4x64x1x128 .f32) (ix4 0 (grp t g) p q) := by
  unfold iblk
  rw [View.read_apply]
  show V m c main_v13 _ = _
  congr 1; funext a; apply Fin.ext
  match a with
  | ⟨0, _⟩ => show win0_4.index t (0 : Fin 4) * 1 + 1 * 0 = 0; rw [(idx4 t).1]
  | ⟨1, _⟩ => show win0_4.index t (1 : Fin 4) * 8 + 1 * g.val = t.val * 8 + g.val; rw [(idx4 t).2.1]; omega
  | ⟨2, _⟩ => show win0_4.index t (2 : Fin 4) * 1 + 1 * p.val = p.val; rw [(idx4 t).2.2.1]; omega
  | ⟨3, _⟩ => show win0_4.index t (3 : Fin 4) * 128 + 1 * q.val = q.val; rw [(idx4 t).2.2.2]; omega
theorem blk_a (c : Dev nD) (t : Fin cfg0.N) (g : Fin 8) (p : Fin 8) (q : Fin 128) :
    (iblk m c 5 t : Vec Ideal S1x8x8x128 .f32) (ix4 0 g p q) = (V m c main_v7 : Vec Ideal S4x64x8x128 .f32) (ix4 0 (grp t g) p q) := by
  unfold iblk
  rw [View.read_apply]
  show V m c main_v7 _ = _
  congr 1; funext a; apply Fin.ext
  match a with
  | ⟨0, _⟩ => show win0_5.index t (0 : Fin 4) * 1 + 1 * 0 = 0; rw [(idx5 t).1]
  | ⟨1, _⟩ => show win0_5.index t (1 : Fin 4) * 8 + 1 * g.val = t.val * 8 + g.val; rw [(idx5 t).2.1]; omega
  | ⟨2, _⟩ => show win0_5.index t (2 : Fin 4) * 8 + 1 * p.val = p.val; rw [(idx5 t).2.2.1]; omega
  | ⟨3, _⟩ => show win0_5.index t (3 : Fin 4) * 128 + 1 * q.val = q.val; rw [(idx5 t).2.2.2]; omega
theorem blk_h (c : Dev nD) (t : Fin cfg0.N) (g b : Fin 8) (p : Fin 128) :
    (iblk m c 6 t : Vec Ideal S8x8x128 .f32) (ix3 g b p) = (V m c main_v28 : Vec Ideal S64x8x128 .f32) (ix3 (grp t g) b p) := by
  unfold iblk
  rw [View.read_apply]
  show V m c main_v28 _ = _
  congr 1; funext a; apply Fin.ext
  match a with
  | ⟨0, _⟩ => show win0_6.index t (0 : Fin 3) * 8 + 1 * g.val = t.val * 8 + g.val; rw [(idx6 t).1]; omega
  | ⟨1, _⟩ => show win0_6.index t (1 : Fin 3) * 8 + 1 * b.val = b.val; rw [(idx6 t).2.1]; omega
  | ⟨2, _⟩ => show win0_6.index t (2 : Fin 3) * 128 + 1 * p.val = p.val; rw [(idx6 t).2.2]; omega

/-- The row of a lane. -/
abbrev row (c : Dev nD) (g : Fin 64) (b : Fin 8) (p : Fin 128) : EReal :=
  rows m c (ix2 ⟨b.val * 8 + (hi p).val, by have := (hi p).isLt; omega⟩ ⟨g.val * 16 + (lo p).val, by have := (lo p).isLt; omega⟩)
/-- The state of a lane. -/
abbrev state (c : Dev nD) (g : Fin 64) (b : Fin 8) (n : Fin 128) : EReal :=
  both (fun n => stateRe m c (ix4 0 b g n)) (fun n => stateIm m c (ix4 0 b g n)) n

/-- One entry of the new states. -/
abbrev next (c : Dev nD) (g : Fin 64) (b : Fin 8) (n : Fin 128) : EReal :=
  both (fun n => qRe m c (ix3 0 g n)) (fun n => qRe m c (ix3 0 g n)) n * state m c g b n
    + both (fun n => -qIm m c (ix3 0 g n)) (fun n => qIm m c (ix3 0 g n)) n * state m c g b (other n)
    + dot (fun p => row m c g b p) (fun p => both (fun n => wsRe m c (ix5 0 g (hi p) (lo p) n)) (fun n => wsIm m c (ix5 0 g (hi p) (lo p) n)) n)
/-- One entry of the outputs. -/
abbrev output (c : Dev nD) (g : Fin 64) (b : Fin 8) (q : Fin 128) : EReal :=
  gelu (dot (fun p => row m c g b p) (fun p => toep m c (ix6 0 g (hi p) (lo p) (hi q) (lo q)))
    + dot (fun n => state m c g b n) (fun n => wOut m c (ix5 0 g n (hi q) (lo q))) + row m c g b q * skip m c (ix3 0 g (lo q)))

/-! What a point's blocks hold, in the arguments. -/

theorem in_u (c : Dev nD) (t : Fin cfg0.N) (g b : Fin 8) (p : Fin 128) :
    (iblk m c 0 t : Vec Ideal S8x8x128 .f32) (ix3 g b p) = row m c (grp t g) b p := (blk_u m c t g b p).trans (V_u m c _ b p)
theorem in_h (c : Dev nD) (t : Fin cfg0.N) (g b : Fin 8) (n : Fin 128) :
    (iblk m c 6 t : Vec Ideal S8x8x128 .f32) (ix3 g b n) = state m c (grp t g) b n := (blk_h m c t g b n).trans (V_h m c _ b n)
theorem in_w (c : Dev nD) (t : Fin cfg0.N) (g : Fin 8) (p n : Fin 128) :
    (iblk m c 1 t : Vec Ideal S1x8x128x128 .bf16) (ix4 0 g p n)
      = both (fun n => wsRe m c (ix5 0 (grp t g) (hi p) (lo p) n)) (fun n => wsIm m c (ix5 0 (grp t g) (hi p) (lo p) n)) n :=
  (blk_w m c t g p n).trans (V_w m c 0 _ p n)
theorem in_o (c : Dev nD) (t : Fin cfg0.N) (g : Fin 8) (n p : Fin 128) :
    (iblk m c 2 t : Vec Ideal S1x8x128x128 .bf16) (ix4 0 g n p) = wOut m c (ix5 0 (grp t g) n (hi p) (lo p)) :=
  (blk_o m c t g n p).trans (V_o m c 0 _ n p)
theorem in_t (c : Dev nD) (t : Fin cfg0.N) (g : Fin 8) (p q : Fin 128) :
    (iblk m c 3 t : Vec Ideal S1x8x128x128 .bf16) (ix4 0 g p q) = toep m c (ix6 0 (grp t g) (hi p) (lo p) (hi q) (lo q)) :=
  (blk_t m c t g p q).trans (V_t m c 0 _ p q)
theorem in_d (c : Dev nD) (t : Fin cfg0.N) (g : Fin 8) (q : Fin 128) :
    (iblk m c 4 t : Vec Ideal S1x8x1x128 .f32) (ix4 0 g 0 q) = skip m c (ix3 0 (grp t g) (lo q)) :=
  (blk_d m c t g 0 q).trans (V_d m c 0 _ q)
theorem in_a0 (c : Dev nD) (t : Fin cfg0.N) (g : Fin 8) (n : Fin 128) :
    (iblk m c 5 t : Vec Ideal S1x8x8x128 .f32) (ix4 0 g 0 n) = both (fun n => qRe m c (ix3 0 (grp t g) n)) (fun n => qRe m c (ix3 0 (grp t g) n)) n :=
  (blk_a m c t g 0 n).trans (V_a0 m c 0 _ n)
theorem in_a1 (c : Dev nD) (t : Fin cfg0.N) (g : Fin 8) (n : Fin 128) :
    (iblk m c 5 t : Vec Ideal S1x8x8x128 .f32) (ix4 0 g 1 n) = both (fun n => -qIm m c (ix3 0 (grp t g) n)) (fun n => qIm m c (ix3 0 (grp t g) n)) n :=
  (blk_a m c t g 1 n).trans (V_a1 m c 0 _ n)

/-- The block of new states a point leaves, in the arguments. -/
theorem block8 (c : Dev nD) (t : Fin cfg0.N) (g b : Fin 8) (n : Fin 128) :
    out0_8 (iblk m c 0 t) (iblk m c 1 t) (iblk m c 2 t) (iblk m c 3 t) (iblk m c 4 t) (iblk m c 5 t) (iblk m c 6 t) (ix3 g b n)
      = next m c (grp t g) b n := by
  rw [step]
  unfold entry
  simp only [in_u, in_w, in_a0, in_a1, in_h]
/-- The block of outputs a point leaves, in the arguments. -/
theorem block7 (c : Dev nD) (t : Fin cfg0.N) (g b : Fin 8) (n : Fin 128) :
    out0_7 (iblk m c 0 t) (iblk m c 1 t) (iblk m c 2 t) (iblk m c 3 t) (iblk m c 4 t) (iblk m c 5 t) (iblk m c 6 t) (ix3 g b n)
      = output m c (grp t g) b n := by
  rw [ystep]
  unfold yentry
  simp only [in_u, in_o, in_t, in_d, in_h]

/-- Every point writes its blocks back. -/
theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)

/-- The array of outputs, entry by entry. -/
theorem out_apply7 (c : Dev nD) (g : Fin 64) (b : Fin 8) (n : Fin 128) :
    ((dats m 0 c).arrAt 7 cfg0.N : Vec Ideal S64x8x128 .f32) (ix3 g b n) = output m c g b n := by
  have h1 : cfg0.N = 8 := N_0
  have hN : g.val / 8 < cfg0.N := by omega
  obtain ⟨t, ht⟩ : ∃ t : Fin cfg0.N, t.val = g.val / 8 := ⟨⟨g.val / 8, hN⟩, rfl⟩
  obtain ⟨r, hr⟩ : ∃ r : Fin 8, r.val = g.val % 8 := ⟨⟨g.val % 8, by omega⟩, rfl⟩
  have hg : grp t r = g := Fin.ext (by show t.val * 8 + r.val = g.val; omega)
  have h := congrFun (blocks7 m c t (flush7 t)) (ix3 r b n : S8x8x128.Idx)
  rw [flushed7, View.read_apply] at h
  refine Eq.trans ?_ (h.trans ((block7 m c t r b n).trans (by rw [hg])))
  congr 1; funext a; apply Fin.ext
  match a with
  | ⟨0, _⟩ => show g.val = win0_7.index t (0 : Fin 3) * 8 + 1 * r.val; rw [(idx7 t).1]; omega
  | ⟨1, _⟩ => show b.val = win0_7.index t (1 : Fin 3) * 8 + 1 * b.val; rw [(idx7 t).2.1]; omega
  | ⟨2, _⟩ => show n.val = win0_7.index t (2 : Fin 3) * 128 + 1 * n.val; rw [(idx7 t).2.2]; omega

/-- The array of new states, entry by entry. -/
theorem out_apply8 (c : Dev nD) (g : Fin 64) (b : Fin 8) (n : Fin 128) :
    ((dats m 0 c).arrAt 8 cfg0.N : Vec Ideal S64x8x128 .f32) (ix3 g b n) = next m c g b n := by
  have h1 : cfg0.N = 8 := N_0
  have hN : g.val / 8 < cfg0.N := by omega
  obtain ⟨t, ht⟩ : ∃ t : Fin cfg0.N, t.val = g.val / 8 := ⟨⟨g.val / 8, hN⟩, rfl⟩
  obtain ⟨r, hr⟩ : ∃ r : Fin 8, r.val = g.val % 8 := ⟨⟨g.val % 8, by omega⟩, rfl⟩
  have hg : grp t r = g := Fin.ext (by show t.val * 8 + r.val = g.val; omega)
  have h := congrFun (blocks8 m c t (flush8 t)) (ix3 r b n : S8x8x128.Idx)
  rw [flushed8, View.read_apply] at h
  refine Eq.trans ?_ (h.trans ((block8 m c t r b n).trans (by rw [hg])))
  congr 1; funext a; apply Fin.ext
  match a with
  | ⟨0, _⟩ => show g.val = win0_8.index t (0 : Fin 3) * 8 + 1 * r.val; rw [(idx8 t).1]; omega
  | ⟨1, _⟩ => show b.val = win0_8.index t (1 : Fin 3) * 8 + 1 * b.val; rw [(idx8 t).2.1]; omega
  | ⟨2, _⟩ => show n.val = win0_8.index t (2 : Fin 3) * 128 + 1 * n.val; rw [(idx8 t).2.2]; omega

end Cert.Kernel17Ideal.State
-- ==== Proof.StateClaim.lean ====
/-
  The plain S5 program's results on the sample rows, and that the kernel's are the same.
-/
module

public import proofs.«01_k».proof.Defs
public import proofs.«01_k».proof.Proof.State
public import proofs.«01_k».proof.Proof.Gen.Reference17Ideal.Run
public import proofs.«01_k».proof.Proof.Gen.Reference17Ideal.Read
public import Idealize.ShloMosaic.Lib.Quiescent

@[expose] public section

set_option maxRecDepth 16384

noncomputable section

namespace Cert.State

open Idealize.ShloMosaic Idealize.ShloMosaic.TcCoe Idealize.SL.Sem
open Cert.Reference17Ideal Cert.Reference17Ideal.Read Cert.Layer
open Cert.Kernel17Ideal.State (both hi lo other gelu)

/-- A lane is a step and a channel. -/
def laneEquiv : Fin 128 ≃ Fin 16 × Fin 8 where
  toFun p := (lo p, hi p)
  invFun x := ⟨x.2.val * 16 + x.1.val, by have := x.1.isLt; have := x.2.isLt; omega⟩
  left_inv p := Fin.ext (by show p.val / 16 * 16 + p.val % 16 = p.val; omega)
  right_inv x := by
    have h1 := x.1.isLt
    have h2 := x.2.isLt
    refine Prod.ext (Fin.ext ?_) (Fin.ext ?_)
    · show (x.2.val * 16 + x.1.val) % 16 = x.1.val; omega
    · show (x.2.val * 16 + x.1.val) / 16 = x.2.val; omega

/-- A sum over the channels and the steps is a sum over the lanes. -/
theorem sum_lanes (f : Fin 16 → Fin 8 → EReal) : ∑ c, ∑ t, f c t = ∑ p : Fin 128, f (lo p) (hi p) := by
  rw [← Fintype.sum_prod_type']
  exact (Equiv.sum_comp laneEquiv (fun x => f x.1 x.2)).symm

variable (s : Vec Ideal S64x1024 .f32) (hr hm : Vec Ideal S4x8x64x64 .f32) (qr qm : Vec Ideal S4x64x64 .f32)
  (wr wm : Vec Ideal S4x64x8x16x64 .f32) (wo : Vec Ideal S4x64x128x8x16 .f32) (tp : Vec Ideal S4x64x8x16x8x16 .f32) (d : Vec Ideal S4x64x16 .f32)

/-- A row's entry at a step and a channel of a group. -/
theorem u_apply (b t : Fin 8) (g : Fin 64) (c : Fin 16) :
    val_main_v8 (F := Ideal) s (ix4 b t g c) = s (ix2 ⟨b.val * 8 + t.val, by omega⟩ ⟨g.val * 16 + c.val, by omega⟩) := by
  pointwise [val_main_v8]

/-- The rows' part of the new state, over the lanes. -/
theorem x_re (b : Fin 8) (g n : Fin 64) :
    val_main_v12 (F := Ideal) s wr (ix3 b g n)
      = dot (fun p => s (ix2 ⟨b.val * 8 + (hi p).val, by have := (hi p).isLt; omega⟩ ⟨g.val * 16 + (lo p).val, by have := (lo p).isLt; omega⟩))
          (fun p => wr (ix5 0 g (hi p) (lo p) n)) := by
  pointwise [val_main_v12, val_main_v11, val_main_v10, val_main_v9]
  simp only [u_apply]
  refine (sum_lanes _).trans (Finset.sum_congr rfl fun p _ => mul_comm _ _)
theorem x_im (b : Fin 8) (g n : Fin 64) :
    val_main_v16 (F := Ideal) s wm (ix3 b g n)
      = dot (fun p => s (ix2 ⟨b.val * 8 + (hi p).val, by have := (hi p).isLt; omega⟩ ⟨g.val * 16 + (lo p).val, by have := (lo p).isLt; omega⟩))
          (fun p => wm (ix5 0 g (hi p) (lo p) n)) := by
  pointwise [val_main_v16, val_main_v15, val_main_v14, val_main_v13]
  simp only [u_apply]
  refine (sum_lanes _).trans (Finset.sum_congr rfl fun p _ => mul_comm _ _)

/-- The new state's real part. -/
theorem out_re (b : Fin 8) (g n : Fin 64) :
    val_main_v24 (F := Ideal) s hr hm qr qm wr (ix3 b g n)
      = qr (ix3 0 g n) * hr (ix4 0 b g n) - qm (ix3 0 g n) * hm (ix4 0 b g n) + val_main_v12 (F := Ideal) s wr (ix3 b g n) := by
  pointwise [val_main_v24, val_main_v23, val_main_v22, val_main_v21, val_main_v20, val_main_v19, val_main_v18, val_main_v17, val_main_v7, val_main_v6, val_main_v5, val_main_v4, val_main_v3, val_main_v2, val_main_v1, val_main_v0]
/-- The new state's imaginary part. -/
theorem out_im (b : Fin 8) (g n : Fin 64) :
    val_main_v32 (F := Ideal) s hr hm qr qm wm (ix3 b g n)
      = qr (ix3 0 g n) * hm (ix4 0 b g n) + qm (ix3 0 g n) * hr (ix4 0 b g n) + val_main_v16 (F := Ideal) s wm (ix3 b g n) := by
  pointwise [val_main_v32, val_main_v31, val_main_v30, val_main_v29, val_main_v28, val_main_v27, val_main_v26, val_main_v25, val_main_v7, val_main_v6, val_main_v5, val_main_v4, val_main_v3, val_main_v2, val_main_v1, val_main_v0]
/-- The new states, both parts. -/
theorem state_apply (g : Fin 64) (b : Fin 8) (n : Fin 128) :
    val_main_v65 (F := Ideal) s hr hm qr qm wr wm (ix3 g b n)
      = both (fun n => val_main_v24 (F := Ideal) s hr hm qr qm wr (ix3 b g n)) (fun n => val_main_v32 (F := Ideal) s hr hm qr qm wm (ix3 b g n)) n := by
  pointwise [val_main_v65, val_main_v64]
  rfl

/-- The states, both parts. -/
theorem h_apply (b : Fin 8) (g : Fin 64) (n : Fin 128) :
    val_main_v33 (F := Ideal) hr hm (ix3 b g n) = both (fun n => hr (ix4 0 b g n)) (fun n => hm (ix4 0 b g n)) n := by
  pointwise [val_main_v33, val_main_v3, val_main_v2, val_main_v1, val_main_v0]
  rfl
/-- The rows' part of an output. -/
theorem tp_apply (b t : Fin 8) (g : Fin 64) (c : Fin 16) :
    val_main_v37 (F := Ideal) s tp (ix4 b t g c)
      = dot (fun p => s (ix2 ⟨b.val * 8 + (hi p).val, by have := (hi p).isLt; omega⟩ ⟨g.val * 16 + (lo p).val, by have := (lo p).isLt; omega⟩))
          (fun p => tp (ix6 0 g (hi p) (lo p) t c)) := by
  pointwise [val_main_v37, val_main_v36, val_main_v35, val_main_v34]
  simp only [u_apply]
  refine (sum_lanes _).trans (Finset.sum_congr rfl fun p _ => mul_comm _ _)
/-- The states' part of an output. -/
theorem wo_apply (b t : Fin 8) (g : Fin 64) (c : Fin 16) :
    val_main_v41 (F := Ideal) hr hm wo (ix4 b t g c)
      = dot (fun n => both (fun n => hr (ix4 0 b g n)) (fun n => hm (ix4 0 b g n)) n) (fun n => wo (ix5 0 g n t c)) := by
  pointwise [val_main_v41, val_main_v40, val_main_v39, val_main_v38]
  simp only [h_apply]
  exact Finset.sum_congr rfl fun p _ => mul_comm _ _
/-- An output before the gelu. -/
theorem y_apply (b t : Fin 8) (g : Fin 64) (c : Fin 16) :
    val_main_v48 (F := Ideal) s hr hm wo tp d (ix4 b t g c)
      = val_main_v37 (F := Ideal) s tp (ix4 b t g c) + val_main_v41 (F := Ideal) hr hm wo (ix4 b t g c) + val_main_v8 (F := Ideal) s (ix4 b t g c) * d (ix3 0 g c) := by
  pointwise [val_main_v48, val_main_v47, val_main_v46, val_main_v45, val_main_v44, val_main_v43, val_main_v42]
  rw [mul_comm]
/-- The gelu, with its factors in the other order. -/
theorem gelu_eq (y : EReal) :
    y * (Ideal.ofBits .f32 0x3F000000#32 * (1 + Ideal.tanh (Ideal.ofBits .f32 0x3F4C422A#32 * (y + Ideal.ofBits .f32 0x3D372713#32 * (y * y * y))))) = gelu y := by
  unfold gelu
  rw [← mul_assoc, mul_comm y]
/-- An output. -/
theorem z_apply (g : Fin 64) (b : Fin 8) (q : Fin 128) :
    val_main_v63 (F := Ideal) s hr hm wo tp d (ix3 g b q) = gelu (val_main_v48 (F := Ideal) s hr hm wo tp d (ix4 b (hi q) g (lo q))) := by
  pointwise [val_main_v63, val_main_v62, val_main_v61, val_main_v60, val_main_v59, val_main_v58, val_main_v57, val_main_v56, val_main_v55, val_main_v54, val_main_v53, val_main_v52, val_main_v51, val_main_v50, val_main_v49, val_main_cst, val_main_cst_0, val_main_cst_1, val_main_cst_2]
  exact gelu_eq _

/-- The lane that holds the other part, by halves. -/
theorem both_other (f g : Fin 64 → EReal) (n : Fin 128) : both f g (other n) = both g f n := by
  unfold both other
  by_cases h : n.val < 64
  · rw [dif_pos h, dif_neg (by show ¬ (n.val + 64) % 128 < 64; omega)]
    congr 1; exact Fin.ext (by show (n.val + 64) % 128 - 64 = n.val; omega)
  · rw [dif_neg h, dif_pos (by show (n.val + 64) % 128 < 64; omega)]
    congr 1; exact Fin.ext (by show (n.val + 64) % 128 = n.val - 64; omega)

/-- The new state by halves: the complex product of the decay and the state, plus the rows' part. -/
theorem next_eq (a r i e : Fin 64 → EReal) (x : Fin 128 → EReal) (wr wm : Fin 128 → Fin 64 → EReal) (n : Fin 128) :
    both (fun n => a n * r n - e n * i n + dot x (fun p => wr p n)) (fun n => a n * i n + e n * r n + dot x (fun p => wm p n)) n
      = both a a n * both r i n + both (fun n => -e n) e n * both r i (other n) + dot x (fun p => both (wr p) (wm p) n) := by
  rw [both_other]
  unfold both
  by_cases h : n.val < 64
  · simp only [dif_pos h, sub_eq_add_neg, EReal.neg_mul]
  · simp only [dif_neg h]

section
variable (m : (ℓ : Loc Cert.Kernel17Ideal.nD Cert.Kernel17Ideal.τ Cert.Kernel17Ideal.sig) → Buf (Elt Ideal) ℓ) (c : Dev Cert.Kernel17Ideal.nD)
open Cert.Kernel17Ideal.State

/-- The plain program's new states are the kernel's, from the same arguments. -/
theorem state_eq : val_main_v65 (F := Ideal) (rows m c) (stateRe m c) (stateIm m c) (qRe m c) (qIm m c) (wsRe m c) (wsIm m c)
      = (Cert.Kernel17Ideal.Gen.dats m 0 c).arrAt 8 Cert.Kernel17Ideal.cfg0.N := by
  funext i
  obtain ⟨g, b, n, rfl⟩ : ∃ (g : Fin 64) (b : Fin 8) (n : Fin 128), i = ix3 g b n := ⟨i 0, i 1, i 2, eq_ix3 i⟩
  refine ((state_apply _ _ _ _ _ _ _ g b n).trans ?_).trans (out_apply8 m c g b n).symm
  simp only [out_re, out_im, x_re, x_im]
  exact next_eq _ _ _ _ _ _ _ n

/-- The plain program's outputs are the kernel's, from the same arguments. -/
theorem out_eq : val_main_v63 (F := Ideal) (rows m c) (stateRe m c) (stateIm m c) (wOut m c) (toep m c) (skip m c)
      = (Cert.Kernel17Ideal.Gen.dats m 0 c).arrAt 7 Cert.Kernel17Ideal.cfg0.N := by
  funext i
  obtain ⟨g, b, n, rfl⟩ : ∃ (g : Fin 64) (b : Fin 8) (n : Fin 128), i = ix3 g b n := ⟨i 0, i 1, i 2, eq_ix3 i⟩
  refine ((z_apply _ _ _ _ _ _ g b n).trans ?_).trans (out_apply7 m c g b n).symm
  rw [y_apply, tp_apply, wo_apply, u_apply]

end

/-- The value claim. -/
theorem algebraic : Cert.algebraic_Kernel17Ideal_Reference17Ideal
    (hKernel17Ideal := Cert.Kernel17Ideal.Gen.facts) (hReference17Ideal := Cert.Reference17Ideal.Gen.facts) := by
  intro m ρ m' ρ' _ hag
  refine ⟨fun c => (Cert.Kernel17Ideal.Gen.dats m 0 c).arrAt 7 Cert.Kernel17Ideal.cfg0.N,
    fun c => (Cert.Kernel17Ideal.Gen.dats m 0 c).arrAt 8 Cert.Kernel17Ideal.cfg0.N, Cert.Kernel17Ideal.Value.run_blocks m ρ,
    (θ_run _ _ _).mono (fun r h c => ?_) (Cert.Reference17Ideal.Value.run m' ρ')⟩
  obtain ⟨a0, a1, a2, a3, a4, a5, a6, a7, a8, a9⟩ := hag c
  obtain ⟨h1, h2, hr⟩ := h c
  refine ⟨(h1.trans (val_main_v63_eq m' c)).trans ?_, (h2.trans (val_main_v65_eq _ _ _ _ _ _ _)).trans ?_, hr⟩
  · rw [a0, a1, a2, a7, a8, a9]
    exact out_eq m c
  · rw [a0, a1, a2, a3, a4, a5, a6]
    exact state_eq m c

/-- The plain program runs and leaves its arguments. -/
theorem frame_reference : Cert.quiescent_Reference17Ideal (hReference17Ideal := Cert.Reference17Ideal.Gen.facts) := by
  intro m ρ _
  exact (θ_run _ _ _).mono (fun r h => ⟨fun c => (h c).2.2, sem_eq_zero_of_no_sems rfl _⟩) (Cert.Reference17Ideal.Value.run m ρ)

end Cert.State
-- ==== Proof.Sums.lean ====
/-
  The running sums of the forget logs that the kernel leaves in its result array: each block of 512 rows is summed by a
  product with a triangle of ones, and a carried row holds the sum of the blocks before it.
-/
module

public import proofs.«01_k».proof.Proof.Gen.Kernel18Ideal.Value
public import Idealize.ShloMosaic.Lib.Pointwise

@[expose] public section

set_option maxRecDepth 16384

noncomputable section

namespace Cert.Kernel18Ideal.Sums

open Idealize.ShloMosaic Idealize.ShloMosaic.TcCoe Idealize.SL.Sem
open Cert.Kernel18Ideal Cert.Kernel18Ideal.Gen Cert.Kernel18Ideal.Value

/-- The zero offsets of a load or store of a whole matrix. -/
theorem hz : (![0, 0] : Fin 2 → Nat) = fun _ => 0 := funext fun a => by fin_cases a <;> rfl
/-- The zero offsets of a load or store of a whole stack of matrices. -/
theorem hz3 : (![0, 0, 0] : Fin 3 → Nat) = fun _ => 0 := funext fun a => by fin_cases a <;> rfl

/-! ## What one grid point leaves, as the body's named payloads -/

section
variable {F : FTy → Type} [FloatOps F]
variable (m : (ℓ : Loc nD τ sig) → Buf (Elt F) ℓ)

/-- At a sequence's first block the carried row is zero. -/
theorem step_A (c : Dev nD) (t : Fin cfg0.N) (acc : Vec F S1x8x512 .f32 × Vec F S1x128 .f32) (h : t.val % 8 = 0) :
    stAt0 m c t.val t.isLt acc = (k0_pay3 (iblk m c 0 t) k0_pay1, k0_pay4 (iblk m c 0 t) k0_pay1) := by
  rw [stAt0_A m c t acc h]
  refine Prod.ext ?_ ?_
  · dsimp only
    unfold out0_A_1
    refine (View.read_writes_eq_canon _ _ _ (fun y => cover0_A_1 _ _ _ _ _ _ _ _ _ _ y)).trans ?_
    unfold kernelRun0_A
    dsimp only
    sl_unfold_words
    rw [View.canon_unit_zero hz3]
    simp only [View.readAt_eq_ld, View.readCov_unit_zero (S := S1x128) _ hz, (hs0_0 t).read_unread, View.ld_unit_zero (S := S512x128) hz, View.ld_unit_zero (S := S1x128) hz]
  · dsimp only
    unfold sout0_A_0
    refine (View.read_writes_eq_canon _ _ _ (fun y => scover0_A_0 _ _ _ _ _ _ _ _ _ _ y)).trans ?_
    unfold kernelRun0_A
    dsimp only
    sl_unfold_words
    rw [View.canon_cons_unit_zero hz]
    simp only [View.readAt_eq_ld, View.readCov_unit_zero (S := S1x128) _ hz, (hs0_0 t).read_unread, View.ld_unit_zero (S := S512x128) hz, View.ld_unit_zero (S := S1x128) hz]

/-- At a further block the carried row is what the point before left. -/
theorem step_B (c : Dev nD) (t : Fin cfg0.N) (acc : Vec F S1x8x512 .f32 × Vec F S1x128 .f32) (h : ¬t.val % 8 = 0) :
    stAt0 m c t.val t.isLt acc = (k0_pay3 (iblk m c 0 t) acc.2, k0_pay4 (iblk m c 0 t) acc.2) := by
  rw [stAt0_B m c t acc h]
  refine Prod.ext ?_ ?_
  · dsimp only
    unfold out0_B_1
    refine (View.read_writes_eq_canon _ _ _ (fun y => cover0_B_1 _ _ _ _ _ _ _ _ _ _ _ y)).trans ?_
    unfold kernelRun0_B
    dsimp only
    sl_unfold_words
    rw [View.canon_unit_zero hz3]
    simp only [View.readAt_eq_ld, (hs0_0 t).read_unread, (Memref.isWhole_whole _ : scM0_0.IsWhole).read_unread, View.ld_unit_zero (S := S512x128) hz, View.ld_unit_zero (S := S1x128) hz]
  · dsimp only
    unfold sout0_B_0
    refine (View.read_writes_eq_canon _ _ _ (fun y => scover0_B_0 _ _ _ _ _ _ _ _ _ _ _ y)).trans ?_
    unfold kernelRun0_B
    dsimp only
    sl_unfold_words
    rw [View.canon_unit_zero hz]
    simp only [View.readAt_eq_ld, (hs0_0 t).read_unread, (Memref.isWhole_whole _ : scM0_0.IsWhole).read_unread, View.ld_unit_zero (S := S512x128) hz, View.ld_unit_zero (S := S1x128) hz]
end

/-! ## The payloads at an entry -/

/-- The triangle of ones: one at and below the diagonal, zero above. -/
theorem tri_apply (r j : Fin 512) :
    FloatOps.sitofp (F := Ideal) .f32 (BitVec.setWidth 32 (IntOp.cmpi .sle (BitVec.ofNat 32 j.val) (BitVec.ofNat 32 r.val)))
      = if j.val ≤ r.val then 1 else 0 := by
  have hj := j.isLt
  have hr := r.isLt
  have e : (BitVec.ofNat 32 j.val).sle (BitVec.ofNat 32 r.val) = decide (j.val ≤ r.val) := by
    rw [BitVec.sle, decide_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    omega
  show ((((BitVec.ofBool ((BitVec.ofNat 32 j.val).sle (BitVec.ofNat 32 r.val))).setWidth 32).toInt : ℝ) : EReal) = _
  rw [e]
  by_cases h : j.val ≤ r.val
  · rw [if_pos h, decide_eq_true h, show (BitVec.setWidth 32 (BitVec.ofBool true)).toInt = 1 by decide]
    norm_num
  · rw [if_neg h, decide_eq_false h, show (BitVec.setWidth 32 (BitVec.ofBool false)).toInt = 0 by decide]
    norm_num

/-- Entry `R` of a column, zero past its end. -/
def upTo {n : ℕ} (f : Fin n → EReal) (R : ℕ) : EReal := if h : R < n then f ⟨R, h⟩ else 0

/-- A column weighted by the triangle's row `r` sums up to row `r`. -/
theorem sum_tri (f : Fin 512 → EReal) (r : Fin 512) :
    ∑ j : Fin 512, (if j.val ≤ r.val then 1 else 0) * f j = ∑ j ∈ Finset.range (r.val + 1), upTo f j := by
  have hr := r.isLt
  have e : ∀ j : Fin 512, (if j.val ≤ r.val then 1 else 0) * f j = (fun n : ℕ => if n ≤ r.val then upTo f n else 0) j.val := fun j => by
    show _ = if j.val ≤ r.val then upTo f j.val else 0
    unfold upTo
    rw [dif_pos j.isLt]
    split
    · exact one_mul _
    · exact zero_mul _
  rw [Finset.sum_congr rfl fun j _ => e j, Fin.sum_univ_eq_sum_range (fun n : ℕ => if n ≤ r.val then upTo f n else 0) 512, ← Finset.sum_filter]
  refine Finset.sum_congr (Finset.ext fun n => ?_) fun _ _ => rfl
  rw [Finset.mem_range, Finset.mem_filter, Finset.mem_range]
  omega

/-- The running sums within a block, over the carried row. -/
theorem pay2_apply (x : Vec Ideal S512x128 .f32) (a : Vec Ideal S1x128 .f32) (r : Fin 512) (l : Fin 128) :
    k0_pay2 (F := Ideal) x a (ix2 r l) = ∑ j ∈ Finset.range (r.val + 1), upTo (fun j => x (ix2 j l)) j + a (ix2 0 l) := by
  pointwise [k0_pay2]
  rw [← sum_tri]
  simp only [tri_apply]
/-- The first eight columns of the block's sums are stored as rows. -/
theorem pay3_apply (x : Vec Ideal S512x128 .f32) (a : Vec Ideal S1x128 .f32) (h : Fin 8) (r : Fin 512) :
    k0_pay3 (F := Ideal) x a (ix3 0 h r) = k0_pay2 (F := Ideal) x a (ix2 r ⟨h.val, by omega⟩) := by
  pointwise [k0_pay3]
/-- The block's last row of sums is carried on. -/
theorem pay4_apply (x : Vec Ideal S512x128 .f32) (a : Vec Ideal S1x128 .f32) (l : Fin 128) :
    k0_pay4 (F := Ideal) x a (ix2 0 l) = k0_pay2 (F := Ideal) x a (ix2 511 l) := by
  pointwise [k0_pay4]
/-- A sequence starts from zero. -/
theorem pay1_apply (l : Fin 128) : k0_pay1 (F := Ideal) (ix2 0 l) = 0 := by
  pointwise [k0_pay1]

/-! ## The blocks and the fold -/

variable (m : (ℓ : Loc nD τ sig) → Buf (Elt Ideal) ℓ)

/-- The forget logs. -/
abbrev logs (c : Dev nD) : Vec Ideal S8192x128 .f32 := m ((c : Thread nD τ).loc main_arg0)
/-- Column `l` of sequence `b`. -/
abbrev col (c : Dev nD) (b : Fin 2) (l : Fin 128) : Fin 4096 → EReal :=
  fun j => logs m c (ix2 ⟨b.val * 4096 + j.val, by omega⟩ l)

theorem idx0 : ∀ t : Fin cfg0.N, win0_0.index t (0 : Fin 2) = t.val ∧ win0_0.index t (1 : Fin 2) = 0 :=
  (by decide +kernel : ∀ t : Fin grid0.N, _)
/-- The rows of a point's block. -/
theorem blk_x (c : Dev nD) (t : Fin cfg0.N) (r : Fin 512) (l : Fin 128) (R : Fin 8192) (hR : R.val = 512 * t.val + r.val) :
    (iblk m c 0 t : Vec Ideal S512x128 .f32) (ix2 r l) = logs m c (ix2 R l) := by
  unfold iblk
  rw [View.read_apply]
  show V m c main_arg0 _ = _
  rw [V_main_arg0]
  congr 1; funext a; apply Fin.ext
  match a with
  | ⟨0, _⟩ => show win0_0.index t (0 : Fin 2) * 512 + 1 * r.val = R.val; rw [(idx0 t).1]; omega
  | ⟨1, _⟩ => show win0_0.index t (1 : Fin 2) * 128 + 1 * l.val = l.val; rw [(idx0 t).2]; omega

/-- A block's sum up to row `r` continues the sequence's sum over the blocks before it. -/
theorem sum_grow (c : Dev nD) (t : Fin cfg0.N) (b : Fin 2) (hb : b.val = t.val / 8) (l : Fin 128) (r : Fin 512) :
    ∑ j ∈ Finset.range (r.val + 1), upTo (fun j => (iblk m c 0 t : Vec Ideal S512x128 .f32) (ix2 j l)) j
        + ∑ j ∈ Finset.range (512 * (t.val % 8)), upTo (col m c b l) j
      = ∑ j ∈ Finset.range (512 * (t.val % 8) + r.val + 1), upTo (col m c b l) j := by
  have hr := r.isLt
  rw [Nat.add_assoc, add_comm, Finset.sum_range_add (upTo (col m c b l))]
  refine congrArg₂ (· + ·) rfl ?_
  refine Finset.sum_congr rfl fun j hj => ?_
  have hj' := Finset.mem_range.1 hj
  have h1 : j < 512 := by omega
  have h2 : 512 * (t.val % 8) + j < 4096 := by omega
  unfold upTo
  rw [dif_pos h1, dif_pos h2]
  exact blk_x m c t ⟨j, h1⟩ l ⟨b.val * 4096 + (512 * (t.val % 8) + j), by omega⟩ (by dsimp only; omega)

/-- What the output and the carried row hold after point `n`: the sums up to each row of the block, and up to its end. -/
def Held (c : Dev nD) (n : ℕ) (o : Vec Ideal S1x8x512 .f32 × Vec Ideal S1x128 .f32) : Prop :=
  ∀ b : Fin 2, b.val = n / 8 →
    (∀ (h : Fin 8) (r : Fin 512), o.1 (ix3 0 h r) = ∑ j ∈ Finset.range (512 * (n % 8) + r.val + 1), upTo (col m c b ⟨h.val, by omega⟩) j)
    ∧ ∀ l : Fin 128, o.2 (ix2 0 l) = ∑ j ∈ Finset.range (512 * (n % 8 + 1)), upTo (col m c b l) j

/-- A point holds the sums if the row it starts from holds the sum over the blocks before. -/
theorem held_of (c : Dev nD) (t : Fin cfg0.N) (a : Vec Ideal S1x128 .f32)
    (ha : ∀ b : Fin 2, b.val = t.val / 8 → ∀ l : Fin 128, a (ix2 0 l) = ∑ j ∈ Finset.range (512 * (t.val % 8)), upTo (col m c b l) j) :
    Held m c t.val (k0_pay3 (iblk m c 0 t) a, k0_pay4 (iblk m c 0 t) a) := by
  intro b hb
  refine ⟨fun h r => ?_, fun l => ?_⟩
  · dsimp only
    rw [pay3_apply, pay2_apply, ha b hb, sum_grow m c t b hb]
  · dsimp only
    rw [pay4_apply, pay2_apply, ha b hb, sum_grow m c t b hb]
    rfl

/-- After every point the sums are held. -/
theorem held (c : Dev nD) : ∀ (n : ℕ) (hn : n < cfg0.N), Held m c n (outsAt0 m c n hn)
  | 0, hn => by
    rw [outsAt0_zero, step_A m c ⟨0, hn⟩ _ rfl]
    exact held_of m c ⟨0, hn⟩ _ fun b _ l => pay1_apply l
  | n + 1, hn => by
    rw [outsAt0_succ]
    by_cases h0 : (n + 1) % 8 = 0
    · rw [step_A m c ⟨n + 1, hn⟩ _ h0]
      refine held_of m c ⟨n + 1, hn⟩ _ fun b _ l => (pay1_apply l).trans ?_
      simp only [h0, Nat.mul_zero, Finset.range_zero, Finset.sum_empty]
    · rw [step_B m c ⟨n + 1, hn⟩ _ h0]
      refine held_of m c ⟨n + 1, hn⟩ _ fun b hb l => ((held c n (Nat.lt_of_succ_lt hn) b (by dsimp only at hb; omega)).2 l).trans ?_
      simp only [show n % 8 + 1 = (n + 1) % 8 by omega]

/-- The result array holds, for each sequence and head, the running sums of the forget logs. -/
theorem G1_apply (c : Dev nD) (b : Fin 2) (h : Fin 8) (T : Fin 4096) :
    G1 m c (ix3 b h T) = ∑ j ∈ Finset.range (T.val + 1), upTo (col m c b ⟨h.val, by omega⟩) j := by
  have hb := b.isLt
  have hh := h.isLt
  have hT := T.isLt
  have hp : pt1Of (ix3 b h T) = 8 * b.val + T.val / 512 := by
    show 8 * (b.val / 1 - 0) + 8 * (h.val / 8 - 0) + 1 * (T.val / 512 - 0) = _
    omega
  have hN : pt1Of (ix3 b h T) < cfg0.N := by rw [hp, show cfg0.N = 16 from N_0]; omega
  unfold G1
  rw [dif_pos hN, ← outsAt0_sweep m c _ hN,
    show loc1Of (ix3 b h T) = ix3 0 h ⟨T.val % 512, Nat.mod_lt _ (by decide)⟩ from
      (eq_ix3 _).trans (by congr 1 <;> apply Fin.ext <;> [exact Nat.mod_one _; exact Nat.mod_eq_of_lt hh]),
    (held m c _ hN b (by rw [hp]; omega)).1]
  rw [hp, show 512 * ((8 * b.val + T.val / 512) % 8) + T.val % 512 + 1 = T.val + 1 by omega]

end Cert.Kernel18Ideal.Sums
-- ==== Proof.SumsClaim.lean ====
/-
  The plain running sums of the forget logs, and that the kernel's are the same.
-/
module

public import proofs.«01_k».proof.Defs
public import proofs.«01_k».proof.Proof.Sums
public import proofs.«01_k».proof.Proof.Gen.Reference18Ideal.Run
public import Idealize.ShloMosaic.Lib.Quiescent

@[expose] public section

set_option maxRecDepth 16384

noncomputable section

namespace Cert.Sums

open Idealize.ShloMosaic Idealize.ShloMosaic.TcCoe Idealize.SL.Sem
open Cert.Reference18Ideal Cert.Reference18Ideal.Gen
open Cert.Kernel18Ideal.Sums (upTo col logs)

/-- A left fold that adds up is the start plus the list's sum. -/
theorem fold_sum {ι : Type} (g : ι → EReal) : ∀ (L : List ι) (v : EReal), L.foldl (fun r n => r + g n) v = v + (L.map g).sum
  | [], v => (add_zero v).symm
  | n :: L, v => (fold_sum g L (v + g n)).trans (by rw [List.map_cons, List.sum_cons, add_assoc])

/-- The window of the `N + 1` positions that end at `T` sums the entries up to `T`. -/
theorem sum_shift (f : ℕ → EReal) (N T : ℕ) (hT : T ≤ N) :
    ∑ n ∈ Finset.range (N + 1), (if N ≤ T + n then f (T + n - N) else 0) = ∑ j ∈ Finset.range (T + 1), f j := by
  rw [show N + 1 = (N - T) + (T + 1) by omega, Finset.sum_range_add,
    Finset.sum_eq_zero (s := Finset.range (N - T)) (fun n hn => if_neg (by have := Finset.mem_range.1 hn; omega)), zero_add]
  refine Finset.sum_congr rfl fun j _ => ?_
  rw [if_pos (by omega), show T + (N - T + j) - N = j by omega]

/-- The window: one sequence, 4096 positions, one column. -/
abbrev W : Shape := ⟨3, ![1, 4096, 1]⟩
/-- A position of the window is its number along the sequence. -/
theorem window_pos (n : Fin W.numel) : (W.rowMajor.symm n 0).val = 0 ∧ (W.rowMajor.symm n 1).val = n.val ∧ (W.rowMajor.symm n 2).val = 0 := by
  have h0 : (W.rowMajor.symm n 0).val < 1 := (W.rowMajor.symm n 0).isLt
  have h2 : (W.rowMajor.symm n 2).val < 1 := (W.rowMajor.symm n 2).isLt
  have e : (W.rowMajor (W.rowMajor.symm n)).val = n.val := by rw [Equiv.apply_symm_apply]
  have e' : ((W.rowMajor.symm n 0).val * 4096 + (W.rowMajor.symm n 1).val) * 1 + (W.rowMajor.symm n 2).val = n.val :=
    (Shape.rowMajor_val_three (d := ![1, 4096, 1]) (W.rowMajor.symm n)).symm.trans e
  omega

/-- The running sum along a sequence, at an entry. -/
theorem cumsum_apply (x : S2x4096x128.Idx → EReal)
    (h : S2x4096x128.ReduceWindows (![1, 4096, 1] : Fin 3 → Nat) ![1, 1, 1] ![0, 4095, 0] ![0, 0, 0] S2x4096x128) (b : Fin 2) (T : Fin 4096) (l : Fin 128) :
    Ideal.hostReduceWindowAdd ![1, 4096, 1] ![1, 1, 1] ![0, 4095, 0] ![0, 0, 0] h x 0 (ix3 b T l)
      = ∑ j ∈ Finset.range (T.val + 1), upTo (fun j => x (ix3 b j l)) j := by
  have hb := b.isLt
  have hT := T.isLt
  have hl := l.isLt
  unfold Ideal.hostReduceWindowAdd Host.reduceWindow
  refine (fold_sum _ _ _).trans ?_
  rw [zero_add, ← sum_shift _ 4095 T.val (by omega), ← Fin.sum_univ_eq_sum_range (fun n => if 4095 ≤ T.val + n then upTo (fun j => x (ix3 b j l)) (T.val + n - 4095) else 0) (4095 + 1)]
  refine (Fin.sum_univ_def _).symm.trans ?_
  refine Fintype.sum_equiv (finCongr (show W.numel = 4095 + 1 by decide)) _ _ fun n => ?_
  obtain ⟨w0, w1, w2⟩ := window_pos n
  have hn : n.val < 4096 := lt_of_lt_of_eq n.isLt (show W.numel = 4096 by decide)
  have hv : (finCongr (show W.numel = 4095 + 1 by decide) n).val = n.val := rfl
  rw [hv]
  split
  · next hin =>
    have h1 : 4095 ≤ T.val * 1 + (W.rowMajor.symm n 1).val ∧ T.val * 1 + (W.rowMajor.symm n 1).val - 4095 < 4096 := hin 1
    rw [w1] at h1
    rw [if_pos (by omega)]
    unfold upTo
    rw [dif_pos (by omega)]
    refine congrArg x (funext fun a => Fin.ext ?_)
    match a with
    | ⟨0, _⟩ => show b.val * 1 + (W.rowMajor.symm n 0).val - 0 = b.val; omega
    | ⟨1, _⟩ => show T.val * 1 + (W.rowMajor.symm n 1).val - 4095 = T.val + n.val - 4095; omega
    | ⟨2, _⟩ => show l.val * 1 + (W.rowMajor.symm n 2).val - 0 = l.val; omega
  · next hin =>
    rw [if_neg fun hle => hin fun a => by
      match a with
      | ⟨0, _⟩ => show 0 ≤ b.val * 1 + (W.rowMajor.symm n 0).val ∧ b.val * 1 + (W.rowMajor.symm n 0).val - 0 < 2; omega
      | ⟨1, _⟩ => show 4095 ≤ T.val * 1 + (W.rowMajor.symm n 1).val ∧ T.val * 1 + (W.rowMajor.symm n 1).val - 4095 < 4096; omega
      | ⟨2, _⟩ => show 0 ≤ l.val * 1 + (W.rowMajor.symm n 2).val ∧ l.val * 1 + (W.rowMajor.symm n 2).val - 0 < 128; omega]

/-- The host's running sum from zero is the window sum above. -/
theorem host_apply (x : Vec Ideal S2x4096x128 .f32) (v : Vec Ideal S_ .f32) (hu : 0 < S_.numel) (hv : v (Shape.Idx.first hu) = (0 : EReal))
    (h : S2x4096x128.ReduceWindows (![1, 4096, 1] : Fin 3 → Nat) ![1, 1, 1] ![0, 4095, 0] ![0, 0, 0] S2x4096x128) (b : Fin 2) (T : Fin 4096) (l : Fin 128) :
    Host.reduceWindowAdd (F := Ideal) (φ := .f32) ![1, 4096, 1] ![1, 1, 1] ![0, 4095, 0] ![0, 0, 0] x v h hu (ix3 b T l)
      = ∑ j ∈ Finset.range (T.val + 1), upTo (fun j => x (ix3 b j l)) j := by
  unfold Host.reduceWindowAdd
  rw [Ideal.hostReduceWindowAdd_def, hv]
  exact cumsum_apply x h b T l

/-- The plain program's result at an entry. -/
theorem ref_apply (x : Vec Ideal S8192x128 .f32) (b : Fin 2) (h : Fin 8) (T : Fin 4096) :
    (transpose S2x8x4096 [0, 2, 1] (extractStridedSlice S2x4096x8 ![0, 0, 0] (Host.reduceWindowAdd (F := Ideal) (φ := .f32) ![1, 4096, 1] ![1, 1, 1] ![0, 4095, 0] ![0, 0, 0] (shapeCast S2x4096x128 x facts₀.shapeCasts_S8192x128_S2x4096x128) (broadcastInDim S_ ![] facts₀.bcast_S_S_ (constant (F := Ideal) S_ .f32 0x00000000#32)) facts₀.reduceWindows_S2x4096x128_S2x4096x128_w1s1p0_0_w4096s1p4095_0_w1s1p0_0 facts₀.h_S_) facts₀.slices_S2x4096x128_S2x4096x8_0_0_0) facts₀.transposes_S2x4096x8_S2x8x4096_0_2_1 : Vec Ideal S2x8x4096 .f32) (ix3 b h T)
      = ∑ j ∈ Finset.range (T.val + 1), upTo (fun j : Fin 4096 => x (ix2 ⟨b.val * 4096 + j.val, by omega⟩ ⟨h.val, by omega⟩)) j := by
  pointwise
  have e : (fun j : Fin 4096 => shapeCast S2x4096x128 x facts₀.shapeCasts_S8192x128_S2x4096x128 (ix3 b j ⟨h.val, by omega⟩))
      = fun j : Fin 4096 => x (ix2 ⟨b.val * 4096 + j.val, by omega⟩ ⟨h.val, by omega⟩) := by
    funext j
    pointwise
  rw [← e]
  exact host_apply _ _ _ Ideal.ofBits_zero_f32 _ b T _

/-- The value claim. -/
theorem algebraic : Cert.algebraic_Kernel18Ideal_Reference18Ideal
    (hKernel18Ideal := Cert.Kernel18Ideal.Gen.facts) (hReference18Ideal := Cert.Reference18Ideal.Gen.facts) := by
  intro m ρ m' ρ' _ hag
  refine ⟨fun c => Cert.Kernel18Ideal.Value.G1 m c, Cert.Kernel18Ideal.Value.run m ρ,
    (θ_run _ _ _).mono (fun r h c => ?_) (Cert.Reference18Ideal.Value.run m' ρ')⟩
  obtain ⟨h1, hr⟩ := h c
  refine ⟨h1.trans ?_, hr⟩
  rw [hag c]
  funext i
  obtain ⟨b, h, T, rfl⟩ : ∃ (b : Fin 2) (h : Fin 8) (T : Fin 4096), i = ix3 b h T := ⟨i 0, i 1, i 2, eq_ix3 i⟩
  exact (ref_apply _ b h T).trans (Cert.Kernel18Ideal.Sums.G1_apply m c b h T).symm

/-- The plain program runs and leaves its arguments. -/
theorem frame_reference : Cert.quiescent_Reference18Ideal (hReference18Ideal := Cert.Reference18Ideal.Gen.facts) := by
  intro m ρ _
  exact (θ_run _ _ _).mono (fun r h => ⟨fun c => (h c).2, sem_eq_zero_of_no_sems rfl _⟩) (Cert.Reference18Ideal.Value.run m ρ)

end Cert.Sums
-- ==== Proof.lean ====
/-
  The certificate: every program's frame, the idealizations, and the value claims, assembled from the modules beside it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.FfnClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.XattnClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.LastFfnClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Key1Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Value1Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.GateClaim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.LogfClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.MemK1Claim
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.MemV1Claim
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.MixClaim
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.QueryClaim
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel12Ideal.Value
public import proofs.«01_k».proof.Proof.Gen.Reference12Ideal.Run
public import proofs.«01_k».proof.Proof.Gen.Reference12Ideal.Read
public import proofs.«01_k».proof.Proof.DriveClaim
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gate2Claim
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.SampleKey1Claim
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.SampleValue1Claim
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.SampleLogfClaim
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel17Ideal.Value
public import proofs.«01_k».proof.Proof.Gen.Reference17Ideal.Run
public import proofs.«01_k».proof.Proof.Gen.Reference17Ideal.Read
public import proofs.«01_k».proof.Proof.StateClaim
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel18Ideal.Value
public import proofs.«01_k».proof.Proof.Gen.Reference18Ideal.Run
public import proofs.«01_k».proof.Proof.SumsClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts, by
  exact ⟨fun m ρ _ => Cert.Kernel.Gen.frame m ρ, fun m ρ _ => Cert.KernelIdeal.Gen.frame m ρ, Cert.Ffn.frame_reference,
    fun m ρ _ => Cert.Kernel2.Gen.frame m ρ, fun m ρ _ => Cert.Kernel2Ideal.Gen.frame m ρ, Cert.Xattn.frame_reference,
    fun m ρ _ => Cert.Kernel3.Gen.frame m ρ, fun m ρ _ => Cert.Kernel3Ideal.Gen.frame m ρ, Cert.LastFfn.frame_reference,
    fun m ρ _ => Cert.Kernel4.Gen.frame m ρ, fun m ρ _ => Cert.Kernel4Ideal.Gen.frame m ρ, Cert.Key1.frame_reference,
    fun m ρ _ => Cert.Kernel5.Gen.frame m ρ, fun m ρ _ => Cert.Kernel5Ideal.Gen.frame m ρ, Cert.Value1.frame_reference,
    fun m ρ _ => Cert.Kernel6.Gen.frame m ρ, fun m ρ _ => Cert.Kernel6Ideal.Gen.frame m ρ, Cert.Gate.frame_reference,
    fun m ρ _ => Cert.Kernel7.Gen.frame m ρ, fun m ρ _ => Cert.Kernel7Ideal.Gen.frame m ρ, Cert.Logf.frame_reference,
    fun m ρ _ => Cert.Kernel8.Gen.frame m ρ, fun m ρ _ => Cert.Kernel8Ideal.Gen.frame m ρ, Cert.MemK1.frame_reference,
    fun m ρ _ => Cert.Kernel9.Gen.frame m ρ, fun m ρ _ => Cert.Kernel9Ideal.Gen.frame m ρ, Cert.MemV1.frame_reference,
    fun m ρ _ => Cert.Kernel10.Gen.frame m ρ, fun m ρ _ => Cert.Kernel10Ideal.Gen.frame m ρ, Cert.Mix.frame_reference,
    fun m ρ _ => Cert.Kernel11.Gen.frame m ρ, fun m ρ _ => Cert.Kernel11Ideal.Gen.frame m ρ, Cert.Query.frame_reference,
    fun m ρ _ => Cert.Kernel12.Gen.frame m ρ, fun m ρ _ => Cert.Kernel12Ideal.Gen.frame m ρ, Cert.Drive.frame_reference,
    fun m ρ _ => Cert.Kernel13.Gen.frame m ρ, fun m ρ _ => Cert.Kernel13Ideal.Gen.frame m ρ, Cert.Gate2.frame_reference,
    fun m ρ _ => Cert.Kernel14.Gen.frame m ρ, fun m ρ _ => Cert.Kernel14Ideal.Gen.frame m ρ, Cert.SampleKey1.frame_reference,
    fun m ρ _ => Cert.Kernel15.Gen.frame m ρ, fun m ρ _ => Cert.Kernel15Ideal.Gen.frame m ρ, Cert.SampleValue1.frame_reference,
    fun m ρ _ => Cert.Kernel16.Gen.frame m ρ, fun m ρ _ => Cert.Kernel16Ideal.Gen.frame m ρ, Cert.SampleLogf.frame_reference,
    fun m ρ _ => Cert.Kernel17.Gen.frame m ρ, fun m ρ _ => Cert.Kernel17Ideal.Gen.frame m ρ, Cert.State.frame_reference,
    fun m ρ _ => Cert.Kernel18.Gen.frame m ρ, fun m ρ _ => Cert.Kernel18Ideal.Gen.frame m ρ, Cert.Sums.frame_reference,
    trivial, Cert.Ffn.algebraic, Cert.Xattn.preserves, Cert.Xattn.algebraic, trivial, Cert.LastFfn.algebraic, trivial, Cert.Key1.algebraic, trivial, Cert.Value1.algebraic, trivial, Cert.Gate.algebraic, trivial, Cert.Logf.algebraic, trivial, Cert.MemK1.algebraic, trivial, Cert.MemV1.algebraic, trivial, Cert.Mix.algebraic, trivial, Cert.Query.algebraic, trivial, Cert.Drive.algebraic, trivial, Cert.Gate2.algebraic, trivial, Cert.SampleKey1.algebraic, trivial, Cert.SampleValue1.algebraic, trivial, Cert.SampleLogf.algebraic, trivial, Cert.State.algebraic, trivial, Cert.Sums.algebraic⟩⟩

end Cert.Proof

end
